-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_complete_graph [hPre_complete_graph : Cert.Pre_complete_graph.Facts] (m : (ℓ : Loc Cert.KernelIdeal.nD Cert.KernelIdeal.τ Cert.KernelIdeal.sig) → Buf (Elt Ideal) ℓ) : Prop :=
  ∀ c : Dev Cert.KernelIdeal.nD,
    (Cert.Pre_complete_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_complete_graph [hPre_complete_graph : Cert.Pre_complete_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_complete_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_complete_graph [hKernelIdeal : Cert.KernelIdeal.Facts] [hPre_complete_graph : Cert.Pre_complete_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_complete_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_complete_graph [hReferenceIdeal : Cert.ReferenceIdeal.Facts] [hPre_complete_graph : Cert.Pre_complete_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_complete_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "inv22" .f32 0x3D3A2E8C#32 ((22⁻¹ : ℝ) : EReal)

def algebraic_KernelIdeal_ReferenceIdeal_pre_complete_graph [hKernelIdeal : Cert.KernelIdeal.Facts] [hReferenceIdeal : Cert.ReferenceIdeal.Facts] [hPre_complete_graph : Cert.Pre_complete_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_complete_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v708) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_complete_graph : Cert.Pre_complete_graph.Facts),
    quiescent_Kernel (hKernel := hKernel)
    ∧ quiescent_KernelIdeal (hKernelIdeal := hKernelIdeal)
    ∧ quiescent_KernelIdeal_pre_complete_graph (hKernelIdeal := hKernelIdeal) (hPre_complete_graph := hPre_complete_graph)
    ∧ quiescent_ReferenceIdeal (hReferenceIdeal := hReferenceIdeal)
    ∧ quiescent_ReferenceIdeal_pre_complete_graph (hReferenceIdeal := hReferenceIdeal) (hPre_complete_graph := hPre_complete_graph)
    ∧ preserves_Kernel_KernelIdeal
    ∧ algebraic_KernelIdeal_ReferenceIdeal_pre_complete_graph (hKernelIdeal := hKernelIdeal) (hReferenceIdeal := hReferenceIdeal) (hPre_complete_graph := hPre_complete_graph)
-- ==== Pre_complete_graph.lean ====
abbrev S1024 : Shape := ⟨1, ![1024]⟩
abbrev S1024x66 : Shape := ⟨2, ![1024, 66]⟩
abbrev S22x21 : Shape := ⟨2, ![22, 21]⟩
abbrev S22x64 : Shape := ⟨2, ![22, 64]⟩
abbrev S64 : Shape := ⟨1, ![64]⟩
abbrev S5x130x64 : Shape := ⟨3, ![5, 130, 64]⟩
abbrev S5x64 : Shape := ⟨2, ![5, 64]⟩
abbrev S5x64x64 : Shape := ⟨3, ![5, 64, 64]⟩
abbrev S5x64x1 : Shape := ⟨3, ![5, 64, 1]⟩
abbrev S5x1 : Shape := ⟨2, ![5, 1]⟩
abbrev S5x128x64 : Shape := ⟨3, ![5, 128, 64]⟩
abbrev S473088 : Shape := ⟨1, ![473088]⟩
abbrev S462 : Shape := ⟨1, ![462]⟩
abbrev S1024x1 : Shape := ⟨2, ![1024, 1]⟩
abbrev S_ : Shape := ⟨0, ![]⟩
abbrev S1x462 : Shape := ⟨2, ![1, 462]⟩
abbrev S1024x462 : Shape := ⟨2, ![1024, 462]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S462_S1x462_1 : S462.BroadcastsInDim S1x462 (![1] : Fin 1 → Fin S1x462.rank)
  bcast_S1x462_S1024x462_0_1 : S1x462.BroadcastsInDim S1024x462 (![0, 1] : Fin 2 → Fin S1024x462.rank)
  bcast_S1024x1_S1024x462_0_1 : S1024x1.BroadcastsInDim S1024x462 (![0, 1] : Fin 2 → Fin S1024x462.rank)
  shapeCasts_S1024x462_S473088 : S1024x462.ShapeCasts S473088
  reducesTo_S473088_S_d0 : S473088.ReducesTo [0] S_
  h_S_ : 0 < S_.numel

variable [Facts]

noncomputable abbrev lit0 : Fin 462 → BitVec 32 := fun
  | 0 => 0#32 | 1 => 1#32 | 2 => 0#32 | 3 => 2#32 | 4 => 0#32 | 5 => 3#32 | 6 => 0#32 | 7 => 4#32
  | 8 => 0#32 | 9 => 5#32 | 10 => 0#32 | 11 => 6#32 | 12 => 0#32 | 13 => 7#32 | 14 => 0#32 | 15 => 8#32
  | 16 => 0#32 | 17 => 9#32 | 18 => 0#32 | 19 => 10#32 | 20 => 0#32 | 21 => 11#32 | 22 => 0#32 | 23 => 12#32
  | 24 => 0#32 | 25 => 13#32 | 26 => 0#32 | 27 => 14#32 | 28 => 0#32 | 29 => 15#32 | 30 => 0#32 | 31 => 16#32
  | 32 => 0#32 | 33 => 17#32 | 34 => 0#32 | 35 => 18#32 | 36 => 0#32 | 37 => 19#32 | 38 => 0#32 | 39 => 20#32
  | 40 => 0#32 | 41 => 21#32 | 42 => 1#32 | 43 => 2#32 | 44 => 1#32 | 45 => 3#32 | 46 => 1#32 | 47 => 4#32
  | 48 => 1#32 | 49 => 5#32 | 50 => 1#32 | 51 => 6#32 | 52 => 1#32 | 53 => 7#32 | 54 => 1#32 | 55 => 8#32
  | 56 => 1#32 | 57 => 9#32 | 58 => 1#32 | 59 => 10#32 | 60 => 1#32 | 61 => 11#32 | 62 => 1#32 | 63 => 12#32
  | 64 => 1#32 | 65 => 13#32 | 66 => 1#32 | 67 => 14#32 | 68 => 1#32 | 69 => 15#32 | 70 => 1#32 | 71 => 16#32
  | 72 => 1#32 | 73 => 17#32 | 74 => 1#32 | 75 => 18#32 | 76 => 1#32 | 77 => 19#32 | 78 => 1#32 | 79 => 20#32
  | 80 => 1#32 | 81 => 21#32 | 82 => 2#32 | 83 => 3#32 | 84 => 2#32 | 85 => 4#32 | 86 => 2#32 | 87 => 5#32
  | 88 => 2#32 | 89 => 6#32 | 90 => 2#32 | 91 => 7#32 | 92 => 2#32 | 93 => 8#32 | 94 => 2#32 | 95 => 9#32
  | 96 => 2#32 | 97 => 10#32 | 98 => 2#32 | 99 => 11#32 | 100 => 2#32 | 101 => 12#32 | 102 => 2#32 | 103 => 13#32
  | 104 => 2#32 | 105 => 14#32 | 106 => 2#32 | 107 => 15#32 | 108 => 2#32 | 109 => 16#32 | 110 => 2#32 | 111 => 17#32
  | 112 => 2#32 | 113 => 18#32 | 114 => 2#32 | 115 => 19#32 | 116 => 2#32 | 117 => 20#32 | 118 => 2#32 | 119 => 21#32
  | 120 => 3#32 | 121 => 4#32 | 122 => 3#32 | 123 => 5#32 | 124 => 3#32 | 125 => 6#32 | 126 => 3#32 | 127 => 7#32
  | 128 => 3#32 | 129 => 8#32 | 130 => 3#32 | 131 => 9#32 | 132 => 3#32 | 133 => 10#32 | 134 => 3#32 | 135 => 11#32
  | 136 => 3#32 | 137 => 12#32 | 138 => 3#32 | 139 => 13#32 | 140 => 3#32 | 141 => 14#32 | 142 => 3#32 | 143 => 15#32
  | 144 => 3#32 | 145 => 16#32 | 146 => 3#32 | 147 => 17#32 | 148 => 3#32 | 149 => 18#32 | 150 => 3#32 | 151 => 19#32
  | 152 => 3#32 | 153 => 20#32 | 154 => 3#32 | 155 => 21#32 | 156 => 4#32 | 157 => 5#32 | 158 => 4#32 | 159 => 6#32
  | 160 => 4#32 | 161 => 7#32 | 162 => 4#32 | 163 => 8#32 | 164 => 4#32 | 165 => 9#32 | 166 => 4#32 | 167 => 10#32
  | 168 => 4#32 | 169 => 11#32 | 170 => 4#32 | 171 => 12#32 | 172 => 4#32 | 173 => 13#32 | 174 => 4#32 | 175 => 14#32
  | 176 => 4#32 | 177 => 15#32 | 178 => 4#32 | 179 => 16#32 | 180 => 4#32 | 181 => 17#32 | 182 => 4#32 | 183 => 18#32
  | 184 => 4#32 | 185 => 19#32 | 186 => 4#32 | 187 => 20#32 | 188 => 4#32 | 189 => 21#32 | 190 => 5#32 | 191 => 6#32
  | 192 => 5#32 | 193 => 7#32 | 194 => 5#32 | 195 => 8#32 | 196 => 5#32 | 197 => 9#32 | 198 => 5#32 | 199 => 10#32
  | 200 => 5#32 | 201 => 11#32 | 202 => 5#32 | 203 => 12#32 | 204 => 5#32 | 205 => 13#32 | 206 => 5#32 | 207 => 14#32
  | 208 => 5#32 | 209 => 15#32 | 210 => 5#32 | 211 => 16#32 | 212 => 5#32 | 213 => 17#32 | 214 => 5#32 | 215 => 18#32
  | 216 => 5#32 | 217 => 19#32 | 218 => 5#32 | 219 => 20#32 | 220 => 5#32 | 221 => 21#32 | 222 => 6#32 | 223 => 7#32
  | 224 => 6#32 | 225 => 8#32 | 226 => 6#32 | 227 => 9#32 | 228 => 6#32 | 229 => 10#32 | 230 => 6#32 | 231 => 11#32
  | 232 => 6#32 | 233 => 12#32 | 234 => 6#32 | 235 => 13#32 | 236 => 6#32 | 237 => 14#32 | 238 => 6#32 | 239 => 15#32
  | 240 => 6#32 | 241 => 16#32 | 242 => 6#32 | 243 => 17#32 | 244 => 6#32 | 245 => 18#32 | 246 => 6#32 | 247 => 19#32
  | 248 => 6#32 | 249 => 20#32 | 250 => 6#32 | 251 => 21#32 | 252 => 7#32 | 253 => 8#32 | 254 => 7#32 | 255 => 9#32
  | 256 => 7#32 | 257 => 10#32 | 258 => 7#32 | 259 => 11#32 | 260 => 7#32 | 261 => 12#32 | 262 => 7#32 | 263 => 13#32
  | 264 => 7#32 | 265 => 14#32 | 266 => 7#32 | 267 => 15#32 | 268 => 7#32 | 269 => 16#32 | 270 => 7#32 | 271 => 17#32
  | 272 => 7#32 | 273 => 18#32 | 274 => 7#32 | 275 => 19#32 | 276 => 7#32 | 277 => 20#32 | 278 => 7#32 | 279 => 21#32
  | 280 => 8#32 | 281 => 9#32 | 282 => 8#32 | 283 => 10#32 | 284 => 8#32 | 285 => 11#32 | 286 => 8#32 | 287 => 12#32
  | 288 => 8#32 | 289 => 13#32 | 290 => 8#32 | 291 => 14#32 | 292 => 8#32 | 293 => 15#32 | 294 => 8#32 | 295 => 16#32
  | 296 => 8#32 | 297 => 17#32 | 298 => 8#32 | 299 => 18#32 | 300 => 8#32 | 301 => 19#32 | 302 => 8#32 | 303 => 20#32
  | 304 => 8#32 | 305 => 21#32 | 306 => 9#32 | 307 => 10#32 | 308 => 9#32 | 309 => 11#32 | 310 => 9#32 | 311 => 12#32
  | 312 => 9#32 | 313 => 13#32 | 314 => 9#32 | 315 => 14#32 | 316 => 9#32 | 317 => 15#32 | 318 => 9#32 | 319 => 16#32
  | 320 => 9#32 | 321 => 17#32 | 322 => 9#32 | 323 => 18#32 | 324 => 9#32 | 325 => 19#32 | 326 => 9#32 | 327 => 20#32
  | 328 => 9#32 | 329 => 21#32 | 330 => 10#32 | 331 => 11#32 | 332 => 10#32 | 333 => 12#32 | 334 => 10#32 | 335 => 13#32
  | 336 => 10#32 | 337 => 14#32 | 338 => 10#32 | 339 => 15#32 | 340 => 10#32 | 341 => 16#32 | 342 => 10#32 | 343 => 17#32
  | 344 => 10#32 | 345 => 18#32 | 346 => 10#32 | 347 => 19#32 | 348 => 10#32 | 349 => 20#32 | 350 => 10#32 | 351 => 21#32
  | 352 => 11#32 | 353 => 12#32 | 354 => 11#32 | 355 => 13#32 | 356 => 11#32 | 357 => 14#32 | 358 => 11#32 | 359 => 15#32
  | 360 => 11#32 | 361 => 16#32 | 362 => 11#32 | 363 => 17#32 | 364 => 11#32 | 365 => 18#32 | 366 => 11#32 | 367 => 19#32
  | 368 => 11#32 | 369 => 20#32 | 370 => 11#32 | 371 => 21#32 | 372 => 12#32 | 373 => 13#32 | 374 => 12#32 | 375 => 14#32
  | 376 => 12#32 | 377 => 15#32 | 378 => 12#32 | 379 => 16#32 | 380 => 12#32 | 381 => 17#32 | 382 => 12#32 | 383 => 18#32
  | 384 => 12#32 | 385 => 19#32 | 386 => 12#32 | 387 => 20#32 | 388 => 12#32 | 389 => 21#32 | 390 => 13#32 | 391 => 14#32
  | 392 => 13#32 | 393 => 15#32 | 394 => 13#32 | 395 => 16#32 | 396 => 13#32 | 397 => 17#32 | 398 => 13#32 | 399 => 18#32
  | 400 => 13#32 | 401 => 19#32 | 402 => 13#32 | 403 => 20#32 | 404 => 13#32 | 405 => 21#32 | 406 => 14#32 | 407 => 15#32
  | 408 => 14#32 | 409 => 16#32 | 410 => 14#32 | 411 => 17#32 | 412 => 14#32 | 413 => 18#32 | 414 => 14#32 | 415 => 19#32
  | 416 => 14#32 | 417 => 20#32 | 418 => 14#32 | 419 => 21#32 | 420 => 15#32 | 421 => 16#32 | 422 => 15#32 | 423 => 17#32
  | 424 => 15#32 | 425 => 18#32 | 426 => 15#32 | 427 => 19#32 | 428 => 15#32 | 429 => 20#32 | 430 => 15#32 | 431 => 21#32
  | 432 => 16#32 | 433 => 17#32 | 434 => 16#32 | 435 => 18#32 | 436 => 16#32 | 437 => 19#32 | 438 => 16#32 | 439 => 20#32
  | 440 => 16#32 | 441 => 21#32 | 442 => 17#32 | 443 => 18#32 | 444 => 17#32 | 445 => 19#32 | 446 => 17#32 | 447 => 20#32
  | 448 => 17#32 | 449 => 21#32 | 450 => 18#32 | 451 => 19#32 | 452 => 18#32 | 453 => 20#32 | 454 => 18#32 | 455 => 21#32
  | 456 => 19#32 | 457 => 20#32 | 458 => 19#32 | 459 => 21#32 | 460 => 20#32 | 461 => 21#32
  | _ => 0#32

noncomputable abbrev lit1 : Fin 462 → BitVec 32 := fun
  | 0 => 1#32 | 1 => 0#32 | 2 => 2#32 | 3 => 0#32 | 4 => 3#32 | 5 => 0#32 | 6 => 4#32 | 7 => 0#32
  | 8 => 5#32 | 9 => 0#32 | 10 => 6#32 | 11 => 0#32 | 12 => 7#32 | 13 => 0#32 | 14 => 8#32 | 15 => 0#32
  | 16 => 9#32 | 17 => 0#32 | 18 => 10#32 | 19 => 0#32 | 20 => 11#32 | 21 => 0#32 | 22 => 12#32 | 23 => 0#32
  | 24 => 13#32 | 25 => 0#32 | 26 => 14#32 | 27 => 0#32 | 28 => 15#32 | 29 => 0#32 | 30 => 16#32 | 31 => 0#32
  | 32 => 17#32 | 33 => 0#32 | 34 => 18#32 | 35 => 0#32 | 36 => 19#32 | 37 => 0#32 | 38 => 20#32 | 39 => 0#32
  | 40 => 21#32 | 41 => 0#32 | 42 => 2#32 | 43 => 1#32 | 44 => 3#32 | 45 => 1#32 | 46 => 4#32 | 47 => 1#32
  | 48 => 5#32 | 49 => 1#32 | 50 => 6#32 | 51 => 1#32 | 52 => 7#32 | 53 => 1#32 | 54 => 8#32 | 55 => 1#32
  | 56 => 9#32 | 57 => 1#32 | 58 => 10#32 | 59 => 1#32 | 60 => 11#32 | 61 => 1#32 | 62 => 12#32 | 63 => 1#32
  | 64 => 13#32 | 65 => 1#32 | 66 => 14#32 | 67 => 1#32 | 68 => 15#32 | 69 => 1#32 | 70 => 16#32 | 71 => 1#32
  | 72 => 17#32 | 73 => 1#32 | 74 => 18#32 | 75 => 1#32 | 76 => 19#32 | 77 => 1#32 | 78 => 20#32 | 79 => 1#32
  | 80 => 21#32 | 81 => 1#32 | 82 => 3#32 | 83 => 2#32 | 84 => 4#32 | 85 => 2#32 | 86 => 5#32 | 87 => 2#32
  | 88 => 6#32 | 89 => 2#32 | 90 => 7#32 | 91 => 2#32 | 92 => 8#32 | 93 => 2#32 | 94 => 9#32 | 95 => 2#32
  | 96 => 10#32 | 97 => 2#32 | 98 => 11#32 | 99 => 2#32 | 100 => 12#32 | 101 => 2#32 | 102 => 13#32 | 103 => 2#32
  | 104 => 14#32 | 105 => 2#32 | 106 => 15#32 | 107 => 2#32 | 108 => 16#32 | 109 => 2#32 | 110 => 17#32 | 111 => 2#32
  | 112 => 18#32 | 113 => 2#32 | 114 => 19#32 | 115 => 2#32 | 116 => 20#32 | 117 => 2#32 | 118 => 21#32 | 119 => 2#32
  | 120 => 4#32 | 121 => 3#32 | 122 => 5#32 | 123 => 3#32 | 124 => 6#32 | 125 => 3#32 | 126 => 7#32 | 127 => 3#32
  | 128 => 8#32 | 129 => 3#32 | 130 => 9#32 | 131 => 3#32 | 132 => 10#32 | 133 => 3#32 | 134 => 11#32 | 135 => 3#32
  | 136 => 12#32 | 137 => 3#32 | 138 => 13#32 | 139 => 3#32 | 140 => 14#32 | 141 => 3#32 | 142 => 15#32 | 143 => 3#32
  | 144 => 16#32 | 145 => 3#32 | 146 => 17#32 | 147 => 3#32 | 148 => 18#32 | 149 => 3#32 | 150 => 19#32 | 151 => 3#32
  | 152 => 20#32 | 153 => 3#32 | 154 => 21#32 | 155 => 3#32 | 156 => 5#32 | 157 => 4#32 | 158 => 6#32 | 159 => 4#32
  | 160 => 7#32 | 161 => 4#32 | 162 => 8#32 | 163 => 4#32 | 164 => 9#32 | 165 => 4#32 | 166 => 10#32 | 167 => 4#32
  | 168 => 11#32 | 169 => 4#32 | 170 => 12#32 | 171 => 4#32 | 172 => 13#32 | 173 => 4#32 | 174 => 14#32 | 175 => 4#32
  | 176 => 15#32 | 177 => 4#32 | 178 => 16#32 | 179 => 4#32 | 180 => 17#32 | 181 => 4#32 | 182 => 18#32 | 183 => 4#32
  | 184 => 19#32 | 185 => 4#32 | 186 => 20#32 | 187 => 4#32 | 188 => 21#32 | 189 => 4#32 | 190 => 6#32 | 191 => 5#32
  | 192 => 7#32 | 193 => 5#32 | 194 => 8#32 | 195 => 5#32 | 196 => 9#32 | 197 => 5#32 | 198 => 10#32 | 199 => 5#32
  | 200 => 11#32 | 201 => 5#32 | 202 => 12#32 | 203 => 5#32 | 204 => 13#32 | 205 => 5#32 | 206 => 14#32 | 207 => 5#32
  | 208 => 15#32 | 209 => 5#32 | 210 => 16#32 | 211 => 5#32 | 212 => 17#32 | 213 => 5#32 | 214 => 18#32 | 215 => 5#32
  | 216 => 19#32 | 217 => 5#32 | 218 => 20#32 | 219 => 5#32 | 220 => 21#32 | 221 => 5#32 | 222 => 7#32 | 223 => 6#32
  | 224 => 8#32 | 225 => 6#32 | 226 => 9#32 | 227 => 6#32 | 228 => 10#32 | 229 => 6#32 | 230 => 11#32 | 231 => 6#32
  | 232 => 12#32 | 233 => 6#32 | 234 => 13#32 | 235 => 6#32 | 236 => 14#32 | 237 => 6#32 | 238 => 15#32 | 239 => 6#32
  | 240 => 16#32 | 241 => 6#32 | 242 => 17#32 | 243 => 6#32 | 244 => 18#32 | 245 => 6#32 | 246 => 19#32 | 247 => 6#32
  | 248 => 20#32 | 249 => 6#32 | 250 => 21#32 | 251 => 6#32 | 252 => 8#32 | 253 => 7#32 | 254 => 9#32 | 255 => 7#32
  | 256 => 10#32 | 257 => 7#32 | 258 => 11#32 | 259 => 7#32 | 260 => 12#32 | 261 => 7#32 | 262 => 13#32 | 263 => 7#32
  | 264 => 14#32 | 265 => 7#32 | 266 => 15#32 | 267 => 7#32 | 268 => 16#32 | 269 => 7#32 | 270 => 17#32 | 271 => 7#32
  | 272 => 18#32 | 273 => 7#32 | 274 => 19#32 | 275 => 7#32 | 276 => 20#32 | 277 => 7#32 | 278 => 21#32 | 279 => 7#32
  | 280 => 9#32 | 281 => 8#32 | 282 => 10#32 | 283 => 8#32 | 284 => 11#32 | 285 => 8#32 | 286 => 12#32 | 287 => 8#32
  | 288 => 13#32 | 289 => 8#32 | 290 => 14#32 | 291 => 8#32 | 292 => 15#32 | 293 => 8#32 | 294 => 16#32 | 295 => 8#32
  | 296 => 17#32 | 297 => 8#32 | 298 => 18#32 | 299 => 8#32 | 300 => 19#32 | 301 => 8#32 | 302 => 20#32 | 303 => 8#32
  | 304 => 21#32 | 305 => 8#32 | 306 => 10#32 | 307 => 9#32 | 308 => 11#32 | 309 => 9#32 | 310 => 12#32 | 311 => 9#32
  | 312 => 13#32 | 313 => 9#32 | 314 => 14#32 | 315 => 9#32 | 316 => 15#32 | 317 => 9#32 | 318 => 16#32 | 319 => 9#32
  | 320 => 17#32 | 321 => 9#32 | 322 => 18#32 | 323 => 9#32 | 324 => 19#32 | 325 => 9#32 | 326 => 20#32 | 327 => 9#32
  | 328 => 21#32 | 329 => 9#32 | 330 => 11#32 | 331 => 10#32 | 332 => 12#32 | 333 => 10#32 | 334 => 13#32 | 335 => 10#32
  | 336 => 14#32 | 337 => 10#32 | 338 => 15#32 | 339 => 10#32 | 340 => 16#32 | 341 => 10#32 | 342 => 17#32 | 343 => 10#32
  | 344 => 18#32 | 345 => 10#32 | 346 => 19#32 | 347 => 10#32 | 348 => 20#32 | 349 => 10#32 | 350 => 21#32 | 351 => 10#32
  | 352 => 12#32 | 353 => 11#32 | 354 => 13#32 | 355 => 11#32 | 356 => 14#32 | 357 => 11#32 | 358 => 15#32 | 359 => 11#32
  | 360 => 16#32 | 361 => 11#32 | 362 => 17#32 | 363 => 11#32 | 364 => 18#32 | 365 => 11#32 | 366 => 19#32 | 367 => 11#32
  | 368 => 20#32 | 369 => 11#32 | 370 => 21#32 | 371 => 11#32 | 372 => 13#32 | 373 => 12#32 | 374 => 14#32 | 375 => 12#32
  | 376 => 15#32 | 377 => 12#32 | 378 => 16#32 | 379 => 12#32 | 380 => 17#32 | 381 => 12#32 | 382 => 18#32 | 383 => 12#32
  | 384 => 19#32 | 385 => 12#32 | 386 => 20#32 | 387 => 12#32 | 388 => 21#32 | 389 => 12#32 | 390 => 14#32 | 391 => 13#32
  | 392 => 15#32 | 393 => 13#32 | 394 => 16#32 | 395 => 13#32 | 396 => 17#32 | 397 => 13#32 | 398 => 18#32 | 399 => 13#32
  | 400 => 19#32 | 401 => 13#32 | 402 => 20#32 | 403 => 13#32 | 404 => 21#32 | 405 => 13#32 | 406 => 15#32 | 407 => 14#32
  | 408 => 16#32 | 409 => 14#32 | 410 => 17#32 | 411 => 14#32 | 412 => 18#32 | 413 => 14#32 | 414 => 19#32 | 415 => 14#32
  | 416 => 20#32 | 417 => 14#32 | 418 => 21#32 | 419 => 14#32 | 420 => 16#32 | 421 => 15#32 | 422 => 17#32 | 423 => 15#32
  | 424 => 18#32 | 425 => 15#32 | 426 => 19#32 | 427 => 15#32 | 428 => 20#32 | 429 => 15#32 | 430 => 21#32 | 431 => 15#32
  | 432 => 17#32 | 433 => 16#32 | 434 => 18#32 | 435 => 16#32 | 436 => 19#32 | 437 => 16#32 | 438 => 20#32 | 439 => 16#32
  | 440 => 21#32 | 441 => 16#32 | 442 => 18#32 | 443 => 17#32 | 444 => 19#32 | 445 => 17#32 | 446 => 20#32 | 447 => 17#32
  | 448 => 21#32 | 449 => 17#32 | 450 => 19#32 | 451 => 18#32 | 452 => 20#32 | 453 => 18#32 | 454 => 21#32 | 455 => 18#32
  | 456 => 20#32 | 457 => 19#32 | 458 => 21#32 | 459 => 19#32 | 460 => 21#32 | 461 => 20#32
  | _ => 0#32

def fn {F : FTy → Type} [FloatOps F] (main_arg0 : FVec F S1024 .f32) (main_arg1 : FVec F S1024x66 .f32) (main_arg2 : FVec F S22x21 .f32) (main_arg3 : FVec F S22x64 .f32) (main_arg4 : FVec F S64 .f32) (main_arg5 : FVec F S5x130x64 .f32) (main_arg6 : FVec F S5x64 .f32) (main_arg7 : FVec F S5x64x64 .f32) (main_arg8 : FVec F S5x64 .f32) (main_arg9 : FVec F S5x64x1 .f32) (main_arg10 : FVec F S5x1 .f32) (main_arg11 : FVec F S5x128x64 .f32) (main_arg12 : FVec F S5x64 .f32) (main_arg13 : FVec F S5x64x64 .f32) (main_arg14 : FVec F S5x64 .f32) (main_arg15 : FVec F S5x64x64 .f32) (main_arg16 : FVec F S5x64 .f32) (main_arg17 : FVec F S5x64x1 .f32) (main_arg18 : IVec S473088 32) (main_arg19 : IVec S473088 32) : IVec S_ 1 :=
  let main_c : IVec S462 32 := fun i => lit0 (S462.rowMajor i)
  let main_c_0 : IVec S462 32 := fun i => lit1 (S462.rowMajor i)
  let main_v0 : IVec S1024 32 := iotaInDim S1024 32 0
  let main_v1 : IVec S1024x1 32 := broadcastInDim S1024x1 ![0] bcast_S1024_S1024x1_0 main_v0
  let main_c_1 : IVec S_ 32 := constantI S_ 32 22#32
  let main_v2 : IVec S1024x1 32 := broadcastInDim S1024x1 ![] bcast_S_S1024x1 main_c_1
  let main_v3 : IVec S1024x1 32 := muli main_v2 main_v1
  let main_v4 : IVec S1x462 32 := broadcastInDim S1x462 ![1] bcast_S462_S1x462_1 main_c
  let main_v5 : IVec S1024x462 32 := broadcastInDim S1024x462 ![0, 1] bcast_S1x462_S1024x462_0_1 main_v4
  let main_v6 : IVec S1024x462 32 := broadcastInDim S1024x462 ![0, 1] bcast_S1024x1_S1024x462_0_1 main_v3
  let main_v7 : IVec S1024x462 32 := addi main_v5 main_v6
  let main_v8 : IVec S1x462 32 := broadcastInDim S1x462 ![1] bcast_S462_S1x462_1 main_c_0
  let main_v9 : IVec S1024x462 32 := broadcastInDim S1024x462 ![0, 1] bcast_S1x462_S1024x462_0_1 main_v8
  let main_v10 : IVec S1024x462 32 := broadcastInDim S1024x462 ![0, 1] bcast_S1024x1_S1024x462_0_1 main_v3
  let main_v11 : IVec S1024x462 32 := addi main_v9 main_v10
  let main_v12 : IVec S473088 32 := shapeCast S473088 main_v7 shapeCasts_S1024x462_S473088
  let main_v13 : IVec S473088 1 := cmpi .eq main_arg18 main_v12
  let main_v14 : IVec S473088 32 := shapeCast S473088 main_v11 shapeCasts_S1024x462_S473088
  let main_v15 : IVec S473088 1 := cmpi .eq main_arg19 main_v14
  let main_v16 : IVec S473088 1 := andi main_v13 main_v15
  let main_c_2 : IVec S_ 1 := constantI S_ 1 1#1
  let main_v17 : IVec S_ 1 := (fun x v => Host.reduce IntOp.andi x v reducesTo_S473088_S_d0 h_S_) main_v16 main_c_2
  main_v17
-- ==== Kernel.lean ====
abbrev S1024 : Shape := ⟨1, ![1024]⟩
abbrev S1024x66 : Shape := ⟨2, ![1024, 66]⟩
abbrev S22x21 : Shape := ⟨2, ![22, 21]⟩
abbrev S22x64 : Shape := ⟨2, ![22, 64]⟩
abbrev S64 : Shape := ⟨1, ![64]⟩
abbrev S5x130x64 : Shape := ⟨3, ![5, 130, 64]⟩
abbrev S5x64 : Shape := ⟨2, ![5, 64]⟩
abbrev S5x64x64 : Shape := ⟨3, ![5, 64, 64]⟩
abbrev S5x64x1 : Shape := ⟨3, ![5, 64, 1]⟩
abbrev S5x1 : Shape := ⟨2, ![5, 1]⟩
abbrev S5x128x64 : Shape := ⟨3, ![5, 128, 64]⟩
abbrev S473088 : Shape := ⟨1, ![473088]⟩
abbrev S1024x22x3 : Shape := ⟨3, ![1024, 22, 3]⟩
abbrev S_ : Shape := ⟨0, ![]⟩
abbrev S1024x24x3 : Shape := ⟨3, ![1024, 24, 3]⟩
abbrev S24576x3 : Shape := ⟨2, ![24576, 3]⟩
abbrev S1024x1 : Shape := ⟨2, ![1024, 1]⟩
abbrev S4x4 : Shape := ⟨2, ![4, 4]⟩
abbrev S5x64x128 : Shape := ⟨3, ![5, 64, 128]⟩
abbrev S5x1x64 : Shape := ⟨3, ![5, 1, 64]⟩
abbrev S1x5x1x64 : Shape := ⟨4, ![1, 5, 1, 64]⟩
abbrev S1x5x4x64 : Shape := ⟨4, ![1, 5, 4, 64]⟩
abbrev S5x256 : Shape := ⟨2, ![5, 256]⟩
abbrev S4x1x4x1 : Shape := ⟨4, ![4, 1, 4, 1]⟩
abbrev S5x1x64x1x64 : Shape := ⟨5, ![5, 1, 64, 1, 64]⟩
abbrev S1x4x1x4x1 : Shape := ⟨5, ![1, 4, 1, 4, 1]⟩
abbrev S5x4x64x4x64 : Shape := ⟨5, ![5, 4, 64, 4, 64]⟩
abbrev S5x256x256 : Shape := ⟨3, ![5, 256, 256]⟩
abbrev S5x1x64x1x1 : Shape := ⟨5, ![5, 1, 64, 1, 1]⟩
abbrev S5x4x64x4x1 : Shape := ⟨5, ![5, 4, 64, 4, 1]⟩
abbrev S5x256x4 : Shape := ⟨3, ![5, 256, 4]⟩
abbrev S1x64 : Shape := ⟨2, ![1, 64]⟩
abbrev S8x1 : Shape := ⟨2, ![8, 1]⟩
abbrev S192x3 : Shape := ⟨2, ![192, 3]⟩
abbrev S1x6x24x256 : Shape := ⟨4, ![1, 6, 24, 256]⟩
abbrev S1x6x24x4 : Shape := ⟨4, ![1, 6, 24, 4]⟩
abbrev S1x24x1 : Shape := ⟨3, ![1, 24, 1]⟩
abbrev S192x1 : Shape := ⟨2, ![192, 1]⟩
abbrev S8x24x1 : Shape := ⟨3, ![8, 24, 1]⟩
abbrev S21x64 : Shape := ⟨2, ![21, 64]⟩
abbrev S2x64 : Shape := ⟨2, ![2, 64]⟩
abbrev S24x64 : Shape := ⟨2, ![24, 64]⟩
abbrev S1x24x64 : Shape := ⟨3, ![1, 24, 64]⟩
abbrev S8x1x1 : Shape := ⟨3, ![8, 1, 1]⟩
abbrev S1x1x64 : Shape := ⟨3, ![1, 1, 64]⟩
abbrev S8x1x64 : Shape := ⟨3, ![8, 1, 64]⟩
abbrev S8x24x64 : Shape := ⟨3, ![8, 24, 64]⟩
abbrev S192x64 : Shape := ⟨2, ![192, 64]⟩
abbrev S8x1x24x1 : Shape := ⟨4, ![8, 1, 24, 1]⟩
abbrev S8x6x4x1 : Shape := ⟨4, ![8, 6, 4, 1]⟩
abbrev S8x6x1x4 : Shape := ⟨4, ![8, 6, 1, 4]⟩
abbrev S8x6x24x4 : Shape := ⟨4, ![8, 6, 24, 4]⟩
abbrev S8x6x24x1 : Shape := ⟨4, ![8, 6, 24, 1]⟩
abbrev S8x6x24x64 : Shape := ⟨4, ![8, 6, 24, 64]⟩
abbrev S8x6x24x256 : Shape := ⟨4, ![8, 6, 24, 256]⟩
abbrev S1x64x128 : Shape := ⟨3, ![1, 64, 128]⟩
abbrev S64x128 : Shape := ⟨2, ![64, 128]⟩
abbrev S192x128 : Shape := ⟨2, ![192, 128]⟩
abbrev S8x24x256 : Shape := ⟨3, ![8, 24, 256]⟩
abbrev S8x1x24x256 : Shape := ⟨4, ![8, 1, 24, 256]⟩
abbrev S8x6x4x64 : Shape := ⟨4, ![8, 6, 4, 64]⟩
abbrev S8x6x1x64 : Shape := ⟨4, ![8, 6, 1, 64]⟩
abbrev S8x6x64 : Shape := ⟨3, ![8, 6, 64]⟩
abbrev S8x6x1x256 : Shape := ⟨4, ![8, 6, 1, 256]⟩
abbrev S1x256 : Shape := ⟨2, ![1, 256]⟩
abbrev S1x1x1x256 : Shape := ⟨4, ![1, 1, 1, 256]⟩
abbrev S1152x256 : Shape := ⟨2, ![1152, 256]⟩
abbrev S1x256x256 : Shape := ⟨3, ![1, 256, 256]⟩
abbrev S256x256 : Shape := ⟨2, ![256, 256]⟩
abbrev S1x256x4 : Shape := ⟨3, ![1, 256, 4]⟩
abbrev S256x4 : Shape := ⟨2, ![256, 4]⟩
abbrev S1152x4 : Shape := ⟨2, ![1152, 4]⟩
abbrev S1x1 : Shape := ⟨2, ![1, 1]⟩
abbrev S1152x1 : Shape := ⟨2, ![1152, 1]⟩
abbrev S1152x64 : Shape := ⟨2, ![1152, 64]⟩
abbrev S8x6x24 : Shape := ⟨3, ![8, 6, 24]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩

abbrev nBuf : Space → Nat
  | .hbm => 88
  | .vmem => 24
  | .smem => 0
  | _ => 0

abbrev bufTy : (tb : Table) → Fin (tcTables nBuf tb) → BufTy
  | .hbm, ⟨0, _⟩ => ⟨S1024, .f32⟩
  | .hbm, ⟨1, _⟩ => ⟨S1024x66, .f32⟩
  | .hbm, ⟨2, _⟩ => ⟨S22x21, .f32⟩
  | .hbm, ⟨3, _⟩ => ⟨S22x64, .f32⟩
  | .hbm, ⟨4, _⟩ => ⟨S64, .f32⟩
  | .hbm, ⟨5, _⟩ => ⟨S5x130x64, .f32⟩
  | .hbm, ⟨6, _⟩ => ⟨S5x64, .f32⟩
  | .hbm, ⟨7, _⟩ => ⟨S5x64x64, .f32⟩
  | .hbm, ⟨8, _⟩ => ⟨S5x64, .f32⟩
  | .hbm, ⟨9, _⟩ => ⟨S5x64x1, .f32⟩
  | .hbm, ⟨10, _⟩ => ⟨S5x1, .f32⟩
  | .hbm, ⟨11, _⟩ => ⟨S5x128x64, .f32⟩
  | .hbm, ⟨12, _⟩ => ⟨S5x64, .f32⟩
  | .hbm, ⟨13, _⟩ => ⟨S5x64x64, .f32⟩
  | .hbm, ⟨14, _⟩ => ⟨S5x64, .f32⟩
  | .hbm, ⟨15, _⟩ => ⟨S5x64x64, .f32⟩
  | .hbm, ⟨16, _⟩ => ⟨S5x64, .f32⟩
  | .hbm, ⟨17, _⟩ => ⟨S5x64x1, .f32⟩
  | .hbm, ⟨18, _⟩ => ⟨S473088, .i32⟩
  | .hbm, ⟨19, _⟩ => ⟨S473088, .i32⟩
  | .hbm, ⟨20, _⟩ => ⟨S1024x22x3, .f32⟩
  | .hbm, ⟨21, _⟩ => ⟨S_, .i32⟩
  | .hbm, ⟨22, _⟩ => ⟨S_, .f32⟩
  | .hbm, ⟨23, _⟩ => ⟨S1024x24x3, .f32⟩
  | .hbm, ⟨24, _⟩ => ⟨S24576x3, .f32⟩
  | .hbm, ⟨25, _⟩ => ⟨S1024x1, .f32⟩
  | .hbm, ⟨26, _⟩ => ⟨S4x4, .i32⟩
  | .hbm, ⟨27, _⟩ => ⟨S4x4, .i32⟩
  | .hbm, ⟨28, _⟩ => ⟨S_, .i32⟩
  | .hbm, ⟨29, _⟩ => ⟨S4x4, .i32⟩
  | .hbm, ⟨30, _⟩ => ⟨S4x4, .i32⟩
  | .hbm, ⟨31, _⟩ => ⟨S4x4, .i1⟩
  | .hbm, ⟨32, _⟩ => ⟨S4x4, .f32⟩
  | .hbm, ⟨33, _⟩ => ⟨S5x64x64, .f32⟩
  | .hbm, ⟨34, _⟩ => ⟨S5x64x64, .f32⟩
  | .hbm, ⟨35, _⟩ => ⟨S5x64x128, .f32⟩
  | .hbm, ⟨36, _⟩ => ⟨S5x1x64, .f32⟩
  | .hbm, ⟨37, _⟩ => ⟨S5x64, .f32⟩
  | .hbm, ⟨38, _⟩ => ⟨S1x5x1x64, .f32⟩
  | .hbm, ⟨39, _⟩ => ⟨S1x5x4x64, .f32⟩
  | .hbm, ⟨40, _⟩ => ⟨S5x256, .f32⟩
  | .hbm, ⟨41, _⟩ => ⟨S5x1x64, .f32⟩
  | .hbm, ⟨42, _⟩ => ⟨S5x64, .f32⟩
  | .hbm, ⟨43, _⟩ => ⟨S1x5x1x64, .f32⟩
  | .hbm, ⟨44, _⟩ => ⟨S1x5x4x64, .f32⟩
  | .hbm, ⟨45, _⟩ => ⟨S5x256, .f32⟩
  | .hbm, ⟨46, _⟩ => ⟨S1x5x1x64, .f32⟩
  | .hbm, ⟨47, _⟩ => ⟨S1x5x4x64, .f32⟩
  | .hbm, ⟨48, _⟩ => ⟨S5x256, .f32⟩
  | .hbm, ⟨49, _⟩ => ⟨S1x5x1x64, .f32⟩
  | .hbm, ⟨50, _⟩ => ⟨S1x5x4x64, .f32⟩
  | .hbm, ⟨51, _⟩ => ⟨S5x256, .f32⟩
  | .hbm, ⟨52, _⟩ => ⟨S1x5x1x64, .f32⟩
  | .hbm, ⟨53, _⟩ => ⟨S1x5x4x64, .f32⟩
  | .hbm, ⟨54, _⟩ => ⟨S5x256, .f32⟩
  | .hbm, ⟨55, _⟩ => ⟨S4x1x4x1, .f32⟩
  | .hbm, ⟨56, _⟩ => ⟨S5x1x64x1x64, .f32⟩
  | .hbm, ⟨57, _⟩ => ⟨S1x4x1x4x1, .f32⟩
  | .hbm, ⟨58, _⟩ => ⟨S5x4x64x4x64, .f32⟩
  | .hbm, ⟨59, _⟩ => ⟨S5x4x64x4x64, .f32⟩
  | .hbm, ⟨60, _⟩ => ⟨S5x4x64x4x64, .f32⟩
  | .hbm, ⟨61, _⟩ => ⟨S5x256x256, .f32⟩
  | .hbm, ⟨62, _⟩ => ⟨S4x1x4x1, .f32⟩
  | .hbm, ⟨63, _⟩ => ⟨S5x1x64x1x64, .f32⟩
  | .hbm, ⟨64, _⟩ => ⟨S1x4x1x4x1, .f32⟩
  | .hbm, ⟨65, _⟩ => ⟨S5x4x64x4x64, .f32⟩
  | .hbm, ⟨66, _⟩ => ⟨S5x4x64x4x64, .f32⟩
  | .hbm, ⟨67, _⟩ => ⟨S5x4x64x4x64, .f32⟩
  | .hbm, ⟨68, _⟩ => ⟨S5x256x256, .f32⟩
  | .hbm, ⟨69, _⟩ => ⟨S4x1x4x1, .f32⟩
  | .hbm, ⟨70, _⟩ => ⟨S5x1x64x1x1, .f32⟩
  | .hbm, ⟨71, _⟩ => ⟨S1x4x1x4x1, .f32⟩
  | .hbm, ⟨72, _⟩ => ⟨S5x4x64x4x1, .f32⟩
  | .hbm, ⟨73, _⟩ => ⟨S5x4x64x4x1, .f32⟩
  | .hbm, ⟨74, _⟩ => ⟨S5x4x64x4x1, .f32⟩
  | .hbm, ⟨75, _⟩ => ⟨S5x256x4, .f32⟩
  | .hbm, ⟨76, _⟩ => ⟨S4x1x4x1, .f32⟩
  | .hbm, ⟨77, _⟩ => ⟨S5x1x64x1x1, .f32⟩
  | .hbm, ⟨78, _⟩ => ⟨S1x4x1x4x1, .f32⟩
  | .hbm, ⟨79, _⟩ => ⟨S5x4x64x4x1, .f32⟩
  | .hbm, ⟨80, _⟩ => ⟨S5x4x64x4x1, .f32⟩
  | .hbm, ⟨81, _⟩ => ⟨S5x4x64x4x1, .f32⟩
  | .hbm, ⟨82, _⟩ => ⟨S5x256x4, .f32⟩
  | .hbm, ⟨83, _⟩ => ⟨S1x64, .f32⟩
  | .hbm, ⟨84, _⟩ => ⟨S24576x3, .f32⟩
  | .hbm, ⟨85, _⟩ => ⟨S1024x24x3, .f32⟩
  | .hbm, ⟨86, _⟩ => ⟨S1024x22x3, .f32⟩
  | .hbm, ⟨87, _⟩ => ⟨S1024x66, .f32⟩
  | .local _ .vmem, ⟨0, _⟩ => ⟨S8x1, .f32⟩
  | .local _ .vmem, ⟨1, _⟩ => ⟨S8x1, .f32⟩
  | .local _ .vmem, ⟨2, _⟩ => ⟨S192x3, .f32⟩
  | .local _ .vmem, ⟨3, _⟩ => ⟨S192x3, .f32⟩
  | .local _ .vmem, ⟨4, _⟩ => ⟨S22x21, .f32⟩
  | .local _ .vmem, ⟨5, _⟩ => ⟨S22x64, .f32⟩
  | .local _ .vmem, ⟨6, _⟩ => ⟨S1x64, .f32⟩
  | .local _ .vmem, ⟨7, _⟩ => ⟨S5x64x128, .f32⟩
  | .local _ .vmem, ⟨8, _⟩ => ⟨S5x256, .f32⟩
  | .local _ .vmem, ⟨9, _⟩ => ⟨S5x256, .f32⟩
  | .local _ .vmem, ⟨10, _⟩ => ⟨S5x256, .f32⟩
  | .local _ .vmem, ⟨11, _⟩ => ⟨S5x256x256, .f32⟩
  | .local _ .vmem, ⟨12, _⟩ => ⟨S5x256, .f32⟩
  | .local _ .vmem, ⟨13, _⟩ => ⟨S5x256x4, .f32⟩
  | .local _ .vmem, ⟨14, _⟩ => ⟨S5x1, .f32⟩
  | .local _ .vmem, ⟨15, _⟩ => ⟨S5x256x256, .f32⟩
  | .local _ .vmem, ⟨16, _⟩ => ⟨S5x256, .f32⟩
  | .local _ .vmem, ⟨17, _⟩ => ⟨S5x256x4, .f32⟩
  | .local _ .vmem, ⟨18, _⟩ => ⟨S5x128x64, .f32⟩
  | .local _ .vmem, ⟨19, _⟩ => ⟨S5x64, .f32⟩
  | .local _ .vmem, ⟨20, _⟩ => ⟨S5x64x64, .f32⟩
  | .local _ .vmem, ⟨21, _⟩ => ⟨S5x64, .f32⟩
  | .local _ .vmem, ⟨22, _⟩ => ⟨S192x3, .f32⟩
  | .local _ .vmem, ⟨23, _⟩ => ⟨S192x3, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_v32 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_v33 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_v34 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S22x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S22x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x256x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S5x256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S5x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S5x256x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S5x128x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S5x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S5x64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S5x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S192x3 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== KernelIdeal.lean ====
variable {F : FTy → Type} [FloatOps F] [Named F]
def κ : String → Option EReal := fun
  | "inv22" => some ((22⁻¹ : ℝ) : EReal)
  | _ => none
-- ==== ReferenceIdeal.lean ====
abbrev S1024 : Shape := ⟨1, ![1024]⟩
abbrev S1024x66 : Shape := ⟨2, ![1024, 66]⟩
abbrev S22x21 : Shape := ⟨2, ![22, 21]⟩
abbrev S22x64 : Shape := ⟨2, ![22, 64]⟩
abbrev S64 : Shape := ⟨1, ![64]⟩
abbrev S5x130x64 : Shape := ⟨3, ![5, 130, 64]⟩
abbrev S5x64 : Shape := ⟨2, ![5, 64]⟩
abbrev S5x64x64 : Shape := ⟨3, ![5, 64, 64]⟩
abbrev S5x64x1 : Shape := ⟨3, ![5, 64, 1]⟩
abbrev S5x1 : Shape := ⟨2, ![5, 1]⟩
abbrev S5x128x64 : Shape := ⟨3, ![5, 128, 64]⟩
abbrev S473088 : Shape := ⟨1, ![473088]⟩
abbrev S22528x3 : Shape := ⟨2, ![22528, 3]⟩
abbrev S1024x22 : Shape := ⟨2, ![1024, 22]⟩
abbrev S22528 : Shape := ⟨1, ![22528]⟩
abbrev S_ : Shape := ⟨0, ![]⟩
abbrev S473088x1 : Shape := ⟨2, ![473088, 1]⟩
abbrev S473088x3 : Shape := ⟨2, ![473088, 3]⟩
abbrev S1x22x1x21 : Shape := ⟨4, ![1, 22, 1, 21]⟩
abbrev S1024x22x1x21 : Shape := ⟨4, ![1024, 22, 1, 21]⟩
abbrev S22528x21 : Shape := ⟨2, ![22528, 21]⟩
abbrev S22528x1 : Shape := ⟨2, ![22528, 1]⟩
abbrev S22528x22 : Shape := ⟨2, ![22528, 22]⟩
abbrev S22528x64 : Shape := ⟨2, ![22528, 64]⟩
abbrev S1x64 : Shape := ⟨2, ![1, 64]⟩
abbrev S473088x64 : Shape := ⟨2, ![473088, 64]⟩
abbrev S473088x130 : Shape := ⟨2, ![473088, 130]⟩
abbrev S1x130x64 : Shape := ⟨3, ![1, 130, 64]⟩
abbrev S130x64 : Shape := ⟨2, ![130, 64]⟩
abbrev S1x64x64 : Shape := ⟨3, ![1, 64, 64]⟩
abbrev S64x64 : Shape := ⟨2, ![64, 64]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩
abbrev S22528x128 : Shape := ⟨2, ![22528, 128]⟩
abbrev S1x128x64 : Shape := ⟨3, ![1, 128, 64]⟩
abbrev S128x64 : Shape := ⟨2, ![128, 64]⟩
abbrev S1024x22x3 : Shape := ⟨3, ![1024, 22, 3]⟩
abbrev S1024x3 : Shape := ⟨2, ![1024, 3]⟩
abbrev S1024x1x3 : Shape := ⟨3, ![1024, 1, 3]⟩

abbrev nBuf : Space → Nat
  | .hbm => 846
  | .vmem => 0
  | .smem => 0
  | _ => 0

abbrev hbmTy0_0 (i : Nat) : BufTy := match i % 128 with
  | 0 => ⟨S1024, .f32⟩
  | 1 => ⟨S1024x66, .f32⟩
  | 2 => ⟨S22x21, .f32⟩
  | 3 => ⟨S22x64, .f32⟩
  | 4 => ⟨S64, .f32⟩
  | 5 => ⟨S5x130x64, .f32⟩
  | 6 => ⟨S5x64, .f32⟩
  | 7 => ⟨S5x64x64, .f32⟩
  | 8 => ⟨S5x64, .f32⟩
  | 9 => ⟨S5x64x1, .f32⟩
  | 10 => ⟨S5x1, .f32⟩
  | 11 => ⟨S5x128x64, .f32⟩
  | 12 => ⟨S5x64, .f32⟩
  | 13 => ⟨S5x64x64, .f32⟩
  | 14 => ⟨S5x64, .f32⟩
  | 15 => ⟨S5x64x64, .f32⟩
  | 16 => ⟨S5x64, .f32⟩
  | 17 => ⟨S5x64x1, .f32⟩
  | 18 => ⟨S473088, .i32⟩
  | 19 => ⟨S473088, .i32⟩
  | 20 => ⟨S22528x3, .f32⟩
  | 21 => ⟨S1024x22, .f32⟩
  | 22 => ⟨S22528, .f32⟩
  | 23 => ⟨S_, .i32⟩
  | 24 => ⟨S473088, .i32⟩
  | 25 => ⟨S473088, .i1⟩
  | 26 => ⟨S_, .i32⟩
  | 27 => ⟨S473088, .i32⟩
  | 28 => ⟨S473088, .i32⟩
  | 29 => ⟨S473088, .i32⟩
  | 30 => ⟨S473088x1, .i32⟩
  | 31 => ⟨S473088x3, .f32⟩
  | 32 => ⟨S_, .i32⟩
  | 33 => ⟨S473088, .i32⟩
  | 34 => ⟨S473088, .i1⟩
  | 35 => ⟨S_, .i32⟩
  | 36 => ⟨S473088, .i32⟩
  | 37 => ⟨S473088, .i32⟩
  | 38 => ⟨S473088, .i32⟩
  | 39 => ⟨S473088x1, .i32⟩
  | 40 => ⟨S473088x3, .f32⟩
  | 41 => ⟨S473088x3, .f32⟩
  | 42 => ⟨S473088x3, .f32⟩
  | 43 => ⟨S_, .f32⟩
  | 44 => ⟨S473088, .f32⟩
  | 45 => ⟨S473088x1, .f32⟩
  | 46 => ⟨S1x22x1x21, .f32⟩
  | 47 => ⟨S1024x22x1x21, .f32⟩
  | 48 => ⟨S22528x21, .f32⟩
  | 49 => ⟨S22528x1, .f32⟩
  | 50 => ⟨S22528x22, .f32⟩
  | 51 => ⟨S22528x64, .f32⟩
  | 52 => ⟨S1x64, .f32⟩
  | 53 => ⟨S22528x64, .f32⟩
  | 54 => ⟨S22528x64, .f32⟩
  | 55 => ⟨S_, .i32⟩
  | 56 => ⟨S473088, .i32⟩
  | 57 => ⟨S473088, .i1⟩
  | 58 => ⟨S_, .i32⟩
  | 59 => ⟨S473088, .i32⟩
  | 60 => ⟨S473088, .i32⟩
  | 61 => ⟨S473088, .i32⟩
  | 62 => ⟨S473088x1, .i32⟩
  | 63 => ⟨S473088x3, .f32⟩
  | 64 => ⟨S_, .i32⟩
  | 65 => ⟨S473088, .i32⟩
  | 66 => ⟨S473088, .i1⟩
  | 67 => ⟨S_, .i32⟩
  | 68 => ⟨S473088, .i32⟩
  | 69 => ⟨S473088, .i32⟩
  | 70 => ⟨S473088, .i32⟩
  | 71 => ⟨S473088x1, .i32⟩
  | 72 => ⟨S473088x3, .f32⟩
  | 73 => ⟨S473088x3, .f32⟩
  | 74 => ⟨S473088x3, .f32⟩
  | 75 => ⟨S_, .f32⟩
  | 76 => ⟨S473088, .f32⟩
  | 77 => ⟨S473088x1, .f32⟩
  | 78 => ⟨S_, .i32⟩
  | 79 => ⟨S473088, .i32⟩
  | 80 => ⟨S473088, .i1⟩
  | 81 => ⟨S_, .i32⟩
  | 82 => ⟨S473088, .i32⟩
  | 83 => ⟨S473088, .i32⟩
  | 84 => ⟨S473088, .i32⟩
  | 85 => ⟨S473088x1, .i32⟩
  | 86 => ⟨S473088x64, .f32⟩
  | 87 => ⟨S_, .i32⟩
  | 88 => ⟨S473088, .i32⟩
  | 89 => ⟨S473088, .i1⟩
  | 90 => ⟨S_, .i32⟩
  | 91 => ⟨S473088, .i32⟩
  | 92 => ⟨S473088, .i32⟩
  | 93 => ⟨S473088, .i32⟩
  | 94 => ⟨S473088x1, .i32⟩
  | 95 => ⟨S473088x64, .f32⟩
  | 96 => ⟨S473088x130, .f32⟩
  | 97 => ⟨S1x130x64, .f32⟩
  | 98 => ⟨S130x64, .f32⟩
  | 99 => ⟨S473088x64, .f32⟩
  | 100 => ⟨S1x64, .f32⟩
  | 101 => ⟨S64, .f32⟩
  | 102 => ⟨S1x64, .f32⟩
  | 103 => ⟨S473088x64, .f32⟩
  | 104 => ⟨S473088x64, .f32⟩
  | 105 => ⟨S473088x64, .f32⟩
  | 106 => ⟨S473088x64, .f32⟩
  | 107 => ⟨S_, .f32⟩
  | 108 => ⟨S473088x64, .f32⟩
  | 109 => ⟨S473088x64, .f32⟩
  | 110 => ⟨S_, .f32⟩
  | 111 => ⟨S473088x64, .f32⟩
  | 112 => ⟨S473088x64, .f32⟩
  | 113 => ⟨S473088x64, .f32⟩
  | 114 => ⟨S1x64x64, .f32⟩
  | 115 => ⟨S64x64, .f32⟩
  | 116 => ⟨S473088x64, .f32⟩
  | 117 => ⟨S1x64, .f32⟩
  | 118 => ⟨S64, .f32⟩
  | 119 => ⟨S1x64, .f32⟩
  | 120 => ⟨S473088x64, .f32⟩
  | 121 => ⟨S473088x64, .f32⟩
  | 122 => ⟨S473088x64, .f32⟩
  | 123 => ⟨S473088x64, .f32⟩
  | 124 => ⟨S_, .f32⟩
  | 125 => ⟨S473088x64, .f32⟩
  | 126 => ⟨S473088x64, .f32⟩
  | 127 => ⟨S_, .f32⟩
  | _ => ⟨S1024, .f32⟩

abbrev hbmTy0_1 (i : Nat) : BufTy := match i % 128 with
  | 0 => ⟨S473088x64, .f32⟩
  | 1 => ⟨S473088x64, .f32⟩
  | 2 => ⟨S473088x64, .f32⟩
  | 3 => ⟨S1x64x1, .f32⟩
  | 4 => ⟨S64x1, .f32⟩
  | 5 => ⟨S473088x1, .f32⟩
  | 6 => ⟨S1x1, .f32⟩
  | 7 => ⟨S1, .f32⟩
  | 8 => ⟨S1x1, .f32⟩
  | 9 => ⟨S473088x1, .f32⟩
  | 10 => ⟨S473088x1, .f32⟩
  | 11 => ⟨S473088x1, .f32⟩
  | 12 => ⟨S473088x1, .f32⟩
  | 13 => ⟨S_, .f32⟩
  | 14 => ⟨S473088x1, .f32⟩
  | 15 => ⟨S473088x1, .f32⟩
  | 16 => ⟨S_, .f32⟩
  | 17 => ⟨S473088x1, .f32⟩
  | 18 => ⟨S473088x1, .f32⟩
  | 19 => ⟨S473088x64, .f32⟩
  | 20 => ⟨S473088x64, .f32⟩
  | 21 => ⟨S1x64x64, .f32⟩
  | 22 => ⟨S64x64, .f32⟩
  | 23 => ⟨S473088x64, .f32⟩
  | 24 => ⟨S1x64, .f32⟩
  | 25 => ⟨S64, .f32⟩
  | 26 => ⟨S1x64, .f32⟩
  | 27 => ⟨S473088x64, .f32⟩
  | 28 => ⟨S473088x64, .f32⟩
  | 29 => ⟨S473088x64, .f32⟩
  | 30 => ⟨S473088x64, .f32⟩
  | 31 => ⟨S_, .f32⟩
  | 32 => ⟨S473088x64, .f32⟩
  | 33 => ⟨S473088x64, .f32⟩
  | 34 => ⟨S_, .f32⟩
  | 35 => ⟨S473088x64, .f32⟩
  | 36 => ⟨S473088x64, .f32⟩
  | 37 => ⟨S473088x64, .f32⟩
  | 38 => ⟨S1x64x1, .f32⟩
  | 39 => ⟨S64x1, .f32⟩
  | 40 => ⟨S473088x1, .f32⟩
  | 41 => ⟨S473088x1, .f32⟩
  | 42 => ⟨S_, .f32⟩
  | 43 => ⟨S473088x1, .f32⟩
  | 44 => ⟨S473088x1, .f32⟩
  | 45 => ⟨S473088x3, .f32⟩
  | 46 => ⟨S473088x3, .f32⟩
  | 47 => ⟨S_, .f32⟩
  | 48 => ⟨S22528x3, .f32⟩
  | 49 => ⟨S473088x1, .i32⟩
  | 50 => ⟨S22528x3, .f32⟩
  | 51 => ⟨S22528x3, .f32⟩
  | 52 => ⟨S_, .f32⟩
  | 53 => ⟨S22528x64, .f32⟩
  | 54 => ⟨S473088x1, .i32⟩
  | 55 => ⟨S22528x64, .f32⟩
  | 56 => ⟨S22528x128, .f32⟩
  | 57 => ⟨S1x128x64, .f32⟩
  | 58 => ⟨S128x64, .f32⟩
  | 59 => ⟨S22528x64, .f32⟩
  | 60 => ⟨S1x64, .f32⟩
  | 61 => ⟨S64, .f32⟩
  | 62 => ⟨S1x64, .f32⟩
  | 63 => ⟨S22528x64, .f32⟩
  | 64 => ⟨S22528x64, .f32⟩
  | 65 => ⟨S22528x64, .f32⟩
  | 66 => ⟨S22528x64, .f32⟩
  | 67 => ⟨S_, .f32⟩
  | 68 => ⟨S22528x64, .f32⟩
  | 69 => ⟨S22528x64, .f32⟩
  | 70 => ⟨S_, .f32⟩
  | 71 => ⟨S22528x64, .f32⟩
  | 72 => ⟨S22528x64, .f32⟩
  | 73 => ⟨S22528x64, .f32⟩
  | 74 => ⟨S1x64x64, .f32⟩
  | 75 => ⟨S64x64, .f32⟩
  | 76 => ⟨S22528x64, .f32⟩
  | 77 => ⟨S1x64, .f32⟩
  | 78 => ⟨S64, .f32⟩
  | 79 => ⟨S1x64, .f32⟩
  | 80 => ⟨S22528x64, .f32⟩
  | 81 => ⟨S22528x64, .f32⟩
  | 82 => ⟨S22528x64, .f32⟩
  | 83 => ⟨S_, .i32⟩
  | 84 => ⟨S473088, .i32⟩
  | 85 => ⟨S473088, .i1⟩
  | 86 => ⟨S_, .i32⟩
  | 87 => ⟨S473088, .i32⟩
  | 88 => ⟨S473088, .i32⟩
  | 89 => ⟨S473088, .i32⟩
  | 90 => ⟨S473088x1, .i32⟩
  | 91 => ⟨S473088x3, .f32⟩
  | 92 => ⟨S_, .i32⟩
  | 93 => ⟨S473088, .i32⟩
  | 94 => ⟨S473088, .i1⟩
  | 95 => ⟨S_, .i32⟩
  | 96 => ⟨S473088, .i32⟩
  | 97 => ⟨S473088, .i32⟩
  | 98 => ⟨S473088, .i32⟩
  | 99 => ⟨S473088x1, .i32⟩
  | 100 => ⟨S473088x3, .f32⟩
  | 101 => ⟨S473088x3, .f32⟩
  | 102 => ⟨S473088x3, .f32⟩
  | 103 => ⟨S_, .f32⟩
  | 104 => ⟨S473088, .f32⟩
  | 105 => ⟨S473088x1, .f32⟩
  | 106 => ⟨S_, .i32⟩
  | 107 => ⟨S473088, .i32⟩
  | 108 => ⟨S473088, .i1⟩
  | 109 => ⟨S_, .i32⟩
  | 110 => ⟨S473088, .i32⟩
  | 111 => ⟨S473088, .i32⟩
  | 112 => ⟨S473088, .i32⟩
  | 113 => ⟨S473088x1, .i32⟩
  | 114 => ⟨S473088x64, .f32⟩
  | 115 => ⟨S_, .i32⟩
  | 116 => ⟨S473088, .i32⟩
  | 117 => ⟨S473088, .i1⟩
  | 118 => ⟨S_, .i32⟩
  | 119 => ⟨S473088, .i32⟩
  | 120 => ⟨S473088, .i32⟩
  | 121 => ⟨S473088, .i32⟩
  | 122 => ⟨S473088x1, .i32⟩
  | 123 => ⟨S473088x64, .f32⟩
  | 124 => ⟨S473088x130, .f32⟩
  | 125 => ⟨S1x130x64, .f32⟩
  | 126 => ⟨S130x64, .f32⟩
  | 127 => ⟨S473088x64, .f32⟩
  | _ => ⟨S1024, .f32⟩

abbrev hbmTy0_2 (i : Nat) : BufTy := match i % 128 with
  | 0 => ⟨S1x64, .f32⟩
  | 1 => ⟨S64, .f32⟩
  | 2 => ⟨S1x64, .f32⟩
  | 3 => ⟨S473088x64, .f32⟩
  | 4 => ⟨S473088x64, .f32⟩
  | 5 => ⟨S473088x64, .f32⟩
  | 6 => ⟨S473088x64, .f32⟩
  | 7 => ⟨S_, .f32⟩
  | 8 => ⟨S473088x64, .f32⟩
  | 9 => ⟨S473088x64, .f32⟩
  | 10 => ⟨S_, .f32⟩
  | 11 => ⟨S473088x64, .f32⟩
  | 12 => ⟨S473088x64, .f32⟩
  | 13 => ⟨S473088x64, .f32⟩
  | 14 => ⟨S1x64x64, .f32⟩
  | 15 => ⟨S64x64, .f32⟩
  | 16 => ⟨S473088x64, .f32⟩
  | 17 => ⟨S1x64, .f32⟩
  | 18 => ⟨S64, .f32⟩
  | 19 => ⟨S1x64, .f32⟩
  | 20 => ⟨S473088x64, .f32⟩
  | 21 => ⟨S473088x64, .f32⟩
  | 22 => ⟨S473088x64, .f32⟩
  | 23 => ⟨S473088x64, .f32⟩
  | 24 => ⟨S_, .f32⟩
  | 25 => ⟨S473088x64, .f32⟩
  | 26 => ⟨S473088x64, .f32⟩
  | 27 => ⟨S_, .f32⟩
  | 28 => ⟨S473088x64, .f32⟩
  | 29 => ⟨S473088x64, .f32⟩
  | 30 => ⟨S473088x64, .f32⟩
  | 31 => ⟨S1x64x1, .f32⟩
  | 32 => ⟨S64x1, .f32⟩
  | 33 => ⟨S473088x1, .f32⟩
  | 34 => ⟨S1x1, .f32⟩
  | 35 => ⟨S1, .f32⟩
  | 36 => ⟨S1x1, .f32⟩
  | 37 => ⟨S473088x1, .f32⟩
  | 38 => ⟨S473088x1, .f32⟩
  | 39 => ⟨S473088x1, .f32⟩
  | 40 => ⟨S473088x1, .f32⟩
  | 41 => ⟨S_, .f32⟩
  | 42 => ⟨S473088x1, .f32⟩
  | 43 => ⟨S473088x1, .f32⟩
  | 44 => ⟨S_, .f32⟩
  | 45 => ⟨S473088x1, .f32⟩
  | 46 => ⟨S473088x1, .f32⟩
  | 47 => ⟨S473088x64, .f32⟩
  | 48 => ⟨S473088x64, .f32⟩
  | 49 => ⟨S1x64x64, .f32⟩
  | 50 => ⟨S64x64, .f32⟩
  | 51 => ⟨S473088x64, .f32⟩
  | 52 => ⟨S1x64, .f32⟩
  | 53 => ⟨S64, .f32⟩
  | 54 => ⟨S1x64, .f32⟩
  | 55 => ⟨S473088x64, .f32⟩
  | 56 => ⟨S473088x64, .f32⟩
  | 57 => ⟨S473088x64, .f32⟩
  | 58 => ⟨S473088x64, .f32⟩
  | 59 => ⟨S_, .f32⟩
  | 60 => ⟨S473088x64, .f32⟩
  | 61 => ⟨S473088x64, .f32⟩
  | 62 => ⟨S_, .f32⟩
  | 63 => ⟨S473088x64, .f32⟩
  | 64 => ⟨S473088x64, .f32⟩
  | 65 => ⟨S473088x64, .f32⟩
  | 66 => ⟨S1x64x1, .f32⟩
  | 67 => ⟨S64x1, .f32⟩
  | 68 => ⟨S473088x1, .f32⟩
  | 69 => ⟨S473088x1, .f32⟩
  | 70 => ⟨S_, .f32⟩
  | 71 => ⟨S473088x1, .f32⟩
  | 72 => ⟨S473088x1, .f32⟩
  | 73 => ⟨S473088x3, .f32⟩
  | 74 => ⟨S473088x3, .f32⟩
  | 75 => ⟨S_, .f32⟩
  | 76 => ⟨S22528x3, .f32⟩
  | 77 => ⟨S473088x1, .i32⟩
  | 78 => ⟨S22528x3, .f32⟩
  | 79 => ⟨S22528x3, .f32⟩
  | 80 => ⟨S_, .f32⟩
  | 81 => ⟨S22528x64, .f32⟩
  | 82 => ⟨S473088x1, .i32⟩
  | 83 => ⟨S22528x64, .f32⟩
  | 84 => ⟨S22528x128, .f32⟩
  | 85 => ⟨S1x128x64, .f32⟩
  | 86 => ⟨S128x64, .f32⟩
  | 87 => ⟨S22528x64, .f32⟩
  | 88 => ⟨S1x64, .f32⟩
  | 89 => ⟨S64, .f32⟩
  | 90 => ⟨S1x64, .f32⟩
  | 91 => ⟨S22528x64, .f32⟩
  | 92 => ⟨S22528x64, .f32⟩
  | 93 => ⟨S22528x64, .f32⟩
  | 94 => ⟨S22528x64, .f32⟩
  | 95 => ⟨S_, .f32⟩
  | 96 => ⟨S22528x64, .f32⟩
  | 97 => ⟨S22528x64, .f32⟩
  | 98 => ⟨S_, .f32⟩
  | 99 => ⟨S22528x64, .f32⟩
  | 100 => ⟨S22528x64, .f32⟩
  | 101 => ⟨S22528x64, .f32⟩
  | 102 => ⟨S1x64x64, .f32⟩
  | 103 => ⟨S64x64, .f32⟩
  | 104 => ⟨S22528x64, .f32⟩
  | 105 => ⟨S1x64, .f32⟩
  | 106 => ⟨S64, .f32⟩
  | 107 => ⟨S1x64, .f32⟩
  | 108 => ⟨S22528x64, .f32⟩
  | 109 => ⟨S22528x64, .f32⟩
  | 110 => ⟨S22528x64, .f32⟩
  | 111 => ⟨S_, .i32⟩
  | 112 => ⟨S473088, .i32⟩
  | 113 => ⟨S473088, .i1⟩
  | 114 => ⟨S_, .i32⟩
  | 115 => ⟨S473088, .i32⟩
  | 116 => ⟨S473088, .i32⟩
  | 117 => ⟨S473088, .i32⟩
  | 118 => ⟨S473088x1, .i32⟩
  | 119 => ⟨S473088x3, .f32⟩
  | 120 => ⟨S_, .i32⟩
  | 121 => ⟨S473088, .i32⟩
  | 122 => ⟨S473088, .i1⟩
  | 123 => ⟨S_, .i32⟩
  | 124 => ⟨S473088, .i32⟩
  | 125 => ⟨S473088, .i32⟩
  | 126 => ⟨S473088, .i32⟩
  | 127 => ⟨S473088x1, .i32⟩
  | _ => ⟨S1024, .f32⟩

abbrev hbmTy0_3 (i : Nat) : BufTy := match i % 128 with
  | 0 => ⟨S473088x3, .f32⟩
  | 1 => ⟨S473088x3, .f32⟩
  | 2 => ⟨S473088x3, .f32⟩
  | 3 => ⟨S_, .f32⟩
  | 4 => ⟨S473088, .f32⟩
  | 5 => ⟨S473088x1, .f32⟩
  | 6 => ⟨S_, .i32⟩
  | 7 => ⟨S473088, .i32⟩
  | 8 => ⟨S473088, .i1⟩
  | 9 => ⟨S_, .i32⟩
  | 10 => ⟨S473088, .i32⟩
  | 11 => ⟨S473088, .i32⟩
  | 12 => ⟨S473088, .i32⟩
  | 13 => ⟨S473088x1, .i32⟩
  | 14 => ⟨S473088x64, .f32⟩
  | 15 => ⟨S_, .i32⟩
  | 16 => ⟨S473088, .i32⟩
  | 17 => ⟨S473088, .i1⟩
  | 18 => ⟨S_, .i32⟩
  | 19 => ⟨S473088, .i32⟩
  | 20 => ⟨S473088, .i32⟩
  | 21 => ⟨S473088, .i32⟩
  | 22 => ⟨S473088x1, .i32⟩
  | 23 => ⟨S473088x64, .f32⟩
  | 24 => ⟨S473088x130, .f32⟩
  | 25 => ⟨S1x130x64, .f32⟩
  | 26 => ⟨S130x64, .f32⟩
  | 27 => ⟨S473088x64, .f32⟩
  | 28 => ⟨S1x64, .f32⟩
  | 29 => ⟨S64, .f32⟩
  | 30 => ⟨S1x64, .f32⟩
  | 31 => ⟨S473088x64, .f32⟩
  | 32 => ⟨S473088x64, .f32⟩
  | 33 => ⟨S473088x64, .f32⟩
  | 34 => ⟨S473088x64, .f32⟩
  | 35 => ⟨S_, .f32⟩
  | 36 => ⟨S473088x64, .f32⟩
  | 37 => ⟨S473088x64, .f32⟩
  | 38 => ⟨S_, .f32⟩
  | 39 => ⟨S473088x64, .f32⟩
  | 40 => ⟨S473088x64, .f32⟩
  | 41 => ⟨S473088x64, .f32⟩
  | 42 => ⟨S1x64x64, .f32⟩
  | 43 => ⟨S64x64, .f32⟩
  | 44 => ⟨S473088x64, .f32⟩
  | 45 => ⟨S1x64, .f32⟩
  | 46 => ⟨S64, .f32⟩
  | 47 => ⟨S1x64, .f32⟩
  | 48 => ⟨S473088x64, .f32⟩
  | 49 => ⟨S473088x64, .f32⟩
  | 50 => ⟨S473088x64, .f32⟩
  | 51 => ⟨S473088x64, .f32⟩
  | 52 => ⟨S_, .f32⟩
  | 53 => ⟨S473088x64, .f32⟩
  | 54 => ⟨S473088x64, .f32⟩
  | 55 => ⟨S_, .f32⟩
  | 56 => ⟨S473088x64, .f32⟩
  | 57 => ⟨S473088x64, .f32⟩
  | 58 => ⟨S473088x64, .f32⟩
  | 59 => ⟨S1x64x1, .f32⟩
  | 60 => ⟨S64x1, .f32⟩
  | 61 => ⟨S473088x1, .f32⟩
  | 62 => ⟨S1x1, .f32⟩
  | 63 => ⟨S1, .f32⟩
  | 64 => ⟨S1x1, .f32⟩
  | 65 => ⟨S473088x1, .f32⟩
  | 66 => ⟨S473088x1, .f32⟩
  | 67 => ⟨S473088x1, .f32⟩
  | 68 => ⟨S473088x1, .f32⟩
  | 69 => ⟨S_, .f32⟩
  | 70 => ⟨S473088x1, .f32⟩
  | 71 => ⟨S473088x1, .f32⟩
  | 72 => ⟨S_, .f32⟩
  | 73 => ⟨S473088x1, .f32⟩
  | 74 => ⟨S473088x1, .f32⟩
  | 75 => ⟨S473088x64, .f32⟩
  | 76 => ⟨S473088x64, .f32⟩
  | 77 => ⟨S1x64x64, .f32⟩
  | 78 => ⟨S64x64, .f32⟩
  | 79 => ⟨S473088x64, .f32⟩
  | 80 => ⟨S1x64, .f32⟩
  | 81 => ⟨S64, .f32⟩
  | 82 => ⟨S1x64, .f32⟩
  | 83 => ⟨S473088x64, .f32⟩
  | 84 => ⟨S473088x64, .f32⟩
  | 85 => ⟨S473088x64, .f32⟩
  | 86 => ⟨S473088x64, .f32⟩
  | 87 => ⟨S_, .f32⟩
  | 88 => ⟨S473088x64, .f32⟩
  | 89 => ⟨S473088x64, .f32⟩
  | 90 => ⟨S_, .f32⟩
  | 91 => ⟨S473088x64, .f32⟩
  | 92 => ⟨S473088x64, .f32⟩
  | 93 => ⟨S473088x64, .f32⟩
  | 94 => ⟨S1x64x1, .f32⟩
  | 95 => ⟨S64x1, .f32⟩
  | 96 => ⟨S473088x1, .f32⟩
  | 97 => ⟨S473088x1, .f32⟩
  | 98 => ⟨S_, .f32⟩
  | 99 => ⟨S473088x1, .f32⟩
  | 100 => ⟨S473088x1, .f32⟩
  | 101 => ⟨S473088x3, .f32⟩
  | 102 => ⟨S473088x3, .f32⟩
  | 103 => ⟨S_, .f32⟩
  | 104 => ⟨S22528x3, .f32⟩
  | 105 => ⟨S473088x1, .i32⟩
  | 106 => ⟨S22528x3, .f32⟩
  | 107 => ⟨S22528x3, .f32⟩
  | 108 => ⟨S_, .f32⟩
  | 109 => ⟨S22528x64, .f32⟩
  | 110 => ⟨S473088x1, .i32⟩
  | 111 => ⟨S22528x64, .f32⟩
  | 112 => ⟨S22528x128, .f32⟩
  | 113 => ⟨S1x128x64, .f32⟩
  | 114 => ⟨S128x64, .f32⟩
  | 115 => ⟨S22528x64, .f32⟩
  | 116 => ⟨S1x64, .f32⟩
  | 117 => ⟨S64, .f32⟩
  | 118 => ⟨S1x64, .f32⟩
  | 119 => ⟨S22528x64, .f32⟩
  | 120 => ⟨S22528x64, .f32⟩
  | 121 => ⟨S22528x64, .f32⟩
  | 122 => ⟨S22528x64, .f32⟩
  | 123 => ⟨S_, .f32⟩
  | 124 => ⟨S22528x64, .f32⟩
  | 125 => ⟨S22528x64, .f32⟩
  | 126 => ⟨S_, .f32⟩
  | 127 => ⟨S22528x64, .f32⟩
  | _ => ⟨S1024, .f32⟩

abbrev hbmTy0_4 (i : Nat) : BufTy := match i % 128 with
  | 0 => ⟨S22528x64, .f32⟩
  | 1 => ⟨S22528x64, .f32⟩
  | 2 => ⟨S1x64x64, .f32⟩
  | 3 => ⟨S64x64, .f32⟩
  | 4 => ⟨S22528x64, .f32⟩
  | 5 => ⟨S1x64, .f32⟩
  | 6 => ⟨S64, .f32⟩
  | 7 => ⟨S1x64, .f32⟩
  | 8 => ⟨S22528x64, .f32⟩
  | 9 => ⟨S22528x64, .f32⟩
  | 10 => ⟨S22528x64, .f32⟩
  | 11 => ⟨S_, .i32⟩
  | 12 => ⟨S473088, .i32⟩
  | 13 => ⟨S473088, .i1⟩
  | 14 => ⟨S_, .i32⟩
  | 15 => ⟨S473088, .i32⟩
  | 16 => ⟨S473088, .i32⟩
  | 17 => ⟨S473088, .i32⟩
  | 18 => ⟨S473088x1, .i32⟩
  | 19 => ⟨S473088x3, .f32⟩
  | 20 => ⟨S_, .i32⟩
  | 21 => ⟨S473088, .i32⟩
  | 22 => ⟨S473088, .i1⟩
  | 23 => ⟨S_, .i32⟩
  | 24 => ⟨S473088, .i32⟩
  | 25 => ⟨S473088, .i32⟩
  | 26 => ⟨S473088, .i32⟩
  | 27 => ⟨S473088x1, .i32⟩
  | 28 => ⟨S473088x3, .f32⟩
  | 29 => ⟨S473088x3, .f32⟩
  | 30 => ⟨S473088x3, .f32⟩
  | 31 => ⟨S_, .f32⟩
  | 32 => ⟨S473088, .f32⟩
  | 33 => ⟨S473088x1, .f32⟩
  | 34 => ⟨S_, .i32⟩
  | 35 => ⟨S473088, .i32⟩
  | 36 => ⟨S473088, .i1⟩
  | 37 => ⟨S_, .i32⟩
  | 38 => ⟨S473088, .i32⟩
  | 39 => ⟨S473088, .i32⟩
  | 40 => ⟨S473088, .i32⟩
  | 41 => ⟨S473088x1, .i32⟩
  | 42 => ⟨S473088x64, .f32⟩
  | 43 => ⟨S_, .i32⟩
  | 44 => ⟨S473088, .i32⟩
  | 45 => ⟨S473088, .i1⟩
  | 46 => ⟨S_, .i32⟩
  | 47 => ⟨S473088, .i32⟩
  | 48 => ⟨S473088, .i32⟩
  | 49 => ⟨S473088, .i32⟩
  | 50 => ⟨S473088x1, .i32⟩
  | 51 => ⟨S473088x64, .f32⟩
  | 52 => ⟨S473088x130, .f32⟩
  | 53 => ⟨S1x130x64, .f32⟩
  | 54 => ⟨S130x64, .f32⟩
  | 55 => ⟨S473088x64, .f32⟩
  | 56 => ⟨S1x64, .f32⟩
  | 57 => ⟨S64, .f32⟩
  | 58 => ⟨S1x64, .f32⟩
  | 59 => ⟨S473088x64, .f32⟩
  | 60 => ⟨S473088x64, .f32⟩
  | 61 => ⟨S473088x64, .f32⟩
  | 62 => ⟨S473088x64, .f32⟩
  | 63 => ⟨S_, .f32⟩
  | 64 => ⟨S473088x64, .f32⟩
  | 65 => ⟨S473088x64, .f32⟩
  | 66 => ⟨S_, .f32⟩
  | 67 => ⟨S473088x64, .f32⟩
  | 68 => ⟨S473088x64, .f32⟩
  | 69 => ⟨S473088x64, .f32⟩
  | 70 => ⟨S1x64x64, .f32⟩
  | 71 => ⟨S64x64, .f32⟩
  | 72 => ⟨S473088x64, .f32⟩
  | 73 => ⟨S1x64, .f32⟩
  | 74 => ⟨S64, .f32⟩
  | 75 => ⟨S1x64, .f32⟩
  | 76 => ⟨S473088x64, .f32⟩
  | 77 => ⟨S473088x64, .f32⟩
  | 78 => ⟨S473088x64, .f32⟩
  | 79 => ⟨S473088x64, .f32⟩
  | 80 => ⟨S_, .f32⟩
  | 81 => ⟨S473088x64, .f32⟩
  | 82 => ⟨S473088x64, .f32⟩
  | 83 => ⟨S_, .f32⟩
  | 84 => ⟨S473088x64, .f32⟩
  | 85 => ⟨S473088x64, .f32⟩
  | 86 => ⟨S473088x64, .f32⟩
  | 87 => ⟨S1x64x1, .f32⟩
  | 88 => ⟨S64x1, .f32⟩
  | 89 => ⟨S473088x1, .f32⟩
  | 90 => ⟨S1x1, .f32⟩
  | 91 => ⟨S1, .f32⟩
  | 92 => ⟨S1x1, .f32⟩
  | 93 => ⟨S473088x1, .f32⟩
  | 94 => ⟨S473088x1, .f32⟩
  | 95 => ⟨S473088x1, .f32⟩
  | 96 => ⟨S473088x1, .f32⟩
  | 97 => ⟨S_, .f32⟩
  | 98 => ⟨S473088x1, .f32⟩
  | 99 => ⟨S473088x1, .f32⟩
  | 100 => ⟨S_, .f32⟩
  | 101 => ⟨S473088x1, .f32⟩
  | 102 => ⟨S473088x1, .f32⟩
  | 103 => ⟨S473088x64, .f32⟩
  | 104 => ⟨S473088x64, .f32⟩
  | 105 => ⟨S1x64x64, .f32⟩
  | 106 => ⟨S64x64, .f32⟩
  | 107 => ⟨S473088x64, .f32⟩
  | 108 => ⟨S1x64, .f32⟩
  | 109 => ⟨S64, .f32⟩
  | 110 => ⟨S1x64, .f32⟩
  | 111 => ⟨S473088x64, .f32⟩
  | 112 => ⟨S473088x64, .f32⟩
  | 113 => ⟨S473088x64, .f32⟩
  | 114 => ⟨S473088x64, .f32⟩
  | 115 => ⟨S_, .f32⟩
  | 116 => ⟨S473088x64, .f32⟩
  | 117 => ⟨S473088x64, .f32⟩
  | 118 => ⟨S_, .f32⟩
  | 119 => ⟨S473088x64, .f32⟩
  | 120 => ⟨S473088x64, .f32⟩
  | 121 => ⟨S473088x64, .f32⟩
  | 122 => ⟨S1x64x1, .f32⟩
  | 123 => ⟨S64x1, .f32⟩
  | 124 => ⟨S473088x1, .f32⟩
  | 125 => ⟨S473088x1, .f32⟩
  | 126 => ⟨S_, .f32⟩
  | 127 => ⟨S473088x1, .f32⟩
  | _ => ⟨S1024, .f32⟩

abbrev hbmTy0_5 (i : Nat) : BufTy := match i % 128 with
  | 0 => ⟨S473088x1, .f32⟩
  | 1 => ⟨S473088x3, .f32⟩
  | 2 => ⟨S473088x3, .f32⟩
  | 3 => ⟨S_, .f32⟩
  | 4 => ⟨S22528x3, .f32⟩
  | 5 => ⟨S473088x1, .i32⟩
  | 6 => ⟨S22528x3, .f32⟩
  | 7 => ⟨S22528x3, .f32⟩
  | 8 => ⟨S_, .f32⟩
  | 9 => ⟨S22528x64, .f32⟩
  | 10 => ⟨S473088x1, .i32⟩
  | 11 => ⟨S22528x64, .f32⟩
  | 12 => ⟨S22528x128, .f32⟩
  | 13 => ⟨S1x128x64, .f32⟩
  | 14 => ⟨S128x64, .f32⟩
  | 15 => ⟨S22528x64, .f32⟩
  | 16 => ⟨S1x64, .f32⟩
  | 17 => ⟨S64, .f32⟩
  | 18 => ⟨S1x64, .f32⟩
  | 19 => ⟨S22528x64, .f32⟩
  | 20 => ⟨S22528x64, .f32⟩
  | 21 => ⟨S22528x64, .f32⟩
  | 22 => ⟨S22528x64, .f32⟩
  | 23 => ⟨S_, .f32⟩
  | 24 => ⟨S22528x64, .f32⟩
  | 25 => ⟨S22528x64, .f32⟩
  | 26 => ⟨S_, .f32⟩
  | 27 => ⟨S22528x64, .f32⟩
  | 28 => ⟨S22528x64, .f32⟩
  | 29 => ⟨S22528x64, .f32⟩
  | 30 => ⟨S1x64x64, .f32⟩
  | 31 => ⟨S64x64, .f32⟩
  | 32 => ⟨S22528x64, .f32⟩
  | 33 => ⟨S1x64, .f32⟩
  | 34 => ⟨S64, .f32⟩
  | 35 => ⟨S1x64, .f32⟩
  | 36 => ⟨S22528x64, .f32⟩
  | 37 => ⟨S22528x64, .f32⟩
  | 38 => ⟨S22528x64, .f32⟩
  | 39 => ⟨S_, .i32⟩
  | 40 => ⟨S473088, .i32⟩
  | 41 => ⟨S473088, .i1⟩
  | 42 => ⟨S_, .i32⟩
  | 43 => ⟨S473088, .i32⟩
  | 44 => ⟨S473088, .i32⟩
  | 45 => ⟨S473088, .i32⟩
  | 46 => ⟨S473088x1, .i32⟩
  | 47 => ⟨S473088x3, .f32⟩
  | 48 => ⟨S_, .i32⟩
  | 49 => ⟨S473088, .i32⟩
  | 50 => ⟨S473088, .i1⟩
  | 51 => ⟨S_, .i32⟩
  | 52 => ⟨S473088, .i32⟩
  | 53 => ⟨S473088, .i32⟩
  | 54 => ⟨S473088, .i32⟩
  | 55 => ⟨S473088x1, .i32⟩
  | 56 => ⟨S473088x3, .f32⟩
  | 57 => ⟨S473088x3, .f32⟩
  | 58 => ⟨S473088x3, .f32⟩
  | 59 => ⟨S_, .f32⟩
  | 60 => ⟨S473088, .f32⟩
  | 61 => ⟨S473088x1, .f32⟩
  | 62 => ⟨S_, .i32⟩
  | 63 => ⟨S473088, .i32⟩
  | 64 => ⟨S473088, .i1⟩
  | 65 => ⟨S_, .i32⟩
  | 66 => ⟨S473088, .i32⟩
  | 67 => ⟨S473088, .i32⟩
  | 68 => ⟨S473088, .i32⟩
  | 69 => ⟨S473088x1, .i32⟩
  | 70 => ⟨S473088x64, .f32⟩
  | 71 => ⟨S_, .i32⟩
  | 72 => ⟨S473088, .i32⟩
  | 73 => ⟨S473088, .i1⟩
  | 74 => ⟨S_, .i32⟩
  | 75 => ⟨S473088, .i32⟩
  | 76 => ⟨S473088, .i32⟩
  | 77 => ⟨S473088, .i32⟩
  | 78 => ⟨S473088x1, .i32⟩
  | 79 => ⟨S473088x64, .f32⟩
  | 80 => ⟨S473088x130, .f32⟩
  | 81 => ⟨S1x130x64, .f32⟩
  | 82 => ⟨S130x64, .f32⟩
  | 83 => ⟨S473088x64, .f32⟩
  | 84 => ⟨S1x64, .f32⟩
  | 85 => ⟨S64, .f32⟩
  | 86 => ⟨S1x64, .f32⟩
  | 87 => ⟨S473088x64, .f32⟩
  | 88 => ⟨S473088x64, .f32⟩
  | 89 => ⟨S473088x64, .f32⟩
  | 90 => ⟨S473088x64, .f32⟩
  | 91 => ⟨S_, .f32⟩
  | 92 => ⟨S473088x64, .f32⟩
  | 93 => ⟨S473088x64, .f32⟩
  | 94 => ⟨S_, .f32⟩
  | 95 => ⟨S473088x64, .f32⟩
  | 96 => ⟨S473088x64, .f32⟩
  | 97 => ⟨S473088x64, .f32⟩
  | 98 => ⟨S1x64x64, .f32⟩
  | 99 => ⟨S64x64, .f32⟩
  | 100 => ⟨S473088x64, .f32⟩
  | 101 => ⟨S1x64, .f32⟩
  | 102 => ⟨S64, .f32⟩
  | 103 => ⟨S1x64, .f32⟩
  | 104 => ⟨S473088x64, .f32⟩
  | 105 => ⟨S473088x64, .f32⟩
  | 106 => ⟨S473088x64, .f32⟩
  | 107 => ⟨S473088x64, .f32⟩
  | 108 => ⟨S_, .f32⟩
  | 109 => ⟨S473088x64, .f32⟩
  | 110 => ⟨S473088x64, .f32⟩
  | 111 => ⟨S_, .f32⟩
  | 112 => ⟨S473088x64, .f32⟩
  | 113 => ⟨S473088x64, .f32⟩
  | 114 => ⟨S473088x64, .f32⟩
  | 115 => ⟨S1x64x1, .f32⟩
  | 116 => ⟨S64x1, .f32⟩
  | 117 => ⟨S473088x1, .f32⟩
  | 118 => ⟨S1x1, .f32⟩
  | 119 => ⟨S1, .f32⟩
  | 120 => ⟨S1x1, .f32⟩
  | 121 => ⟨S473088x1, .f32⟩
  | 122 => ⟨S473088x1, .f32⟩
  | 123 => ⟨S473088x1, .f32⟩
  | 124 => ⟨S473088x1, .f32⟩
  | 125 => ⟨S_, .f32⟩
  | 126 => ⟨S473088x1, .f32⟩
  | 127 => ⟨S473088x1, .f32⟩
  | _ => ⟨S1024, .f32⟩

abbrev hbmTy0_6 (i : Nat) : BufTy := match i % 128 with
  | 0 => ⟨S_, .f32⟩
  | 1 => ⟨S473088x1, .f32⟩
  | 2 => ⟨S473088x1, .f32⟩
  | 3 => ⟨S473088x64, .f32⟩
  | 4 => ⟨S473088x64, .f32⟩
  | 5 => ⟨S1x64x64, .f32⟩
  | 6 => ⟨S64x64, .f32⟩
  | 7 => ⟨S473088x64, .f32⟩
  | 8 => ⟨S1x64, .f32⟩
  | 9 => ⟨S64, .f32⟩
  | 10 => ⟨S1x64, .f32⟩
  | 11 => ⟨S473088x64, .f32⟩
  | 12 => ⟨S473088x64, .f32⟩
  | 13 => ⟨S473088x64, .f32⟩
  | 14 => ⟨S473088x64, .f32⟩
  | 15 => ⟨S_, .f32⟩
  | 16 => ⟨S473088x64, .f32⟩
  | 17 => ⟨S473088x64, .f32⟩
  | 18 => ⟨S_, .f32⟩
  | 19 => ⟨S473088x64, .f32⟩
  | 20 => ⟨S473088x64, .f32⟩
  | 21 => ⟨S473088x64, .f32⟩
  | 22 => ⟨S1x64x1, .f32⟩
  | 23 => ⟨S64x1, .f32⟩
  | 24 => ⟨S473088x1, .f32⟩
  | 25 => ⟨S473088x1, .f32⟩
  | 26 => ⟨S_, .f32⟩
  | 27 => ⟨S473088x1, .f32⟩
  | 28 => ⟨S473088x1, .f32⟩
  | 29 => ⟨S473088x3, .f32⟩
  | 30 => ⟨S473088x3, .f32⟩
  | 31 => ⟨S_, .f32⟩
  | 32 => ⟨S22528x3, .f32⟩
  | 33 => ⟨S473088x1, .i32⟩
  | 34 => ⟨S22528x3, .f32⟩
  | 35 => ⟨S22528x3, .f32⟩
  | 36 => ⟨S_, .f32⟩
  | 37 => ⟨S22528x64, .f32⟩
  | 38 => ⟨S473088x1, .i32⟩
  | 39 => ⟨S22528x64, .f32⟩
  | 40 => ⟨S22528x128, .f32⟩
  | 41 => ⟨S1x128x64, .f32⟩
  | 42 => ⟨S128x64, .f32⟩
  | 43 => ⟨S22528x64, .f32⟩
  | 44 => ⟨S1x64, .f32⟩
  | 45 => ⟨S64, .f32⟩
  | 46 => ⟨S1x64, .f32⟩
  | 47 => ⟨S22528x64, .f32⟩
  | 48 => ⟨S22528x64, .f32⟩
  | 49 => ⟨S22528x64, .f32⟩
  | 50 => ⟨S22528x64, .f32⟩
  | 51 => ⟨S_, .f32⟩
  | 52 => ⟨S22528x64, .f32⟩
  | 53 => ⟨S22528x64, .f32⟩
  | 54 => ⟨S_, .f32⟩
  | 55 => ⟨S22528x64, .f32⟩
  | 56 => ⟨S22528x64, .f32⟩
  | 57 => ⟨S22528x64, .f32⟩
  | 58 => ⟨S1x64x64, .f32⟩
  | 59 => ⟨S64x64, .f32⟩
  | 60 => ⟨S22528x64, .f32⟩
  | 61 => ⟨S1x64, .f32⟩
  | 62 => ⟨S64, .f32⟩
  | 63 => ⟨S1x64, .f32⟩
  | 64 => ⟨S22528x64, .f32⟩
  | 65 => ⟨S22528x64, .f32⟩
  | 66 => ⟨S22528x64, .f32⟩
  | 67 => ⟨S22528x3, .f32⟩
  | 68 => ⟨S1024x22x3, .f32⟩
  | 69 => ⟨S_, .f32⟩
  | 70 => ⟨S1024x3, .f32⟩
  | 71 => ⟨S1024x1x3, .f32⟩
  | 72 => ⟨S_, .f32⟩
  | 73 => ⟨S1024x1x3, .f32⟩
  | 74 => ⟨S1024x1x3, .f32⟩
  | 75 => ⟨S1024x22x3, .f32⟩
  | 76 => ⟨S1024x22x3, .f32⟩
  | 77 => ⟨S1024x66, .f32⟩
  | _ => ⟨S1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_c_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_3 : Ref sig .tc := ⟨.hbm, 55, rfl⟩
abbrev main_v30 : Ref sig .tc := ⟨.hbm, 56, rfl⟩
abbrev main_v31 : Ref sig .tc := ⟨.hbm, 57, rfl⟩
abbrev main_c_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_5 : Ref sig .tc := ⟨.hbm, 64, rfl⟩
abbrev main_v37 : Ref sig .tc := ⟨.hbm, 65, rfl⟩
abbrev main_v38 : Ref sig .tc := ⟨.hbm, 66, rfl⟩
abbrev main_c_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_c_8 : Ref sig .tc := ⟨.hbm, 78, rfl⟩
abbrev main_v48 : Ref sig .tc := ⟨.hbm, 79, rfl⟩
abbrev main_v49 : Ref sig .tc := ⟨.hbm, 80, rfl⟩
abbrev main_c_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_14 : Ref sig .tc := ⟨.hbm, 124, rfl⟩
abbrev main_v88 : Ref sig .tc := ⟨.hbm, 125, rfl⟩
abbrev main_v89 : Ref sig .tc := ⟨.hbm, 126, rfl⟩
abbrev main_cst_15 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_16 : Ref sig .tc := ⟨.hbm, 141, rfl⟩
abbrev main_v103 : Ref sig .tc := ⟨.hbm, 142, rfl⟩
abbrev main_v104 : Ref sig .tc := ⟨.hbm, 143, rfl⟩
abbrev main_cst_17 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_18 : Ref sig .tc := ⟨.hbm, 159, rfl⟩
abbrev main_v119 : Ref sig .tc := ⟨.hbm, 160, rfl⟩
abbrev main_v120 : Ref sig .tc := ⟨.hbm, 161, rfl⟩
abbrev main_cst_19 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_20 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_21 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_22 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_23 : Ref sig .tc := ⟨.hbm, 195, rfl⟩
abbrev main_v150 : Ref sig .tc := ⟨.hbm, 196, rfl⟩
abbrev main_v151 : Ref sig .tc := ⟨.hbm, 197, rfl⟩
abbrev main_cst_24 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_c_25 : Ref sig .tc := ⟨.hbm, 211, rfl⟩
abbrev main_v164 : Ref sig .tc := ⟨.hbm, 212, rfl⟩
abbrev main_v165 : Ref sig .tc := ⟨.hbm, 213, rfl⟩
abbrev main_c_26 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_c_27 : Ref sig .tc := ⟨.hbm, 220, rfl⟩
abbrev main_v171 : Ref sig .tc := ⟨.hbm, 221, rfl⟩
abbrev main_v172 : Ref sig .tc := ⟨.hbm, 222, rfl⟩
abbrev main_c_28 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_29 : Ref sig .tc := ⟨.hbm, 231, rfl⟩
abbrev main_v180 : Ref sig .tc := ⟨.hbm, 232, rfl⟩
abbrev main_v181 : Ref sig .tc := ⟨.hbm, 233, rfl⟩
abbrev main_c_30 : Ref sig .tc := ⟨.hbm, 234, rfl⟩
abbrev main_v182 : Ref sig .tc := ⟨.hbm, 235, rfl⟩
abbrev main_v183 : Ref sig .tc := ⟨.hbm, 236, rfl⟩
abbrev main_c_31 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_c_32 : Ref sig .tc := ⟨.hbm, 243, rfl⟩
abbrev main_v189 : Ref sig .tc := ⟨.hbm, 244, rfl⟩
abbrev main_v190 : Ref sig .tc := ⟨.hbm, 245, rfl⟩
abbrev main_c_33 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_cst_34 : Ref sig .tc := ⟨.hbm, 263, rfl⟩
abbrev main_v207 : Ref sig .tc := ⟨.hbm, 264, rfl⟩
abbrev main_v208 : Ref sig .tc := ⟨.hbm, 265, rfl⟩
abbrev main_cst_35 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_cst_36 : Ref sig .tc := ⟨.hbm, 280, rfl⟩
abbrev main_v222 : Ref sig .tc := ⟨.hbm, 281, rfl⟩
abbrev main_v223 : Ref sig .tc := ⟨.hbm, 282, rfl⟩
abbrev main_cst_37 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_cst_38 : Ref sig .tc := ⟨.hbm, 297, rfl⟩
abbrev main_v237 : Ref sig .tc := ⟨.hbm, 298, rfl⟩
abbrev main_v238 : Ref sig .tc := ⟨.hbm, 299, rfl⟩
abbrev main_cst_39 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_cst_40 : Ref sig .tc := ⟨.hbm, 315, rfl⟩
abbrev main_v253 : Ref sig .tc := ⟨.hbm, 316, rfl⟩
abbrev main_v254 : Ref sig .tc := ⟨.hbm, 317, rfl⟩
abbrev main_cst_41 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_cst_42 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_cst_43 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_cst_44 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_cst_45 : Ref sig .tc := ⟨.hbm, 351, rfl⟩
abbrev main_v284 : Ref sig .tc := ⟨.hbm, 352, rfl⟩
abbrev main_v285 : Ref sig .tc := ⟨.hbm, 353, rfl⟩
abbrev main_cst_46 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_c_47 : Ref sig .tc := ⟨.hbm, 367, rfl⟩
abbrev main_v298 : Ref sig .tc := ⟨.hbm, 368, rfl⟩
abbrev main_v299 : Ref sig .tc := ⟨.hbm, 369, rfl⟩
abbrev main_c_48 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_c_49 : Ref sig .tc := ⟨.hbm, 376, rfl⟩
abbrev main_v305 : Ref sig .tc := ⟨.hbm, 377, rfl⟩
abbrev main_v306 : Ref sig .tc := ⟨.hbm, 378, rfl⟩
abbrev main_c_50 : Ref sig .tc := ⟨.hbm, 379, rfl⟩
abbrev main_v307 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_v311 : Ref sig .tc := ⟨.hbm, 384, rfl⟩
abbrev main_v312 : Ref sig .tc := ⟨.hbm, 385, rfl⟩
abbrev main_v313 : Ref sig .tc := ⟨.hbm, 386, rfl⟩
abbrev main_cst_51 : Ref sig .tc := ⟨.hbm, 387, rfl⟩
abbrev main_v314 : Ref sig .tc := ⟨.hbm, 388, rfl⟩
abbrev main_v315 : Ref sig .tc := ⟨.hbm, 389, rfl⟩
abbrev main_c_52 : Ref sig .tc := ⟨.hbm, 390, rfl⟩
abbrev main_v316 : Ref sig .tc := ⟨.hbm, 391, rfl⟩
abbrev main_v317 : Ref sig .tc := ⟨.hbm, 392, rfl⟩
abbrev main_c_53 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_v322 : Ref sig .tc := ⟨.hbm, 398, rfl⟩
abbrev main_c_54 : Ref sig .tc := ⟨.hbm, 399, rfl⟩
abbrev main_v323 : Ref sig .tc := ⟨.hbm, 400, rfl⟩
abbrev main_v324 : Ref sig .tc := ⟨.hbm, 401, rfl⟩
abbrev main_c_55 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_v331 : Ref sig .tc := ⟨.hbm, 409, rfl⟩
abbrev main_v332 : Ref sig .tc := ⟨.hbm, 410, rfl⟩
abbrev main_v333 : Ref sig .tc := ⟨.hbm, 411, rfl⟩
abbrev main_v334 : Ref sig .tc := ⟨.hbm, 412, rfl⟩
abbrev main_v335 : Ref sig .tc := ⟨.hbm, 413, rfl⟩
abbrev main_v336 : Ref sig .tc := ⟨.hbm, 414, rfl⟩
abbrev main_v337 : Ref sig .tc := ⟨.hbm, 415, rfl⟩
abbrev main_v338 : Ref sig .tc := ⟨.hbm, 416, rfl⟩
abbrev main_v339 : Ref sig .tc := ⟨.hbm, 417, rfl⟩
abbrev main_v340 : Ref sig .tc := ⟨.hbm, 418, rfl⟩
abbrev main_cst_56 : Ref sig .tc := ⟨.hbm, 419, rfl⟩
abbrev main_v341 : Ref sig .tc := ⟨.hbm, 420, rfl⟩
abbrev main_v342 : Ref sig .tc := ⟨.hbm, 421, rfl⟩
abbrev main_cst_57 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_v348 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_v352 : Ref sig .tc := ⟨.hbm, 432, rfl⟩
abbrev main_v353 : Ref sig .tc := ⟨.hbm, 433, rfl⟩
abbrev main_v354 : Ref sig .tc := ⟨.hbm, 434, rfl⟩
abbrev main_v355 : Ref sig .tc := ⟨.hbm, 435, rfl⟩
abbrev main_cst_58 : Ref sig .tc := ⟨.hbm, 436, rfl⟩
abbrev main_v356 : Ref sig .tc := ⟨.hbm, 437, rfl⟩
abbrev main_v357 : Ref sig .tc := ⟨.hbm, 438, rfl⟩
abbrev main_cst_59 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_v365 : Ref sig .tc := ⟨.hbm, 447, rfl⟩
abbrev main_v366 : Ref sig .tc := ⟨.hbm, 448, rfl⟩
abbrev main_v367 : Ref sig .tc := ⟨.hbm, 449, rfl⟩
abbrev main_v368 : Ref sig .tc := ⟨.hbm, 450, rfl⟩
abbrev main_v369 : Ref sig .tc := ⟨.hbm, 451, rfl⟩
abbrev main_v370 : Ref sig .tc := ⟨.hbm, 452, rfl⟩
abbrev main_cst_60 : Ref sig .tc := ⟨.hbm, 453, rfl⟩
abbrev main_v371 : Ref sig .tc := ⟨.hbm, 454, rfl⟩
abbrev main_v372 : Ref sig .tc := ⟨.hbm, 455, rfl⟩
abbrev main_cst_61 : Ref sig .tc := ⟨.hbm, 456, rfl⟩
abbrev main_v373 : Ref sig .tc := ⟨.hbm, 457, rfl⟩
abbrev main_v374 : Ref sig .tc := ⟨.hbm, 458, rfl⟩
abbrev main_v375 : Ref sig .tc := ⟨.hbm, 459, rfl⟩
abbrev main_v376 : Ref sig .tc := ⟨.hbm, 460, rfl⟩
abbrev main_v377 : Ref sig .tc := ⟨.hbm, 461, rfl⟩
abbrev main_v378 : Ref sig .tc := ⟨.hbm, 462, rfl⟩
abbrev main_v379 : Ref sig .tc := ⟨.hbm, 463, rfl⟩
abbrev main_v380 : Ref sig .tc := ⟨.hbm, 464, rfl⟩
abbrev main_v381 : Ref sig .tc := ⟨.hbm, 465, rfl⟩
abbrev main_v382 : Ref sig .tc := ⟨.hbm, 466, rfl⟩
abbrev main_v383 : Ref sig .tc := ⟨.hbm, 467, rfl⟩
abbrev main_v384 : Ref sig .tc := ⟨.hbm, 468, rfl⟩
abbrev main_v385 : Ref sig .tc := ⟨.hbm, 469, rfl⟩
abbrev main_v386 : Ref sig .tc := ⟨.hbm, 470, rfl⟩
abbrev main_cst_62 : Ref sig .tc := ⟨.hbm, 471, rfl⟩
abbrev main_v387 : Ref sig .tc := ⟨.hbm, 472, rfl⟩
abbrev main_v388 : Ref sig .tc := ⟨.hbm, 473, rfl⟩
abbrev main_cst_63 : Ref sig .tc := ⟨.hbm, 474, rfl⟩
abbrev main_v389 : Ref sig .tc := ⟨.hbm, 475, rfl⟩
abbrev main_v390 : Ref sig .tc := ⟨.hbm, 476, rfl⟩
abbrev main_v391 : Ref sig .tc := ⟨.hbm, 477, rfl⟩
abbrev main_v392 : Ref sig .tc := ⟨.hbm, 478, rfl⟩
abbrev main_v393 : Ref sig .tc := ⟨.hbm, 479, rfl⟩
abbrev main_v394 : Ref sig .tc := ⟨.hbm, 480, rfl⟩
abbrev main_v395 : Ref sig .tc := ⟨.hbm, 481, rfl⟩
abbrev main_cst_64 : Ref sig .tc := ⟨.hbm, 482, rfl⟩
abbrev main_v396 : Ref sig .tc := ⟨.hbm, 483, rfl⟩
abbrev main_v397 : Ref sig .tc := ⟨.hbm, 484, rfl⟩
abbrev main_v398 : Ref sig .tc := ⟨.hbm, 485, rfl⟩
abbrev main_v399 : Ref sig .tc := ⟨.hbm, 486, rfl⟩
abbrev main_cst_65 : Ref sig .tc := ⟨.hbm, 487, rfl⟩
abbrev main_v400 : Ref sig .tc := ⟨.hbm, 488, rfl⟩
abbrev main_v401 : Ref sig .tc := ⟨.hbm, 489, rfl⟩
abbrev main_v402 : Ref sig .tc := ⟨.hbm, 490, rfl⟩
abbrev main_v403 : Ref sig .tc := ⟨.hbm, 491, rfl⟩
abbrev main_cst_66 : Ref sig .tc := ⟨.hbm, 492, rfl⟩
abbrev main_v404 : Ref sig .tc := ⟨.hbm, 493, rfl⟩
abbrev main_v405 : Ref sig .tc := ⟨.hbm, 494, rfl⟩
abbrev main_v406 : Ref sig .tc := ⟨.hbm, 495, rfl⟩
abbrev main_v407 : Ref sig .tc := ⟨.hbm, 496, rfl⟩
abbrev main_v408 : Ref sig .tc := ⟨.hbm, 497, rfl⟩
abbrev main_v409 : Ref sig .tc := ⟨.hbm, 498, rfl⟩
abbrev main_v410 : Ref sig .tc := ⟨.hbm, 499, rfl⟩
abbrev main_v411 : Ref sig .tc := ⟨.hbm, 500, rfl⟩
abbrev main_v412 : Ref sig .tc := ⟨.hbm, 501, rfl⟩
abbrev main_v413 : Ref sig .tc := ⟨.hbm, 502, rfl⟩
abbrev main_v414 : Ref sig .tc := ⟨.hbm, 503, rfl⟩
abbrev main_v415 : Ref sig .tc := ⟨.hbm, 504, rfl⟩
abbrev main_v416 : Ref sig .tc := ⟨.hbm, 505, rfl⟩
abbrev main_v417 : Ref sig .tc := ⟨.hbm, 506, rfl⟩
abbrev main_cst_67 : Ref sig .tc := ⟨.hbm, 507, rfl⟩
abbrev main_v418 : Ref sig .tc := ⟨.hbm, 508, rfl⟩
abbrev main_v419 : Ref sig .tc := ⟨.hbm, 509, rfl⟩
abbrev main_cst_68 : Ref sig .tc := ⟨.hbm, 510, rfl⟩
abbrev main_v420 : Ref sig .tc := ⟨.hbm, 511, rfl⟩
abbrev main_v421 : Ref sig .tc := ⟨.hbm, 512, rfl⟩
abbrev main_v422 : Ref sig .tc := ⟨.hbm, 513, rfl⟩
abbrev main_v423 : Ref sig .tc := ⟨.hbm, 514, rfl⟩
abbrev main_v424 : Ref sig .tc := ⟨.hbm, 515, rfl⟩
abbrev main_v425 : Ref sig .tc := ⟨.hbm, 516, rfl⟩
abbrev main_v426 : Ref sig .tc := ⟨.hbm, 517, rfl⟩
abbrev main_v427 : Ref sig .tc := ⟨.hbm, 518, rfl⟩
abbrev main_v428 : Ref sig .tc := ⟨.hbm, 519, rfl⟩
abbrev main_v429 : Ref sig .tc := ⟨.hbm, 520, rfl⟩
abbrev main_v430 : Ref sig .tc := ⟨.hbm, 521, rfl⟩
abbrev main_v431 : Ref sig .tc := ⟨.hbm, 522, rfl⟩
abbrev main_c_69 : Ref sig .tc := ⟨.hbm, 523, rfl⟩
abbrev main_v432 : Ref sig .tc := ⟨.hbm, 524, rfl⟩
abbrev main_v433 : Ref sig .tc := ⟨.hbm, 525, rfl⟩
abbrev main_c_70 : Ref sig .tc := ⟨.hbm, 526, rfl⟩
abbrev main_v434 : Ref sig .tc := ⟨.hbm, 527, rfl⟩
abbrev main_v435 : Ref sig .tc := ⟨.hbm, 528, rfl⟩
abbrev main_v436 : Ref sig .tc := ⟨.hbm, 529, rfl⟩
abbrev main_v437 : Ref sig .tc := ⟨.hbm, 530, rfl⟩
abbrev main_v438 : Ref sig .tc := ⟨.hbm, 531, rfl⟩
abbrev main_c_71 : Ref sig .tc := ⟨.hbm, 532, rfl⟩
abbrev main_v439 : Ref sig .tc := ⟨.hbm, 533, rfl⟩
abbrev main_v440 : Ref sig .tc := ⟨.hbm, 534, rfl⟩
abbrev main_c_72 : Ref sig .tc := ⟨.hbm, 535, rfl⟩
abbrev main_v441 : Ref sig .tc := ⟨.hbm, 536, rfl⟩
abbrev main_v442 : Ref sig .tc := ⟨.hbm, 537, rfl⟩
abbrev main_v443 : Ref sig .tc := ⟨.hbm, 538, rfl⟩
abbrev main_v444 : Ref sig .tc := ⟨.hbm, 539, rfl⟩
abbrev main_v445 : Ref sig .tc := ⟨.hbm, 540, rfl⟩
abbrev main_v446 : Ref sig .tc := ⟨.hbm, 541, rfl⟩
abbrev main_v447 : Ref sig .tc := ⟨.hbm, 542, rfl⟩
abbrev main_cst_73 : Ref sig .tc := ⟨.hbm, 543, rfl⟩
abbrev main_v448 : Ref sig .tc := ⟨.hbm, 544, rfl⟩
abbrev main_v449 : Ref sig .tc := ⟨.hbm, 545, rfl⟩
abbrev main_c_74 : Ref sig .tc := ⟨.hbm, 546, rfl⟩
abbrev main_v450 : Ref sig .tc := ⟨.hbm, 547, rfl⟩
abbrev main_v451 : Ref sig .tc := ⟨.hbm, 548, rfl⟩
abbrev main_c_75 : Ref sig .tc := ⟨.hbm, 549, rfl⟩
abbrev main_v452 : Ref sig .tc := ⟨.hbm, 550, rfl⟩
abbrev main_v453 : Ref sig .tc := ⟨.hbm, 551, rfl⟩
abbrev main_v454 : Ref sig .tc := ⟨.hbm, 552, rfl⟩
abbrev main_v455 : Ref sig .tc := ⟨.hbm, 553, rfl⟩
abbrev main_v456 : Ref sig .tc := ⟨.hbm, 554, rfl⟩
abbrev main_c_76 : Ref sig .tc := ⟨.hbm, 555, rfl⟩
abbrev main_v457 : Ref sig .tc := ⟨.hbm, 556, rfl⟩
abbrev main_v458 : Ref sig .tc := ⟨.hbm, 557, rfl⟩
abbrev main_c_77 : Ref sig .tc := ⟨.hbm, 558, rfl⟩
abbrev main_v459 : Ref sig .tc := ⟨.hbm, 559, rfl⟩
abbrev main_v460 : Ref sig .tc := ⟨.hbm, 560, rfl⟩
abbrev main_v461 : Ref sig .tc := ⟨.hbm, 561, rfl⟩
abbrev main_v462 : Ref sig .tc := ⟨.hbm, 562, rfl⟩
abbrev main_v463 : Ref sig .tc := ⟨.hbm, 563, rfl⟩
abbrev main_v464 : Ref sig .tc := ⟨.hbm, 564, rfl⟩
abbrev main_v465 : Ref sig .tc := ⟨.hbm, 565, rfl⟩
abbrev main_v466 : Ref sig .tc := ⟨.hbm, 566, rfl⟩
abbrev main_v467 : Ref sig .tc := ⟨.hbm, 567, rfl⟩
abbrev main_v468 : Ref sig .tc := ⟨.hbm, 568, rfl⟩
abbrev main_v469 : Ref sig .tc := ⟨.hbm, 569, rfl⟩
abbrev main_v470 : Ref sig .tc := ⟨.hbm, 570, rfl⟩
abbrev main_v471 : Ref sig .tc := ⟨.hbm, 571, rfl⟩
abbrev main_v472 : Ref sig .tc := ⟨.hbm, 572, rfl⟩
abbrev main_v473 : Ref sig .tc := ⟨.hbm, 573, rfl⟩
abbrev main_v474 : Ref sig .tc := ⟨.hbm, 574, rfl⟩
abbrev main_cst_78 : Ref sig .tc := ⟨.hbm, 575, rfl⟩
abbrev main_v475 : Ref sig .tc := ⟨.hbm, 576, rfl⟩
abbrev main_v476 : Ref sig .tc := ⟨.hbm, 577, rfl⟩
abbrev main_cst_79 : Ref sig .tc := ⟨.hbm, 578, rfl⟩
abbrev main_v477 : Ref sig .tc := ⟨.hbm, 579, rfl⟩
abbrev main_v478 : Ref sig .tc := ⟨.hbm, 580, rfl⟩
abbrev main_v479 : Ref sig .tc := ⟨.hbm, 581, rfl⟩
abbrev main_v480 : Ref sig .tc := ⟨.hbm, 582, rfl⟩
abbrev main_v481 : Ref sig .tc := ⟨.hbm, 583, rfl⟩
abbrev main_v482 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_v486 : Ref sig .tc := ⟨.hbm, 588, rfl⟩
abbrev main_v487 : Ref sig .tc := ⟨.hbm, 589, rfl⟩
abbrev main_v488 : Ref sig .tc := ⟨.hbm, 590, rfl⟩
abbrev main_v489 : Ref sig .tc := ⟨.hbm, 591, rfl⟩
abbrev main_cst_80 : Ref sig .tc := ⟨.hbm, 592, rfl⟩
abbrev main_v490 : Ref sig .tc := ⟨.hbm, 593, rfl⟩
abbrev main_v491 : Ref sig .tc := ⟨.hbm, 594, rfl⟩
abbrev main_cst_81 : Ref sig .tc := ⟨.hbm, 595, rfl⟩
abbrev main_v492 : Ref sig .tc := ⟨.hbm, 596, rfl⟩
abbrev main_v493 : Ref sig .tc := ⟨.hbm, 597, rfl⟩
abbrev main_v494 : Ref sig .tc := ⟨.hbm, 598, rfl⟩
abbrev main_v495 : Ref sig .tc := ⟨.hbm, 599, rfl⟩
abbrev main_v496 : Ref sig .tc := ⟨.hbm, 600, rfl⟩
abbrev main_v497 : Ref sig .tc := ⟨.hbm, 601, rfl⟩
abbrev main_v498 : Ref sig .tc := ⟨.hbm, 602, rfl⟩
abbrev main_v499 : Ref sig .tc := ⟨.hbm, 603, rfl⟩
abbrev main_v500 : Ref sig .tc := ⟨.hbm, 604, rfl⟩
abbrev main_v501 : Ref sig .tc := ⟨.hbm, 605, rfl⟩
abbrev main_v502 : Ref sig .tc := ⟨.hbm, 606, rfl⟩
abbrev main_v503 : Ref sig .tc := ⟨.hbm, 607, rfl⟩
abbrev main_v504 : Ref sig .tc := ⟨.hbm, 608, rfl⟩
abbrev main_cst_82 : Ref sig .tc := ⟨.hbm, 609, rfl⟩
abbrev main_v505 : Ref sig .tc := ⟨.hbm, 610, rfl⟩
abbrev main_v506 : Ref sig .tc := ⟨.hbm, 611, rfl⟩
abbrev main_cst_83 : Ref sig .tc := ⟨.hbm, 612, rfl⟩
abbrev main_v507 : Ref sig .tc := ⟨.hbm, 613, rfl⟩
abbrev main_v508 : Ref sig .tc := ⟨.hbm, 614, rfl⟩
abbrev main_v509 : Ref sig .tc := ⟨.hbm, 615, rfl⟩
abbrev main_v510 : Ref sig .tc := ⟨.hbm, 616, rfl⟩
abbrev main_v511 : Ref sig .tc := ⟨.hbm, 617, rfl⟩
abbrev main_v512 : Ref sig .tc := ⟨.hbm, 618, rfl⟩
abbrev main_v513 : Ref sig .tc := ⟨.hbm, 619, rfl⟩
abbrev main_v514 : Ref sig .tc := ⟨.hbm, 620, rfl⟩
abbrev main_v515 : Ref sig .tc := ⟨.hbm, 621, rfl⟩
abbrev main_v516 : Ref sig .tc := ⟨.hbm, 622, rfl⟩
abbrev main_v517 : Ref sig .tc := ⟨.hbm, 623, rfl⟩
abbrev main_v518 : Ref sig .tc := ⟨.hbm, 624, rfl⟩
abbrev main_v519 : Ref sig .tc := ⟨.hbm, 625, rfl⟩
abbrev main_v520 : Ref sig .tc := ⟨.hbm, 626, rfl⟩
abbrev main_cst_84 : Ref sig .tc := ⟨.hbm, 627, rfl⟩
abbrev main_v521 : Ref sig .tc := ⟨.hbm, 628, rfl⟩
abbrev main_v522 : Ref sig .tc := ⟨.hbm, 629, rfl⟩
abbrev main_cst_85 : Ref sig .tc := ⟨.hbm, 630, rfl⟩
abbrev main_v523 : Ref sig .tc := ⟨.hbm, 631, rfl⟩
abbrev main_v524 : Ref sig .tc := ⟨.hbm, 632, rfl⟩
abbrev main_v525 : Ref sig .tc := ⟨.hbm, 633, rfl⟩
abbrev main_v526 : Ref sig .tc := ⟨.hbm, 634, rfl⟩
abbrev main_v527 : Ref sig .tc := ⟨.hbm, 635, rfl⟩
abbrev main_v528 : Ref sig .tc := ⟨.hbm, 636, rfl⟩
abbrev main_v529 : Ref sig .tc := ⟨.hbm, 637, rfl⟩
abbrev main_cst_86 : Ref sig .tc := ⟨.hbm, 638, rfl⟩
abbrev main_v530 : Ref sig .tc := ⟨.hbm, 639, rfl⟩
abbrev main_v531 : Ref sig .tc := ⟨.hbm, 640, rfl⟩
abbrev main_v532 : Ref sig .tc := ⟨.hbm, 641, rfl⟩
abbrev main_v533 : Ref sig .tc := ⟨.hbm, 642, rfl⟩
abbrev main_cst_87 : Ref sig .tc := ⟨.hbm, 643, rfl⟩
abbrev main_v534 : Ref sig .tc := ⟨.hbm, 644, rfl⟩
abbrev main_v535 : Ref sig .tc := ⟨.hbm, 645, rfl⟩
abbrev main_v536 : Ref sig .tc := ⟨.hbm, 646, rfl⟩
abbrev main_v537 : Ref sig .tc := ⟨.hbm, 647, rfl⟩
abbrev main_cst_88 : Ref sig .tc := ⟨.hbm, 648, rfl⟩
abbrev main_v538 : Ref sig .tc := ⟨.hbm, 649, rfl⟩
abbrev main_v539 : Ref sig .tc := ⟨.hbm, 650, rfl⟩
abbrev main_v540 : Ref sig .tc := ⟨.hbm, 651, rfl⟩
abbrev main_v541 : Ref sig .tc := ⟨.hbm, 652, rfl⟩
abbrev main_v542 : Ref sig .tc := ⟨.hbm, 653, rfl⟩
abbrev main_v543 : Ref sig .tc := ⟨.hbm, 654, rfl⟩
abbrev main_v544 : Ref sig .tc := ⟨.hbm, 655, rfl⟩
abbrev main_v545 : Ref sig .tc := ⟨.hbm, 656, rfl⟩
abbrev main_v546 : Ref sig .tc := ⟨.hbm, 657, rfl⟩
abbrev main_v547 : Ref sig .tc := ⟨.hbm, 658, rfl⟩
abbrev main_v548 : Ref sig .tc := ⟨.hbm, 659, rfl⟩
abbrev main_v549 : Ref sig .tc := ⟨.hbm, 660, rfl⟩
abbrev main_v550 : Ref sig .tc := ⟨.hbm, 661, rfl⟩
abbrev main_v551 : Ref sig .tc := ⟨.hbm, 662, rfl⟩
abbrev main_cst_89 : Ref sig .tc := ⟨.hbm, 663, rfl⟩
abbrev main_v552 : Ref sig .tc := ⟨.hbm, 664, rfl⟩
abbrev main_v553 : Ref sig .tc := ⟨.hbm, 665, rfl⟩
abbrev main_cst_90 : Ref sig .tc := ⟨.hbm, 666, rfl⟩
abbrev main_v554 : Ref sig .tc := ⟨.hbm, 667, rfl⟩
abbrev main_v555 : Ref sig .tc := ⟨.hbm, 668, rfl⟩
abbrev main_v556 : Ref sig .tc := ⟨.hbm, 669, rfl⟩
abbrev main_v557 : Ref sig .tc := ⟨.hbm, 670, rfl⟩
abbrev main_v558 : Ref sig .tc := ⟨.hbm, 671, rfl⟩
abbrev main_v559 : Ref sig .tc := ⟨.hbm, 672, rfl⟩
abbrev main_v560 : Ref sig .tc := ⟨.hbm, 673, rfl⟩
abbrev main_v561 : Ref sig .tc := ⟨.hbm, 674, rfl⟩
abbrev main_v562 : Ref sig .tc := ⟨.hbm, 675, rfl⟩
abbrev main_v563 : Ref sig .tc := ⟨.hbm, 676, rfl⟩
abbrev main_v564 : Ref sig .tc := ⟨.hbm, 677, rfl⟩
abbrev main_v565 : Ref sig .tc := ⟨.hbm, 678, rfl⟩
abbrev main_c_91 : Ref sig .tc := ⟨.hbm, 679, rfl⟩
abbrev main_v566 : Ref sig .tc := ⟨.hbm, 680, rfl⟩
abbrev main_v567 : Ref sig .tc := ⟨.hbm, 681, rfl⟩
abbrev main_c_92 : Ref sig .tc := ⟨.hbm, 682, rfl⟩
abbrev main_v568 : Ref sig .tc := ⟨.hbm, 683, rfl⟩
abbrev main_v569 : Ref sig .tc := ⟨.hbm, 684, rfl⟩
abbrev main_v570 : Ref sig .tc := ⟨.hbm, 685, rfl⟩
abbrev main_v571 : Ref sig .tc := ⟨.hbm, 686, rfl⟩
abbrev main_v572 : Ref sig .tc := ⟨.hbm, 687, rfl⟩
abbrev main_c_93 : Ref sig .tc := ⟨.hbm, 688, rfl⟩
abbrev main_v573 : Ref sig .tc := ⟨.hbm, 689, rfl⟩
abbrev main_v574 : Ref sig .tc := ⟨.hbm, 690, rfl⟩
abbrev main_c_94 : Ref sig .tc := ⟨.hbm, 691, rfl⟩
abbrev main_v575 : Ref sig .tc := ⟨.hbm, 692, rfl⟩
abbrev main_v576 : Ref sig .tc := ⟨.hbm, 693, rfl⟩
abbrev main_v577 : Ref sig .tc := ⟨.hbm, 694, rfl⟩
abbrev main_v578 : Ref sig .tc := ⟨.hbm, 695, rfl⟩
abbrev main_v579 : Ref sig .tc := ⟨.hbm, 696, rfl⟩
abbrev main_v580 : Ref sig .tc := ⟨.hbm, 697, rfl⟩
abbrev main_v581 : Ref sig .tc := ⟨.hbm, 698, rfl⟩
abbrev main_cst_95 : Ref sig .tc := ⟨.hbm, 699, rfl⟩
abbrev main_v582 : Ref sig .tc := ⟨.hbm, 700, rfl⟩
abbrev main_v583 : Ref sig .tc := ⟨.hbm, 701, rfl⟩
abbrev main_c_96 : Ref sig .tc := ⟨.hbm, 702, rfl⟩
abbrev main_v584 : Ref sig .tc := ⟨.hbm, 703, rfl⟩
abbrev main_v585 : Ref sig .tc := ⟨.hbm, 704, rfl⟩
abbrev main_c_97 : Ref sig .tc := ⟨.hbm, 705, rfl⟩
abbrev main_v586 : Ref sig .tc := ⟨.hbm, 706, rfl⟩
abbrev main_v587 : Ref sig .tc := ⟨.hbm, 707, rfl⟩
abbrev main_v588 : Ref sig .tc := ⟨.hbm, 708, rfl⟩
abbrev main_v589 : Ref sig .tc := ⟨.hbm, 709, rfl⟩
abbrev main_v590 : Ref sig .tc := ⟨.hbm, 710, rfl⟩
abbrev main_c_98 : Ref sig .tc := ⟨.hbm, 711, rfl⟩
abbrev main_v591 : Ref sig .tc := ⟨.hbm, 712, rfl⟩
abbrev main_v592 : Ref sig .tc := ⟨.hbm, 713, rfl⟩
abbrev main_c_99 : Ref sig .tc := ⟨.hbm, 714, rfl⟩
abbrev main_v593 : Ref sig .tc := ⟨.hbm, 715, rfl⟩
abbrev main_v594 : Ref sig .tc := ⟨.hbm, 716, rfl⟩
abbrev main_v595 : Ref sig .tc := ⟨.hbm, 717, rfl⟩
abbrev main_v596 : Ref sig .tc := ⟨.hbm, 718, rfl⟩
abbrev main_v597 : Ref sig .tc := ⟨.hbm, 719, rfl⟩
abbrev main_v598 : Ref sig .tc := ⟨.hbm, 720, rfl⟩
abbrev main_v599 : Ref sig .tc := ⟨.hbm, 721, rfl⟩
abbrev main_v600 : Ref sig .tc := ⟨.hbm, 722, rfl⟩
abbrev main_v601 : Ref sig .tc := ⟨.hbm, 723, rfl⟩
abbrev main_v602 : Ref sig .tc := ⟨.hbm, 724, rfl⟩
abbrev main_v603 : Ref sig .tc := ⟨.hbm, 725, rfl⟩
abbrev main_v604 : Ref sig .tc := ⟨.hbm, 726, rfl⟩
abbrev main_v605 : Ref sig .tc := ⟨.hbm, 727, rfl⟩
abbrev main_v606 : Ref sig .tc := ⟨.hbm, 728, rfl⟩
abbrev main_v607 : Ref sig .tc := ⟨.hbm, 729, rfl⟩
abbrev main_v608 : Ref sig .tc := ⟨.hbm, 730, rfl⟩
abbrev main_cst_100 : Ref sig .tc := ⟨.hbm, 731, rfl⟩
abbrev main_v609 : Ref sig .tc := ⟨.hbm, 732, rfl⟩
abbrev main_v610 : Ref sig .tc := ⟨.hbm, 733, rfl⟩
abbrev main_cst_101 : Ref sig .tc := ⟨.hbm, 734, rfl⟩
abbrev main_v611 : Ref sig .tc := ⟨.hbm, 735, rfl⟩
abbrev main_v612 : Ref sig .tc := ⟨.hbm, 736, rfl⟩
abbrev main_v613 : Ref sig .tc := ⟨.hbm, 737, rfl⟩
abbrev main_v614 : Ref sig .tc := ⟨.hbm, 738, rfl⟩
abbrev main_v615 : Ref sig .tc := ⟨.hbm, 739, rfl⟩
abbrev main_v616 : Ref sig .tc := ⟨.hbm, 740, rfl⟩
abbrev main_v617 : Ref sig .tc := ⟨.hbm, 741, rfl⟩
abbrev main_v618 : Ref sig .tc := ⟨.hbm, 742, rfl⟩
abbrev main_v619 : Ref sig .tc := ⟨.hbm, 743, rfl⟩
abbrev main_v620 : Ref sig .tc := ⟨.hbm, 744, rfl⟩
abbrev main_v621 : Ref sig .tc := ⟨.hbm, 745, rfl⟩
abbrev main_v622 : Ref sig .tc := ⟨.hbm, 746, rfl⟩
abbrev main_v623 : Ref sig .tc := ⟨.hbm, 747, rfl⟩
abbrev main_cst_102 : Ref sig .tc := ⟨.hbm, 748, rfl⟩
abbrev main_v624 : Ref sig .tc := ⟨.hbm, 749, rfl⟩
abbrev main_v625 : Ref sig .tc := ⟨.hbm, 750, rfl⟩
abbrev main_cst_103 : Ref sig .tc := ⟨.hbm, 751, rfl⟩
abbrev main_v626 : Ref sig .tc := ⟨.hbm, 752, rfl⟩
abbrev main_v627 : Ref sig .tc := ⟨.hbm, 753, rfl⟩
abbrev main_v628 : Ref sig .tc := ⟨.hbm, 754, rfl⟩
abbrev main_v629 : Ref sig .tc := ⟨.hbm, 755, rfl⟩
abbrev main_v630 : Ref sig .tc := ⟨.hbm, 756, rfl⟩
abbrev main_v631 : Ref sig .tc := ⟨.hbm, 757, rfl⟩
abbrev main_v632 : Ref sig .tc := ⟨.hbm, 758, rfl⟩
abbrev main_v633 : Ref sig .tc := ⟨.hbm, 759, rfl⟩
abbrev main_v634 : Ref sig .tc := ⟨.hbm, 760, rfl⟩
abbrev main_v635 : Ref sig .tc := ⟨.hbm, 761, rfl⟩
abbrev main_v636 : Ref sig .tc := ⟨.hbm, 762, rfl⟩
abbrev main_v637 : Ref sig .tc := ⟨.hbm, 763, rfl⟩
abbrev main_v638 : Ref sig .tc := ⟨.hbm, 764, rfl⟩
abbrev main_cst_104 : Ref sig .tc := ⟨.hbm, 765, rfl⟩
abbrev main_v639 : Ref sig .tc := ⟨.hbm, 766, rfl⟩
abbrev main_v640 : Ref sig .tc := ⟨.hbm, 767, rfl⟩
abbrev main_cst_105 : Ref sig .tc := ⟨.hbm, 768, rfl⟩
abbrev main_v641 : Ref sig .tc := ⟨.hbm, 769, rfl⟩
abbrev main_v642 : Ref sig .tc := ⟨.hbm, 770, rfl⟩
abbrev main_v643 : Ref sig .tc := ⟨.hbm, 771, rfl⟩
abbrev main_v644 : Ref sig .tc := ⟨.hbm, 772, rfl⟩
abbrev main_v645 : Ref sig .tc := ⟨.hbm, 773, rfl⟩
abbrev main_v646 : Ref sig .tc := ⟨.hbm, 774, rfl⟩
abbrev main_v647 : Ref sig .tc := ⟨.hbm, 775, rfl⟩
abbrev main_v648 : Ref sig .tc := ⟨.hbm, 776, rfl⟩
abbrev main_v649 : Ref sig .tc := ⟨.hbm, 777, rfl⟩
abbrev main_v650 : Ref sig .tc := ⟨.hbm, 778, rfl⟩
abbrev main_v651 : Ref sig .tc := ⟨.hbm, 779, rfl⟩
abbrev main_v652 : Ref sig .tc := ⟨.hbm, 780, rfl⟩
abbrev main_v653 : Ref sig .tc := ⟨.hbm, 781, rfl⟩
abbrev main_v654 : Ref sig .tc := ⟨.hbm, 782, rfl⟩
abbrev main_cst_106 : Ref sig .tc := ⟨.hbm, 783, rfl⟩
abbrev main_v655 : Ref sig .tc := ⟨.hbm, 784, rfl⟩
abbrev main_v656 : Ref sig .tc := ⟨.hbm, 785, rfl⟩
abbrev main_cst_107 : Ref sig .tc := ⟨.hbm, 786, rfl⟩
abbrev main_v657 : Ref sig .tc := ⟨.hbm, 787, rfl⟩
abbrev main_v658 : Ref sig .tc := ⟨.hbm, 788, rfl⟩
abbrev main_v659 : Ref sig .tc := ⟨.hbm, 789, rfl⟩
abbrev main_v660 : Ref sig .tc := ⟨.hbm, 790, rfl⟩
abbrev main_v661 : Ref sig .tc := ⟨.hbm, 791, rfl⟩
abbrev main_v662 : Ref sig .tc := ⟨.hbm, 792, rfl⟩
abbrev main_v663 : Ref sig .tc := ⟨.hbm, 793, rfl⟩
abbrev main_cst_108 : Ref sig .tc := ⟨.hbm, 794, rfl⟩
abbrev main_v664 : Ref sig .tc := ⟨.hbm, 795, rfl⟩
abbrev main_v665 : Ref sig .tc := ⟨.hbm, 796, rfl⟩
abbrev main_v666 : Ref sig .tc := ⟨.hbm, 797, rfl⟩
abbrev main_v667 : Ref sig .tc := ⟨.hbm, 798, rfl⟩
abbrev main_cst_109 : Ref sig .tc := ⟨.hbm, 799, rfl⟩
abbrev main_v668 : Ref sig .tc := ⟨.hbm, 800, rfl⟩
abbrev main_v669 : Ref sig .tc := ⟨.hbm, 801, rfl⟩
abbrev main_v670 : Ref sig .tc := ⟨.hbm, 802, rfl⟩
abbrev main_v671 : Ref sig .tc := ⟨.hbm, 803, rfl⟩
abbrev main_cst_110 : Ref sig .tc := ⟨.hbm, 804, rfl⟩
abbrev main_v672 : Ref sig .tc := ⟨.hbm, 805, rfl⟩
abbrev main_v673 : Ref sig .tc := ⟨.hbm, 806, rfl⟩
abbrev main_v674 : Ref sig .tc := ⟨.hbm, 807, rfl⟩
abbrev main_v675 : Ref sig .tc := ⟨.hbm, 808, rfl⟩
abbrev main_v676 : Ref sig .tc := ⟨.hbm, 809, rfl⟩
abbrev main_v677 : Ref sig .tc := ⟨.hbm, 810, rfl⟩
abbrev main_v678 : Ref sig .tc := ⟨.hbm, 811, rfl⟩
abbrev main_v679 : Ref sig .tc := ⟨.hbm, 812, rfl⟩
abbrev main_v680 : Ref sig .tc := ⟨.hbm, 813, rfl⟩
abbrev main_v681 : Ref sig .tc := ⟨.hbm, 814, rfl⟩
abbrev main_v682 : Ref sig .tc := ⟨.hbm, 815, rfl⟩
abbrev main_v683 : Ref sig .tc := ⟨.hbm, 816, rfl⟩
abbrev main_v684 : Ref sig .tc := ⟨.hbm, 817, rfl⟩
abbrev main_v685 : Ref sig .tc := ⟨.hbm, 818, rfl⟩
abbrev main_cst_111 : Ref sig .tc := ⟨.hbm, 819, rfl⟩
abbrev main_v686 : Ref sig .tc := ⟨.hbm, 820, rfl⟩
abbrev main_v687 : Ref sig .tc := ⟨.hbm, 821, rfl⟩
abbrev main_cst_112 : Ref sig .tc := ⟨.hbm, 822, rfl⟩
abbrev main_v688 : Ref sig .tc := ⟨.hbm, 823, rfl⟩
abbrev main_v689 : Ref sig .tc := ⟨.hbm, 824, rfl⟩
abbrev main_v690 : Ref sig .tc := ⟨.hbm, 825, rfl⟩
abbrev main_v691 : Ref sig .tc := ⟨.hbm, 826, rfl⟩
abbrev main_v692 : Ref sig .tc := ⟨.hbm, 827, rfl⟩
abbrev main_v693 : Ref sig .tc := ⟨.hbm, 828, rfl⟩
abbrev main_v694 : Ref sig .tc := ⟨.hbm, 829, rfl⟩
abbrev main_v695 : Ref sig .tc := ⟨.hbm, 830, rfl⟩
abbrev main_v696 : Ref sig .tc := ⟨.hbm, 831, rfl⟩
abbrev main_v697 : Ref sig .tc := ⟨.hbm, 832, rfl⟩
abbrev main_v698 : Ref sig .tc := ⟨.hbm, 833, rfl⟩
abbrev main_v699 : Ref sig .tc := ⟨.hbm, 834, rfl⟩
abbrev main_v700 : Ref sig .tc := ⟨.hbm, 835, rfl⟩
abbrev main_v701 : Ref sig .tc := ⟨.hbm, 836, rfl⟩
abbrev main_cst_113 : Ref sig .tc := ⟨.hbm, 837, rfl⟩
abbrev main_v702 : Ref sig .tc := ⟨.hbm, 838, rfl⟩
abbrev main_v703 : Ref sig .tc := ⟨.hbm, 839, rfl⟩
abbrev main_cst_114 : Ref sig .tc := ⟨.hbm, 840, rfl⟩
abbrev main_v704 : Ref sig .tc := ⟨.hbm, 841, rfl⟩
abbrev main_v705 : Ref sig .tc := ⟨.hbm, 842, rfl⟩
abbrev main_v706 : Ref sig .tc := ⟨.hbm, 843, rfl⟩
abbrev main_v707 : Ref sig .tc := ⟨.hbm, 844, rfl⟩
abbrev main_v708 : Ref sig .tc := ⟨.hbm, 845, rfl⟩

abbrev nD : Nat := 1
abbrev τ : Topo := Topo.v7x

variable {F : FTy → Type} [FloatOps F]
-- ==== Proof.Spec.lean ====
/-
  The mathematics both programs compute, written over the extended reals for ONE sample of the batch: 22 particles,
  each with 64 features and a position in three coordinates. Nothing here speaks of tiles, lanes or edges' lists.
-/
module

public import Idealize.ShloMosaic.PureOps.Ideal
public import Mathlib.Algebra.BigOperators.Fin

@[expose] public section

noncomputable section

open Idealize.ShloMosaic

namespace Egnn

/-- The weights of one layer, as plain functions of their indices. -/
structure Wts where
  w1 : Fin 130 → Fin 64 → EReal
  b1 : Fin 64 → EReal
  w2 : Fin 64 → Fin 64 → EReal
  b2 : Fin 64 → EReal
  aw : Fin 64 → EReal
  ab : EReal
  n1 : Fin 128 → Fin 64 → EReal
  nb1 : Fin 64 → EReal
  n2 : Fin 64 → Fin 64 → EReal
  nb2 : Fin 64 → EReal
  c1 : Fin 64 → Fin 64 → EReal
  cb1 : Fin 64 → EReal
  c2 : Fin 64 → EReal

/-- The activation `v ↦ v · logistic v`. -/
def silu (v : EReal) : EReal := v * Ideal.logistic v

/-- A dense layer of width 64: `f · w + b` at column `k`. -/
def lin (w : Fin 64 → Fin 64 → EReal) (b : Fin 64 → EReal) (f : Fin 64 → EReal) (k : Fin 64) : EReal :=
  (∑ a, f a * w a k) + b k

/-- The edge network's first layer before its activation, from the receiver's features `u`, the sender's features
    `v`, the squared distance `r` now and the squared distance `e` at the start. -/
def pre1 (W : Wts) (u v : Fin 64 → EReal) (r e : EReal) (k : Fin 64) : EReal :=
  ((((∑ a : Fin 64, u a * W.w1 ⟨a.val, by omega⟩ k) + ∑ a : Fin 64, v a * W.w1 ⟨64 + a.val, by omega⟩ k)
    + r * W.w1 128 k) + e * W.w1 129 k) + W.b1 k

/-- The edge network's second layer. -/
def msg2 (W : Wts) (u v : Fin 64 → EReal) (r e : EReal) (k : Fin 64) : EReal :=
  silu (lin W.w2 W.b2 (fun a => silu (pre1 W u v r e a)) k)

/-- The attention gate of an edge whose second layer is `m`. -/
def gate (W : Wts) (m : Fin 64 → EReal) : EReal := Ideal.logistic ((∑ a, m a * W.aw a) + W.ab)

/-- The message of an edge: the second layer times its gate. -/
def msg (W : Wts) (u v : Fin 64 → EReal) (r e : EReal) (k : Fin 64) : EReal :=
  msg2 W u v r e k * gate W (msg2 W u v r e)

/-- The scalar an edge with message `m` multiplies its difference of positions by. -/
def coef (W : Wts) (m : Fin 64 → EReal) : EReal :=
  Ideal.tanh (∑ a, silu (lin W.c1 W.cb1 m a) * W.c2 a) * Ideal.ofBits .f32 0x40400000#32

/-- The node network with its residual: new features from the old ones `u` and the summed messages `g`. -/
def node (W : Wts) (u g : Fin 64 → EReal) (k : Fin 64) : EReal :=
  u k + lin W.n2 W.nb2 (fun a => silu (((∑ x : Fin 64, u x * W.n1 ⟨x.val, by omega⟩ a)
    + ∑ x : Fin 64, g x * W.n1 ⟨64 + x.val, by omega⟩ a) + W.nb1 a)) k

/-- The squared distance between two positions. -/
def dist2 (p q : Fin 3 → EReal) : EReal := ∑ d, (p d - q d) * (p d - q d)

/-- Features of the 22 particles of one sample. -/
abbrev Feat := Fin 22 → Fin 64 → EReal
/-- Positions of the 22 particles of one sample. -/
abbrev Posn := Fin 22 → Fin 3 → EReal

/-- The message from particle `j` to particle `i`. -/
def edgeMsg (W : Wts) (x0 x : Posn) (h : Feat) (i j : Fin 22) : Fin 64 → EReal :=
  msg W (h i) (h j) (dist2 (x i) (x j)) (dist2 (x0 i) (x0 j))

/-- One layer's new positions. -/
def stepX (W : Wts) (x0 x : Posn) (h : Feat) : Posn := fun i d =>
  x i d + ∑ j, if j = i then 0 else (x i d - x j d) * coef W (edgeMsg W x0 x h i j)

/-- One layer's new features. -/
def stepH (W : Wts) (x0 x : Posn) (h : Feat) : Feat := fun i k =>
  node W (h i) (fun c => ∑ j, if j = i then 0 else edgeMsg W x0 x h i j c) k

/-- Positions and features after the first `n` layers, from the starting ones. -/
def run (W : ℕ → Wts) (x0 : Posn) (h0 : Feat) : ℕ → Posn × Feat
  | 0 => (x0, h0)
  | n + 1 => (stepX (W n) x0 (run W x0 h0 n).1 (run W x0 h0 n).2, stepH (W n) x0 (run W x0 h0 n).1 (run W x0 h0 n).2)

/-- The starting features: an embedding of the fixed one-hot rows and of the sample's time. -/
def embed (hi : Fin 22 → Fin 21 → EReal) (ew : Fin 22 → Fin 64 → EReal) (eb : Fin 64 → EReal) (t : EReal) : Feat :=
  fun i k => ((∑ a : Fin 21, hi i a * ew ⟨a.val, by omega⟩ k) + t * ew 21 k) + eb k

/-- The velocity of a particle: its whole displacement. -/
def vel (x0 x : Posn) : Posn := fun i d => x i d - x0 i d

/-- The result: the velocity less its mean over the particles. -/
def out (x0 x : Posn) : Posn := fun i d => vel x0 x i d - (∑ j, vel x0 x j d) * ((1 / 22 : ℝ) : EReal)

end Egnn
-- ==== Proof.Common.lean ====
/-
  The result both programs compute, from the arguments as arrays.
-/
module

public import proofs.«01_k».proof.Proof.Spec
public import Idealize.ShloMosaic.Lib.Pointwise

@[expose] public section

noncomputable section

open Idealize.ShloMosaic

namespace Egnn

/-- The arguments the result depends on, the edge lists apart. -/
structure In where
  t : FVec Ideal ⟨1, ![1024]⟩ .f32
  x : FVec Ideal ⟨2, ![1024, 66]⟩ .f32
  hi : FVec Ideal ⟨2, ![22, 21]⟩ .f32
  ew : FVec Ideal ⟨2, ![22, 64]⟩ .f32
  eb : FVec Ideal ⟨1, ![64]⟩ .f32
  w1 : FVec Ideal ⟨3, ![5, 130, 64]⟩ .f32
  b1 : FVec Ideal ⟨2, ![5, 64]⟩ .f32
  w2 : FVec Ideal ⟨3, ![5, 64, 64]⟩ .f32
  b2 : FVec Ideal ⟨2, ![5, 64]⟩ .f32
  aw : FVec Ideal ⟨3, ![5, 64, 1]⟩ .f32
  ab : FVec Ideal ⟨2, ![5, 1]⟩ .f32
  n1 : FVec Ideal ⟨3, ![5, 128, 64]⟩ .f32
  nb1 : FVec Ideal ⟨2, ![5, 64]⟩ .f32
  n2 : FVec Ideal ⟨3, ![5, 64, 64]⟩ .f32
  nb2 : FVec Ideal ⟨2, ![5, 64]⟩ .f32
  c1 : FVec Ideal ⟨3, ![5, 64, 64]⟩ .f32
  cb1 : FVec Ideal ⟨2, ![5, 64]⟩ .f32
  c2 : FVec Ideal ⟨3, ![5, 64, 1]⟩ .f32

namespace In

variable (A : In)

/-- Layer `l`'s weights. -/
def wl (l : Fin 5) : Wts where
  w1 a k := A.w1 (ix3 l a k)
  b1 k := A.b1 (ix2 l k)
  w2 a k := A.w2 (ix3 l a k)
  b2 k := A.b2 (ix2 l k)
  aw a := A.aw (ix3 l a 0)
  ab := A.ab (ix2 l 0)
  n1 a k := A.n1 (ix3 l a k)
  nb1 k := A.nb1 (ix2 l k)
  n2 a k := A.n2 (ix3 l a k)
  nb2 k := A.nb2 (ix2 l k)
  c1 a k := A.c1 (ix3 l a k)
  cb1 k := A.cb1 (ix2 l k)
  c2 a := A.c2 (ix3 l a 0)

/-- The layers' weights by number. -/
def wn (n : ℕ) : Wts := A.wl ⟨n % 5, Nat.mod_lt _ (by omega)⟩

/-- A layer's weights by its number. -/
theorem wn_val (l : Fin 5) : A.wn l.val = A.wl l :=
  congrArg A.wl (Fin.ext (Nat.mod_eq_of_lt l.isLt))

/-- Sample `b`'s positions. -/
def x0 (b : Fin 1024) : Posn := fun i d => A.x (ix2 b ⟨i.val * 3 + d.val, by omega⟩)

/-- Sample `b`'s starting features. -/
def h0 (b : Fin 1024) : Feat :=
  embed (fun i a => A.hi (ix2 i a)) (fun a k => A.ew (ix2 a k)) (fun k => A.eb (ix1 k)) (A.t (ix1 b))

/-- The result of sample `b`. -/
def res (b : Fin 1024) : Posn := out (A.x0 b) (run A.wn (A.x0 b) (A.h0 b) 5).1

end In

end Egnn

end
-- ==== Proof.KLayer.lean ====
/-
  One layer of the kernel's body, read at an index: from the payloads of the first layer (each a function of its
  operands) to the layer of `Spec.lean`. Rows of the edge matrices are (sample, sender group, receiver) and lanes are
  (sender within its group, feature); the block-diagonal weights keep the four senders of a row apart, and the masks
  drop the padded senders and the receiver itself.
-/
module

public import proofs.«01_k».proof.Proof.Gen.KernelIdeal.Skeleton
public import proofs.«01_k».proof.Proof.Spec
public import Idealize.ShloMosaic.Lib.Pointwise

@[expose] public section

noncomputable section

open Idealize.ShloMosaic

namespace Cert.KernelIdeal.KL

open Cert.KernelIdeal Cert.KernelIdeal.Gen Egnn

/-- The row of the edge matrix of sample `b`, sender group `jh` and receiver `i`. -/
def rowE (b : Fin 8) (jh : Fin 6) (i : Fin 24) : Fin 1152 := ⟨b.val * 144 + jh.val * 24 + i.val, by omega⟩
/-- The lane of sender `q` of its group and feature `k`. -/
def lane (q : Fin 4) (k : Fin 64) : Fin 256 := ⟨q.val * 64 + k.val, by omega⟩
/-- The row of the feature matrix of sample `b` and particle `i`. -/
def nrow (b : Fin 8) (i : Fin 24) : Fin 192 := ⟨b.val * 24 + i.val, by omega⟩
/-- The sender number `q` of group `jh`. -/
def snd (jh : Fin 6) (q : Fin 4) : Fin 24 := ⟨jh.val * 4 + q.val, by omega⟩

/-- A sum over the 256 lanes is a sum over senders of a group and features. -/
theorem sum_lanes (f : Fin 256 → EReal) : ∑ l, f l = ∑ q : Fin 4, ∑ k : Fin 64, f (lane q k) := by
  rw [← Fintype.sum_prod_type' (f := fun q k => f (lane q k))]
  refine (Fintype.sum_equiv (finProdFinEquiv (m := 4) (n := 64)) _ _ fun p => ?_).symm
  congr 1
  refine Fin.ext ?_
  simp only [lane, finProdFinEquiv_apply_val]
  omega

/-- A sum over sender groups and senders of a group is a sum over the 24 senders. -/
theorem sum_senders (f : Fin 24 → EReal) : ∑ jh : Fin 6, ∑ q : Fin 4, f (snd jh q) = ∑ j, f j := by
  rw [← Fintype.sum_prod_type' (f := fun jh q => f (snd jh q))]
  refine Fintype.sum_equiv (finProdFinEquiv (m := 6) (n := 4)) _ _ fun p => ?_
  congr 1
  refine Fin.ext ?_
  simp only [snd, finProdFinEquiv_apply_val]
  omega

/-- A block-diagonal weight keeps one sender's part of the sum over lanes. -/
theorem sum_block (f : Fin 256 → EReal) (w : Fin 256 → EReal) (q : Fin 4) (v : Fin 64 → EReal)
    (hw : ∀ q' c, w (lane q' c) = if q' = q then v c else 0) :
    ∑ l, f l * w l = ∑ c, f (lane q c) * v c := by
  rw [sum_lanes, Finset.sum_eq_single q]
  · refine Finset.sum_congr rfl fun c _ => ?_
    rw [hw, if_pos rfl]
  · intro q' _ hne
    refine Finset.sum_eq_zero fun c _ => ?_
    rw [hw, if_neg hne, mul_zero]
  · intro h; exact absurd (Finset.mem_univ _) h

/-! ### Where a lane falls among the four groups of 64 -/

theorem la0 (k : Fin 64) : ¬ (128 + k.val < 64) := by omega
theorem la1 (k : Fin 64) : ¬ (128 + k.val - 64 < 64) := by omega
theorem la2 (k : Fin 64) : 128 + k.val - 64 - 64 < 64 := by omega
theorem la3 (k : Fin 64) : ¬ (192 + k.val < 64) := by omega
theorem la4 (k : Fin 64) : ¬ (192 + k.val - 64 < 64) := by omega
theorem la5 (k : Fin 64) : ¬ (192 + k.val - 64 - 64 < 64) := by omega
theorem la6 (k : Fin 64) : 128 + k.val - 64 - 64 = k.val := by omega
theorem la7 (k : Fin 64) : 192 + k.val - 64 - 64 - 64 = k.val := by omega

/-! ## The masks -/

/-- The number of a lane's sender within its group, as the body computes it. -/
theorem lane_div (q : Fin 4) (k : Fin 64) :
    (Scalar.select
      (IntOp.andi
        (IntOp.cmpi CmpIPredicate.ne
          (IntOp.subi (BitVec.setWidth 32 (IntOp.cmpi CmpIPredicate.sgt (BitVec.ofNat 32 (lane q k).val) 0#32))
            (BitVec.setWidth 32 (IntOp.cmpi CmpIPredicate.slt (BitVec.ofNat 32 (lane q k).val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 (lane q k).val) 64#32) 0#32))
      (IntOp.subi (IntOp.divsi ArithUnit.vector (BitVec.ofNat 32 (lane q k).val) 64#32) 1#32)
      (IntOp.divsi ArithUnit.vector (BitVec.ofNat 32 (lane q k).val) 64#32)) = BitVec.ofNat 32 q.val := by
  revert q k
  decide +kernel

/-- The two comparisons of a mask, as a word. -/
theorem mask_word (jh : Fin 6) (i : Fin 24) (q : Fin 4) : (BitVec.setWidth 32
        (IntOp.andi
          (IntOp.cmpi CmpIPredicate.ne (IntOp.addi (IntOp.muli (BitVec.ofNat 32 jh.val) 4#32) (BitVec.ofNat 32 q.val))
            (BitVec.ofNat 32 i.val))
          (IntOp.cmpi CmpIPredicate.slt (IntOp.addi (IntOp.muli (BitVec.ofNat 32 jh.val) 4#32) (BitVec.ofNat 32 q.val))
            22#32))).toInt = if snd jh q ≠ i ∧ (snd jh q).val < 22 then 1 else 0 := by
  revert jh i q
  decide +kernel

/-- The message mask: one where the sender is another particle and not padding, on every feature's lane. -/
theorem amask_apply (jh : Fin 6) (i : Fin 24) (q : Fin 4) (k : Fin 64) :
    k0_pay2 (F := Ideal) (ix4 0 jh i (lane q k)) = if snd jh q ≠ i ∧ (snd jh q).val < 22 then 1 else 0 := by
  unfold k0_pay2
  pointwise
  rw [lane_div]
  show (((BitVec.toInt _ : ℤ) : ℝ) : EReal) = _
  rw [mask_word]
  split <;> simp

/-- The scalar mask: the same condition, one lane per sender. -/
theorem smask_apply (jh : Fin 6) (i : Fin 24) (q : Fin 4) :
    k0_pay3 (F := Ideal) (ix4 0 jh i q) = if snd jh q ≠ i ∧ (snd jh q).val < 22 then 1 else 0 := by
  unfold k0_pay3
  pointwise
  show (((BitVec.toInt _ : ℤ) : ℝ) : EReal) = _
  rw [mask_word]
  split <;> simp

/-- The particle mask: one on the 22 particles, zero on the padding. -/
theorem nmask_apply (i : Fin 24) : k0_pay4 (F := Ideal) (ix3 0 i 0) = if i.val < 22 then 1 else 0 := by
  unfold k0_pay4
  pointwise
  have h : ∀ i : Fin 24, (BitVec.setWidth 32 (IntOp.cmpi CmpIPredicate.slt (BitVec.ofNat 32 ↑i) 22#32)).toInt
      = if i.val < 22 then 1 else 0 := by decide +kernel
  show (((BitVec.toInt _ : ℤ) : ℝ) : EReal) = _
  rw [h]
  split <;> simp

/-! ## The stages of a layer -/

section Layer

variable (b : Fin 8)

/-- The pairwise differences, first coordinate. -/
theorem pay16_apply (x : FVec Ideal S8x24x1 .f32) (jh : Fin 6) (i : Fin 24) (q : Fin 4) :
    k0_pay16 x (ix4 b jh i q) = x (ix3 b i 0) - x (ix3 b (snd jh q) 0) := by
  unfold k0_pay16
  pointwise
  rfl

/-- The pairwise differences, second coordinate. -/
theorem pay17_apply (x : FVec Ideal S8x24x1 .f32) (jh : Fin 6) (i : Fin 24) (q : Fin 4) :
    k0_pay17 x (ix4 b jh i q) = x (ix3 b i 0) - x (ix3 b (snd jh q) 0) := by
  unfold k0_pay17
  pointwise
  rfl

/-- The pairwise differences, third coordinate. -/
theorem pay18_apply (x : FVec Ideal S8x24x1 .f32) (jh : Fin 6) (i : Fin 24) (q : Fin 4) :
    k0_pay18 x (ix4 b jh i q) = x (ix3 b i 0) - x (ix3 b (snd jh q) 0) := by
  unfold k0_pay18
  pointwise
  rfl

/-- Sample `b`'s position of particle `i`, from the three coordinate columns. -/
def xK (x0 x1 x2 : FVec Ideal S8x24x1 .f32) (i : Fin 24) : Fin 3 → EReal :=
  ![x0 (ix3 b i 0), x1 (ix3 b i 0), x2 (ix3 b i 0)]

/-- Sample `b`'s features of particle `i`. -/
def hK (H : FVec Ideal S192x64 .f32) (i : Fin 24) : Fin 64 → EReal := fun k => H (ix2 (nrow b i) k)

/-- The squared distance, coordinate by coordinate. -/
theorem dist2_xK (x0 x1 x2 : FVec Ideal S8x24x1 .f32) (i j : Fin 24) :
    dist2 (xK b x0 x1 x2 i) (xK b x0 x1 x2 j)
      = (x0 (ix3 b i 0) - x0 (ix3 b j 0)) * (x0 (ix3 b i 0) - x0 (ix3 b j 0))
        + (x1 (ix3 b i 0) - x1 (ix3 b j 0)) * (x1 (ix3 b i 0) - x1 (ix3 b j 0))
        + (x2 (ix3 b i 0) - x2 (ix3 b j 0)) * (x2 (ix3 b i 0) - x2 (ix3 b j 0)) := by
  unfold dist2
  rw [Fin.sum_univ_three]
  rfl

/-- The squared distances times their weight row. -/
theorem pay20_apply (x0 x1 x2 : FVec Ideal S8x24x1 .f32) (wr : Vec Ideal S1x256 .f32) (jh : Fin 6) (i : Fin 24)
    (q : Fin 4) (k : Fin 64) :
    k0_pay20 x0 x1 x2 wr (ix4 b jh i (lane q k))
      = dist2 (xK b x0 x1 x2 i) (xK b x0 x1 x2 (snd jh q)) * wr (ix2 0 (lane q k)) := by
  rw [dist2_xK]
  unfold k0_pay20
  pointwise
  simp only [pay16_apply, pay17_apply, pay18_apply]
  fin_cases q <;> simp [lane, la0, la1, la2, la3, la4, la5]

/-- The squared distances at the start, on every feature's lane. -/
theorem pay10_apply (v : Vec Ideal S192x1 .f32) (x1 x2 : FVec Ideal S8x24x1 .f32) (jh : Fin 6) (i : Fin 24)
    (q : Fin 4) (k : Fin 64) :
    k0_pay10 (k0_pay5 v) x1 x2 (k0_pay9 v) (ix4 b jh i (lane q k))
      = dist2 (xK b (k0_pay5 v) x1 x2 i) (xK b (k0_pay5 v) x1 x2 (snd jh q)) := by
  rw [dist2_xK]
  unfold k0_pay10 k0_pay9
  pointwise
  fin_cases q <;> simp [lane, snd, la0, la1, la2, la3, la4, la5]

/-- The product of the features with the two halves of the first weight. -/
theorem pay11_apply (H : FVec Ideal S192x64 .f32) (w : Vec Ideal S1x64x128 .f32) (n : Fin 192) (c : Fin 128) :
    k0_pay11 H w (ix2 n c) = ∑ a : Fin 64, H (ix2 n a) * w (ix3 0 a c) := by
  unfold k0_pay11
  pointwise [dot_S192x64_S64x128_S192x128_1_0_0_1_n_n]

/-- The receiver's and the sender's products, side by side on the lanes. -/
theorem pay19_apply (H : FVec Ideal S192x64 .f32) (w : Vec Ideal S1x64x128 .f32) (jh : Fin 6) (i : Fin 24)
    (q : Fin 4) (k : Fin 64) :
    k0_pay19 (k0_pay12 H w) (k0_pay13 H w) (k0_pay14 H w) (k0_pay15 H w) (ix4 b jh i (lane q k))
      = k0_pay11 H w (ix2 (nrow b i) ⟨k.val, by omega⟩)
        + k0_pay11 H w (ix2 (nrow b (snd jh q)) ⟨64 + k.val, by omega⟩) := by
  unfold k0_pay19 k0_pay12 k0_pay14 k0_pay15 k0_pay13
  pointwise
  fin_cases q <;> simp [lane, snd, nrow, ← Nat.add_assoc, la0, la1, la2, la3, la4, la5, la6, la7]

/-- The weights of a layer as the body loads them, beside the layer's weights: rows repeated for the four senders of a
    group, square weights block-diagonal in them. -/
structure Blk (W : Wts) (w1ab : Vec Ideal S1x64x128 .f32) (wr we eb1 : Vec Ideal S1x256 .f32)
    (w2 : Vec Ideal S1x256x256 .f32) (eb2 : Vec Ideal S1x256 .f32) (aw : Vec Ideal S1x256x4 .f32)
    (ab : Vec Ideal S1x1 .f32) (c1 : Vec Ideal S1x256x256 .f32) (cb1 : Vec Ideal S1x256 .f32)
    (c2 : Vec Ideal S1x256x4 .f32) (n1 : Vec Ideal S1x128x64 .f32) (nb1 : Vec Ideal S1x64 .f32)
    (n2 : Vec Ideal S1x64x64 .f32) (nb2 : Vec Ideal S1x64 .f32) : Prop where
  ha : ∀ (a k : Fin 64), w1ab (ix3 0 a ⟨k.val, by omega⟩) = W.w1 ⟨a.val, by omega⟩ k
  hb : ∀ (a k : Fin 64), w1ab (ix3 0 a ⟨64 + k.val, by omega⟩) = W.w1 ⟨64 + a.val, by omega⟩ k
  hr : ∀ q k, wr (ix2 0 (lane q k)) = W.w1 128 k
  he : ∀ q k, we (ix2 0 (lane q k)) = W.w1 129 k
  hb1 : ∀ q k, eb1 (ix2 0 (lane q k)) = W.b1 k
  hw2 : ∀ q' c q k, w2 (ix3 0 (lane q' c) (lane q k)) = if q' = q then W.w2 c k else 0
  hb2 : ∀ q k, eb2 (ix2 0 (lane q k)) = W.b2 k
  haw : ∀ q' c q, aw (ix3 0 (lane q' c) q) = if q' = q then W.aw c else 0
  hab : ab (ix2 0 0) = W.ab
  hc1 : ∀ q' c q k, c1 (ix3 0 (lane q' c) (lane q k)) = if q' = q then W.c1 c k else 0
  hcb1 : ∀ q k, cb1 (ix2 0 (lane q k)) = W.cb1 k
  hc2 : ∀ q' c q, c2 (ix3 0 (lane q' c) q) = if q' = q then W.c2 c else 0
  hn1 : ∀ a k, n1 (ix3 0 a k) = W.n1 a k
  hnb1 : ∀ k, nb1 (ix2 0 k) = W.nb1 k
  hn2 : ∀ a k, n2 (ix3 0 a k) = W.n2 a k
  hnb2 : ∀ k, nb2 (ix2 0 k) = W.nb2 k

variable {W : Wts} {w1ab : Vec Ideal S1x64x128 .f32} {wr we eb1 : Vec Ideal S1x256 .f32}
    {w2 : Vec Ideal S1x256x256 .f32} {eb2 : Vec Ideal S1x256 .f32} {aw : Vec Ideal S1x256x4 .f32}
    {ab : Vec Ideal S1x1 .f32} {c1 : Vec Ideal S1x256x256 .f32} {cb1 : Vec Ideal S1x256 .f32}
    {c2 : Vec Ideal S1x256x4 .f32} {n1 : Vec Ideal S1x128x64 .f32} {nb1 : Vec Ideal S1x64 .f32}
    {n2 : Vec Ideal S1x64x64 .f32} {nb2 : Vec Ideal S1x64 .f32}
    (B : Blk W w1ab wr we eb1 w2 eb2 aw ab c1 cb1 c2 n1 nb1 n2 nb2)

/-- The edge network's second layer, read in general: at a row and lane, from what the three addends hold on the row. -/
theorem pay21_apply (ea s1 s2 : FVec Ideal S8x6x24x256 .f32) (we eb1 : Vec Ideal S1x256 .f32)
    (w2 : Vec Ideal S1x256x256 .f32) (eb2 : Vec Ideal S1x256 .f32) (jh : Fin 6) (i : Fin 24) (l : Fin 256) :
    k0_pay21 ea s1 s2 we eb1 w2 eb2 (ix2 (rowE b jh i) l)
      = silu ((∑ x, silu (s1 (ix4 b jh i x) + s2 (ix4 b jh i x) + ea (ix4 b jh i x) * we (ix2 0 x) + eb1 (ix2 0 x))
          * w2 (ix3 0 x l)) + eb2 (ix2 0 l)) := by
  unfold k0_pay21
  pointwise [dot_S1152x256_S256x256_S1152x256_1_0_0_1_n_n]
  have e1 : ∀ h, (⟨(rowE b jh i).val / 144, h⟩ : Fin 8) = b := fun h => Fin.ext (by simp only [rowE]; omega)
  have e2 : ∀ h, (⟨(rowE b jh i).val / 24 % 6, h⟩ : Fin 6) = jh := fun h => Fin.ext (by simp only [rowE]; omega)
  have e3 : ∀ h, (⟨(rowE b jh i).val % 24, h⟩ : Fin 24) = i := fun h => Fin.ext (by simp only [rowE]; omega)
  simp only [e1, e2, e3]
  rfl

include B in
/-- The edge network's second layer: sender `q` of group `jh` to receiver `i`. -/
theorem msg2_apply (H : FVec Ideal S192x64 .f32) (x0 x1 x2 : FVec Ideal S8x24x1 .f32) (ea : FVec Ideal S8x6x24x256 .f32)
    (r0 : Fin 24 → Fin 24 → EReal)
    (hea : ∀ jh i q k, ea (ix4 b jh i (lane q k)) = r0 i (snd jh q)) (jh : Fin 6) (i : Fin 24) (q : Fin 4) (k : Fin 64) :
    k0_pay21 ea (k0_pay19 (k0_pay12 H w1ab) (k0_pay13 H w1ab) (k0_pay14 H w1ab) (k0_pay15 H w1ab))
        (k0_pay20 x0 x1 x2 wr) we eb1 w2 eb2 (ix2 (rowE b jh i) (lane q k))
      = msg2 W (hK b H i) (hK b H (snd jh q)) (dist2 (xK b x0 x1 x2 i) (xK b x0 x1 x2 (snd jh q))) (r0 i (snd jh q)) k := by
  rw [pay21_apply, sum_block _ (fun x => w2 (ix3 0 x (lane q k))) q (fun c => W.w2 c k) (fun q' c => B.hw2 q' c q k), B.hb2]
  simp only [pay19_apply, pay20_apply, hea, pay11_apply, B.ha, B.hb, B.hr, B.he, B.hb1]
  rfl

/-- The gate, read in general. -/
theorem pay22_apply (ea s1 s2 : FVec Ideal S8x6x24x256 .f32) (we eb1 : Vec Ideal S1x256 .f32)
    (w2 : Vec Ideal S1x256x256 .f32) (eb2 : Vec Ideal S1x256 .f32) (aw : Vec Ideal S1x256x4 .f32)
    (ab : Vec Ideal S1x1 .f32) (r : Fin 1152) (q : Fin 4) (k : Fin 64) :
    k0_pay22 ea s1 s2 we eb1 w2 eb2 aw ab (ix2 r (lane q k))
      = Ideal.logistic ((∑ x, k0_pay21 ea s1 s2 we eb1 w2 eb2 (ix2 r x) * aw (ix3 0 x q)) + ab (ix2 0 0)) := by
  unfold k0_pay22
  generalize k0_pay21 ea s1 s2 we eb1 w2 eb2 = M
  pointwise [dot_S1152x256_S256x4_S1152x4_1_0_0_1_n_n]
  fin_cases q <;> simp [lane, la0, la1, la2, la3, la4, la5]

include B in
/-- The message of an edge. -/
theorem msg_apply (H : FVec Ideal S192x64 .f32) (x0 x1 x2 : FVec Ideal S8x24x1 .f32) (ea : FVec Ideal S8x6x24x256 .f32)
    (r0 : Fin 24 → Fin 24 → EReal)
    (hea : ∀ jh i q k, ea (ix4 b jh i (lane q k)) = r0 i (snd jh q)) (jh : Fin 6) (i : Fin 24) (q : Fin 4) (k : Fin 64) :
    k0_pay23
        (k0_pay21 ea (k0_pay19 (k0_pay12 H w1ab) (k0_pay13 H w1ab) (k0_pay14 H w1ab) (k0_pay15 H w1ab))
          (k0_pay20 x0 x1 x2 wr) we eb1 w2 eb2)
        (k0_pay22 ea (k0_pay19 (k0_pay12 H w1ab) (k0_pay13 H w1ab) (k0_pay14 H w1ab) (k0_pay15 H w1ab))
          (k0_pay20 x0 x1 x2 wr) we eb1 w2 eb2 aw ab) (ix2 (rowE b jh i) (lane q k))
      = msg W (hK b H i) (hK b H (snd jh q)) (dist2 (xK b x0 x1 x2 i) (xK b x0 x1 x2 (snd jh q))) (r0 i (snd jh q)) k := by
  show k0_pay21 _ _ _ _ _ _ _ _ * k0_pay22 _ _ _ _ _ _ _ _ _ _ = _
  rw [pay22_apply, sum_block _ (fun x => aw (ix3 0 x q)) q W.aw (fun q' c => B.haw q' c q), B.hab]
  simp only [msg2_apply b B H x0 x1 x2 ea r0 hea]
  rfl

/-- The coefficient of an edge, read in general: from what the message matrix holds on the row. -/
theorem pay24_apply (M : FVec Ideal S1x6x24x4 .f32) (m g : FVec Ideal S1152x256 .f32) (c1 : Vec Ideal S1x256x256 .f32)
    (cb1 : Vec Ideal S1x256 .f32) (c2 : Vec Ideal S1x256x4 .f32) (jh : Fin 6) (i : Fin 24) (q : Fin 4) :
    k0_pay24 M m g c1 cb1 c2 (ix4 b jh i q)
      = Ideal.tanh (∑ x, silu ((∑ y, k0_pay23 m g (ix2 (rowE b jh i) y) * c1 (ix3 0 y x)) + cb1 (ix2 0 x)) * c2 (ix3 0 x q))
          * Ideal.ofBits .f32 0x40400000#32 * M (ix4 0 jh i q) := by
  unfold k0_pay24
  generalize k0_pay23 m g = P
  pointwise [dot_S1152x256_S256x4_S1152x4_1_0_0_1_n_n, dot_S1152x256_S256x256_S1152x256_1_0_0_1_n_n]
  rfl

/-- The coefficient of an edge, from its message. -/
theorem coef_apply (hc1 : ∀ q' c q k, c1 (ix3 0 (lane q' c) (lane q k)) = if q' = q then W.c1 c k else 0)
    (hcb1 : ∀ q k, cb1 (ix2 0 (lane q k)) = W.cb1 k)
    (hc2 : ∀ q' c q, c2 (ix3 0 (lane q' c) q) = if q' = q then W.c2 c else 0)
    (m g : FVec Ideal S1152x256 .f32) (jh : Fin 6) (i : Fin 24) (q : Fin 4) (f : Fin 64 → EReal)
    (hf : ∀ k, k0_pay23 m g (ix2 (rowE b jh i) (lane q k)) = f k) :
    k0_pay24 k0_pay3 m g c1 cb1 c2 (ix4 b jh i q)
      = if snd jh q ≠ i ∧ (snd jh q).val < 22 then coef W f else 0 := by
  rw [pay24_apply, smask_apply, sum_block _ (fun x => c2 (ix3 0 x q)) q W.c2 (fun q' c => hc2 q' c q)]
  have h : ∀ c, (∑ y, k0_pay23 m g (ix2 (rowE b jh i) y) * c1 (ix3 0 y (lane q c))) + cb1 (ix2 0 (lane q c))
      = lin W.c1 W.cb1 f c := fun c => by
    rw [sum_block _ (fun y => c1 (ix3 0 y (lane q c))) q (fun a => W.c1 a c) (fun q' a => hc1 q' a q c), hcb1]
    simp only [hf]
    rfl
  simp only [h]
  split
  · rw [mul_one]; rfl
  · rw [mul_zero]

/-- A sum over the 24 senders of terms that vanish on the padding and on the receiver is the sum over the other
    particles. -/
theorem sum_others (f : Fin 22 → EReal) (g : Fin 24 → EReal) (i : Fin 22)
    (hg : ∀ j : Fin 22, j ≠ i → g (j.castLE (by omega)) = f j) :
    (∑ j : Fin 24, if j ≠ i.castLE (by omega) ∧ j.val < 22 then g j else 0) = ∑ j, if j = i then 0 else f j := by
  rw [Fin.sum_univ_castSucc, Fin.sum_univ_castSucc]
  have e1 : ¬ ((Fin.last 23 : Fin 24) ≠ i.castLE (by omega) ∧ (Fin.last 23 : Fin 24).val < 22) := by simp
  have e2 : ¬ (((Fin.last 22).castSucc : Fin 24) ≠ i.castLE (by omega) ∧ ((Fin.last 22).castSucc : Fin 24).val < 22) := by simp
  rw [if_neg e1, if_neg e2, add_zero, add_zero]
  refine Finset.sum_congr rfl fun j _ => ?_
  by_cases h : j = i
  · subst h
    rw [if_pos rfl, if_neg]
    intro hh
    exact hh.1 rfl
  · rw [if_neg h, if_pos]
    · exact hg j h
    · refine ⟨fun hh => h (Fin.ext ?_), j.isLt⟩
      have h' := congrArg Fin.val hh
      simpa using h'

/-- A coordinate column plus its update, first coordinate. -/
theorem pay25_apply (M : FVec Ideal S1x6x24x4 .f32) (x : FVec Ideal S8x24x1 .f32) (df : FVec Ideal S8x6x24x4 .f32)
    (m g : FVec Ideal S1152x256 .f32) (c1 : Vec Ideal S1x256x256 .f32) (cb1 : Vec Ideal S1x256 .f32)
    (c2 : Vec Ideal S1x256x4 .f32) (i : Fin 24) :
    k0_pay25 M x df m g c1 cb1 c2 (ix3 b i 0)
      = x (ix3 b i 0) + ∑ jh, ∑ q, k0_pay24 M m g c1 cb1 c2 (ix4 b jh i q) * df (ix4 b jh i q) := by
  unfold k0_pay25
  pointwise

/-- The summed messages, lane by lane. -/
theorem pay28_apply (M : FVec Ideal S1x6x24x256 .f32) (m g : FVec Ideal S1152x256 .f32) (i : Fin 24) (l : Fin 256) :
    k0_pay28 M m g (ix3 b i l) = ∑ jh : Fin 6, k0_pay23 m g (ix2 (rowE b jh i) l) * M (ix4 0 jh i l) := by
  unfold k0_pay28
  generalize k0_pay23 m g = P
  pointwise
  rfl

/-- The node network, read in general. -/
theorem pay30_apply (H : FVec Ideal S192x64 .f32) (a28 : FVec Ideal S8x24x256 .f32) (a29 : FVec Ideal S8x24x64 .f32)
    (n1 : Vec Ideal S1x128x64 .f32) (nb1 : Vec Ideal S1x64 .f32) (n2 : Vec Ideal S1x64x64 .f32)
    (nb2 : Vec Ideal S1x64 .f32) (i : Fin 24) (k : Fin 64) :
    k0_pay30 H a28 a29 n1 nb1 n2 nb2 (ix2 (nrow b i) k)
      = H (ix2 (nrow b i) k) + (∑ x, silu (((∑ y : Fin 64, H (ix2 (nrow b i) y) * n1 (ix3 0 ⟨y.val, by omega⟩ x))
          + ∑ y : Fin 64, (a29 (ix3 b i y) + a28 (ix3 b i ⟨192 + y.val, by omega⟩)) * n1 (ix3 0 ⟨64 + y.val, by omega⟩ x))
          + nb1 (ix2 0 x)) * n2 (ix3 0 x k)) + nb2 (ix2 0 k) := by
  unfold k0_pay30
  pointwise [dot_S192x128_S128x64_S192x64_1_0_0_1_n_n, dot_S192x64_S64x64_S192x64_1_0_0_1_n_n]
  have e1 : ∀ h, (⟨(nrow b i).val / 24, h⟩ : Fin 8) = b := fun h => Fin.ext (by simp only [nrow]; omega)
  have e3 : ∀ h, (⟨(nrow b i).val % 24, h⟩ : Fin 24) = i := fun h => Fin.ext (by simp only [nrow]; omega)
  simp only [e1, e3]
  rfl

/-- The summed messages of a particle, from the four lane groups. -/
theorem agg_apply (m g : FVec Ideal S1152x256 .f32) (i : Fin 24) (k : Fin 64) (f : Fin 24 → EReal)
    (hf : ∀ jh q, k0_pay23 m g (ix2 (rowE b jh i) (lane q k)) = f (snd jh q)) :
    k0_pay29 k0_pay2 m g (ix3 b i k) + k0_pay28 k0_pay2 m g (ix3 b i ⟨192 + k.val, by omega⟩)
      = ∑ j, if j ≠ i ∧ j.val < 22 then f j else 0 := by
  rw [← sum_senders, Finset.sum_comm, Fin.sum_univ_four]
  have h : ∀ q, k0_pay28 k0_pay2 m g (ix3 b i (lane q k))
      = ∑ jh, if snd jh q ≠ i ∧ (snd jh q).val < 22 then f (snd jh q) else 0 := fun q => by
    rw [pay28_apply]
    refine Finset.sum_congr rfl fun jh _ => ?_
    rw [amask_apply, hf]
    split
    · rw [mul_one]
    · rw [mul_zero]
  rw [← h 0, ← h 1, ← h 2, ← h 3]
  unfold k0_pay29
  generalize k0_pay28 k0_pay2 m g = P
  pointwise
  have l0 : lane 0 k = ⟨k.val, by omega⟩ := Fin.ext (by simp [lane])
  have l1 : lane 1 k = ⟨64 + k.val, by omega⟩ := Fin.ext (by simp [lane])
  have l2 : lane 2 k = ⟨128 + k.val, by omega⟩ := Fin.ext (by simp [lane])
  have l3 : lane 3 k = ⟨192 + k.val, by omega⟩ := Fin.ext (by simp [lane])
  rw [l0, l1, l2, l3]

/-- The other two coordinate columns' updates are the first's at their own differences. -/
theorem pay26_eq (M : FVec Ideal S1x6x24x4 .f32) (x : FVec Ideal S8x24x1 .f32) (df : FVec Ideal S8x6x24x4 .f32)
    (m g : FVec Ideal S1152x256 .f32) (c1 : Vec Ideal S1x256x256 .f32) (cb1 : Vec Ideal S1x256 .f32)
    (c2 : Vec Ideal S1x256x4 .f32) : k0_pay26 M x df m g c1 cb1 c2 = k0_pay25 M x df m g c1 cb1 c2 := rfl

theorem pay27_eq (M : FVec Ideal S1x6x24x4 .f32) (x : FVec Ideal S8x24x1 .f32) (df : FVec Ideal S8x6x24x4 .f32)
    (m g : FVec Ideal S1152x256 .f32) (c1 : Vec Ideal S1x256x256 .f32) (cb1 : Vec Ideal S1x256 .f32)
    (c2 : Vec Ideal S1x256x4 .f32) : k0_pay27 M x df m g c1 cb1 c2 = k0_pay25 M x df m g c1 cb1 c2 := rfl

/-- A particle's place among the 24 rows of its sample. -/
def up (i : Fin 22) : Fin 24 := i.castLE (by omega)

end Layer

/-! ## The layer as a function of arrays -/

section Arrays

variable {F : FTy → Type} [FloatOps F]

/-- What the body loads of one layer's weights. -/
structure KW (F : FTy → Type) [FloatOps F] where
  w1ab : Vec F S1x64x128 .f32
  wr : Vec F S1x256 .f32
  we : Vec F S1x256 .f32
  eb1 : Vec F S1x256 .f32
  w2 : Vec F S1x256x256 .f32
  eb2 : Vec F S1x256 .f32
  aw : Vec F S1x256x4 .f32
  ab : Vec F S1x1 .f32
  c1 : Vec F S1x256x256 .f32
  cb1 : Vec F S1x256 .f32
  c2 : Vec F S1x256x4 .f32
  n1 : Vec F S1x128x64 .f32
  nb1 : Vec F S1x64 .f32
  n2 : Vec F S1x64x64 .f32
  nb2 : Vec F S1x64 .f32

/-- The two products of the features, summed on the lanes. -/
def kS (w : KW F) (H : FVec F S192x64 .f32) : FVec F S8x6x24x256 .f32 :=
  k0_pay19 (k0_pay12 H w.w1ab) (k0_pay13 H w.w1ab) (k0_pay14 H w.w1ab) (k0_pay15 H w.w1ab)

/-- The second edge layer of every edge. -/
def kM (w : KW F) (ea : FVec F S8x6x24x256 .f32) (H : FVec F S192x64 .f32) (x0 x1 x2 : FVec F S8x24x1 .f32) :
    FVec F S1152x256 .f32 :=
  k0_pay21 ea (kS w H) (k0_pay20 x0 x1 x2 w.wr) w.we w.eb1 w.w2 w.eb2

/-- The gate of every edge. -/
def kG (w : KW F) (ea : FVec F S8x6x24x256 .f32) (H : FVec F S192x64 .f32) (x0 x1 x2 : FVec F S8x24x1 .f32) :
    FVec F S1152x256 .f32 :=
  k0_pay22 ea (kS w H) (k0_pay20 x0 x1 x2 w.wr) w.we w.eb1 w.w2 w.eb2 w.aw w.ab

/-- A coordinate column `x` after the layer. -/
def kX (w : KW F) (ea : FVec F S8x6x24x256 .f32) (H : FVec F S192x64 .f32) (x0 x1 x2 x : FVec F S8x24x1 .f32) :
    FVec F S8x24x1 .f32 :=
  k0_pay25 k0_pay3 x (k0_pay16 x) (kM w ea H x0 x1 x2) (kG w ea H x0 x1 x2) w.c1 w.cb1 w.c2

/-- The features after the layer. -/
def kH (w : KW F) (ea : FVec F S8x6x24x256 .f32) (H : FVec F S192x64 .f32) (x0 x1 x2 : FVec F S8x24x1 .f32) :
    FVec F S192x64 .f32 :=
  k0_pay30 H (k0_pay28 k0_pay2 (kM w ea H x0 x1 x2) (kG w ea H x0 x1 x2))
    (k0_pay29 k0_pay2 (kM w ea H x0 x1 x2) (kG w ea H x0 x1 x2)) w.n1 w.nb1 w.n2 w.nb2

/-- The layer's state: the features and the three coordinate columns. -/
structure KSt (F : FTy → Type) [FloatOps F] where
  H : FVec F S192x64 .f32
  x0 : FVec F S8x24x1 .f32
  x1 : FVec F S8x24x1 .f32
  x2 : FVec F S8x24x1 .f32

/-- One layer of the body. -/
def kStep (w : KW F) (ea : FVec F S8x6x24x256 .f32) (s : KSt F) : KSt F where
  H := kH w ea s.H s.x0 s.x1 s.x2
  x0 := kX w ea s.H s.x0 s.x1 s.x2 s.x0
  x1 := kX w ea s.H s.x0 s.x1 s.x2 s.x1
  x2 := kX w ea s.H s.x0 s.x1 s.x2 s.x2

end Arrays

/-- The loaded blocks `w` hold the layer's weights `W`. -/
abbrev KW.Holds (w : KW Ideal) (W : Wts) : Prop :=
  Blk W w.w1ab w.wr w.we w.eb1 w.w2 w.eb2 w.aw w.ab w.c1 w.cb1 w.c2 w.n1 w.nb1 w.n2 w.nb2

/-- The arrays `s` hold sample `b`'s features and positions. -/
def KSt.Holds (s : KSt Ideal) (b : Fin 8) (x : Posn) (h : Feat) : Prop :=
  (∀ i, hK b s.H (up i) = h i) ∧ ∀ i, xK b s.x0 s.x1 s.x2 (up i) = x i

/-- The lane-wise squared distances at the start hold sample `b`'s. -/
def EaHolds (ea : FVec Ideal S8x6x24x256 .f32) (b : Fin 8) (r0 : Fin 24 → Fin 24 → EReal) : Prop :=
  ∀ jh i q k, ea (ix4 b jh i (lane q k)) = r0 i (snd jh q)

section Step

variable {w : KW Ideal} {W : Wts} (hw : w.Holds W) {b : Fin 8} {ea : FVec Ideal S8x6x24x256 .f32}
  {r0 : Fin 24 → Fin 24 → EReal} (hea : EaHolds ea b r0)

include hw hea

/-- Every entry of the message matrix. -/
theorem kmsg_apply (s : KSt Ideal) (jh : Fin 6) (i : Fin 24) (q : Fin 4) (k : Fin 64) :
    k0_pay23 (kM w ea s.H s.x0 s.x1 s.x2) (kG w ea s.H s.x0 s.x1 s.x2) (ix2 (rowE b jh i) (lane q k))
      = msg W (hK b s.H i) (hK b s.H (snd jh q)) (dist2 (xK b s.x0 s.x1 s.x2 i) (xK b s.x0 s.x1 s.x2 (snd jh q)))
          (r0 i (snd jh q)) k :=
  msg_apply b hw s.H s.x0 s.x1 s.x2 ea r0 hea jh i q k

/-- A coordinate column after the layer. -/
theorem kX_apply (s : KSt Ideal) (y : FVec Ideal S8x24x1 .f32) (i : Fin 24) :
    kX w ea s.H s.x0 s.x1 s.x2 y (ix3 b i 0)
      = y (ix3 b i 0) + ∑ j : Fin 24, if j ≠ i ∧ j.val < 22 then
          (y (ix3 b i 0) - y (ix3 b j 0)) * coef W (msg W (hK b s.H i) (hK b s.H j)
            (dist2 (xK b s.x0 s.x1 s.x2 i) (xK b s.x0 s.x1 s.x2 j)) (r0 i j)) else 0 := by
  unfold kX
  rw [pay25_apply, ← sum_senders]
  congr 1
  refine Finset.sum_congr rfl fun jh _ => Finset.sum_congr rfl fun q _ => ?_
  rw [coef_apply b hw.hc1 hw.hcb1 hw.hc2 _ _ jh i q _ (fun k => kmsg_apply hw hea s jh i q k), pay16_apply]
  split
  · rw [mul_comm]
  · rw [zero_mul]

/-- The features after the layer. -/
theorem kH_apply (s : KSt Ideal) (i : Fin 24) (k : Fin 64) :
    kH w ea s.H s.x0 s.x1 s.x2 (ix2 (nrow b i) k)
      = node W (hK b s.H i) (fun c => ∑ j : Fin 24, if j ≠ i ∧ j.val < 22 then
          msg W (hK b s.H i) (hK b s.H j) (dist2 (xK b s.x0 s.x1 s.x2 i) (xK b s.x0 s.x1 s.x2 j)) (r0 i j) c else 0) k := by
  unfold kH
  rw [pay30_apply]
  have h : ∀ c : Fin 64, _ := fun c => agg_apply b (kM w ea s.H s.x0 s.x1 s.x2) (kG w ea s.H s.x0 s.x1 s.x2) i c
    (fun j => msg W (hK b s.H i) (hK b s.H j) (dist2 (xK b s.x0 s.x1 s.x2 i) (xK b s.x0 s.x1 s.x2 j)) (r0 i j) c)
    (fun jh q => kmsg_apply hw hea s jh i q c)
  simp only [h, hw.hn1, hw.hnb1, hw.hn2, hw.hnb2]
  rw [add_assoc]
  rfl

/-- The layer of the body is the layer of the mathematics, on the 22 particles. -/
theorem kStep_holds (s : KSt Ideal) (x0 x : Posn) (h : Feat) (hs : s.Holds b x h)
    (hr : ∀ i j, r0 (up i) (up j) = dist2 (x0 i) (x0 j)) :
    (kStep w ea s).Holds b (stepX W x0 x h) (stepH W x0 x h) := by
  obtain ⟨hh, hx⟩ := hs
  constructor
  · intro i
    funext k
    show kH w ea s.H s.x0 s.x1 s.x2 (ix2 (nrow b (up i)) k) = _
    rw [kH_apply hw hea s (up i) k, hh]
    unfold stepH
    congr 1
    funext c
    refine sum_others (fun j => edgeMsg W x0 x h i j c) _ i fun j _ => ?_
    show msg W (h i) (hK b s.H (up j)) (dist2 _ (xK b s.x0 s.x1 s.x2 (up j))) (r0 (up i) (up j)) c = _
    rw [hh, hx, hx, hr]
    rfl
  · intro i
    have key : ∀ (y : FVec Ideal S8x24x1 .f32) (d : Fin 3), (∀ i, y (ix3 b (up i) 0) = x i d) →
        kX w ea s.H s.x0 s.x1 s.x2 y (ix3 b (up i) 0) = stepX W x0 x h i d := by
      intro y d hy
      rw [kX_apply hw hea s y (up i), hy]
      unfold stepX
      congr 1
      refine sum_others (fun j => (x i d - x j d) * coef W (edgeMsg W x0 x h i j)) _ i fun j _ => ?_
      show (_ - y (ix3 b (up j) 0)) * coef W (msg W _ (hK b s.H (up j)) (dist2 _ (xK b s.x0 s.x1 s.x2 (up j))) (r0 (up i) (up j))) = _
      rw [hy, hh, hh, hx, hx, hr]
      rfl
    funext d
    fin_cases d
    · exact key s.x0 0 fun i => congrFun (hx i) 0
    · exact key s.x1 1 fun i => congrFun (hx i) 1
    · exact key s.x2 2 fun i => congrFun (hx i) 2

end Step

end Cert.KernelIdeal.KL
-- ==== Proof.KHost.lean ====
/-
  The arrays the kernel's region finds, as functions of the program's arguments: the host operations before the region
  read at an index.
-/
module

public import proofs.«01_k».proof.Proof.Gen.KernelIdeal.Frame
public import proofs.«01_k».proof.Proof.Common
public import proofs.«01_k».proof.Proof.KLayer

@[expose] public section

noncomputable section

namespace Cert.KernelIdeal.KH

open Cert.KernelIdeal Cert.KernelIdeal.Gen Idealize.ShloMosaic Idealize.ShloMosaic.TcCoe Idealize.ShloMosaic.StableHlo Egnn

variable {F : FTy → Type} [FloatOps F] [Named F]

/-- The 4 by 4 identity. -/
def eye : FVec F S4x4 .f32 :=
  uitofp .f32 (cmpi .eq (addi (iotaInDim S4x4 32 0) (broadcastInDim S4x4 ![] bcast_S_S4x4 (constantI S_ 32 0#32))) (iotaInDim S4x4 32 1))

/-- Four copies of a row side by side. -/
def tile (y : FVec F S5x64 .f32) : FVec F S5x256 .f32 :=
  shapeCast _ (broadcastInDim S1x5x4x64 ![0, 1, 2, 3] bcast_S1x5x1x64_S1x5x4x64_0_1_2_3 (shapeCast _ y shapeCasts_S5x64_S1x5x1x64)) shapeCasts_S1x5x4x64_S5x256

/-- Four copies of a square weight on the diagonal. -/
def kron64 (w : FVec F S5x64x64 .f32) : FVec F S5x256x256 .f32 :=
  shapeCast _ (mulf (broadcastInDim S5x4x64x4x64 ![0, 1, 2, 3, 4] bcast_S1x4x1x4x1_S5x4x64x4x64_0_1_2_3_4
      (broadcastInDim S1x4x1x4x1 ![1, 2, 3, 4] bcast_S4x1x4x1_S1x4x1x4x1_1_2_3_4 (broadcastInDim S4x1x4x1 ![0, 2] bcast_S4x4_S4x1x4x1_0_2 eye)))
    (broadcastInDim S5x4x64x4x64 ![0, 1, 2, 3, 4] bcast_S5x1x64x1x64_S5x4x64x4x64_0_1_2_3_4 (broadcastInDim S5x1x64x1x64 ![0, 2, 4] bcast_S5x64x64_S5x1x64x1x64_0_2_4 w)))
    shapeCasts_S5x4x64x4x64_S5x256x256

/-- Four copies of a column on the diagonal. -/
def kron1 (w : FVec F S5x64x1 .f32) : FVec F S5x256x4 .f32 :=
  shapeCast _ (mulf (broadcastInDim S5x4x64x4x1 ![0, 1, 2, 3, 4] bcast_S1x4x1x4x1_S5x4x64x4x1_0_1_2_3_4
      (broadcastInDim S1x4x1x4x1 ![1, 2, 3, 4] bcast_S4x1x4x1_S1x4x1x4x1_1_2_3_4 (broadcastInDim S4x1x4x1 ![0, 2] bcast_S4x4_S4x1x4x1_0_2 eye)))
    (broadcastInDim S5x4x64x4x1 ![0, 1, 2, 3, 4] bcast_S5x1x64x1x1_S5x4x64x4x1_0_1_2_3_4 (broadcastInDim S5x1x64x1x1 ![0, 2, 4] bcast_S5x64x1_S5x1x64x1x1_0_2_4 w)))
    shapeCasts_S5x4x64x4x1_S5x256x4

/-- One input row of the edge network's first weight. -/
def rowAt (k : Nat) (h : S5x130x64.Slices ![0, k, 0] S5x1x64) (w : FVec F S5x130x64 .f32) : FVec F S5x64 .f32 :=
  shapeCast _ (extractStridedSlice S5x1x64 ![0, k, 0] w h) shapeCasts_S5x1x64_S5x64

/-- The two 64-row halves of the edge network's first weight side by side. -/
def halves (w : FVec F S5x130x64 .f32) : FVec F S5x64x128 .f32 :=
  concatenate S5x64x128 2 [⟨S5x64x64, extractStridedSlice S5x64x64 ![0, 0, 0] w slices_S5x130x64_S5x64x64_0_0_0⟩,
    ⟨S5x64x64, extractStridedSlice S5x64x64 ![0, 64, 0] w slices_S5x130x64_S5x64x64_0_64_0⟩] concatenates_S5x64x64_S5x64x64_S5x64x128_d2

/-- The padded positions, a particle a row. -/
def padded (x : FVec F S1024x66 .f32) : FVec F S24576x3 .f32 :=
  shapeCast _ (pad S1024x24x3 ![0, 0, 0] ![0, 2, 0] ![0, 0, 0] (shapeCast _ x shapeCasts_S1024x66_S1024x22x3) (sitofp .f32 (constantI S_ 32 0#32))
    pads_S1024x22x3_S1024x24x3_000_020_000 h_S_) shapeCasts_S1024x24x3_S24576x3

variable (m : (ℓ : Loc nD τ sig) → Buf (Elt F) ℓ) (c : Dev nD)

/-- The array of window 0. -/
theorem V_w0 : V m c main_v3 = shapeCast S1024x1 (m ((c.tc : Thread nD τ).loc main_arg0)) shapeCasts_S1024_S1024x1 := rfl
/-- The array of window 1. -/
theorem V_w1 : V m c main_v2 = padded (m ((c.tc : Thread nD τ).loc main_arg1)) := rfl
/-- The array of window 4. -/
theorem V_w4 : V m c main_v36 = shapeCast S1x64 (m ((c.tc : Thread nD τ).loc main_arg4)) shapeCasts_S64_S1x64 := rfl
/-- The array of window 5. -/
theorem V_w5 : V m c main_v12 = halves (m ((c.tc : Thread nD τ).loc main_arg5)) := rfl
/-- The array of window 6. -/
theorem V_w6 : V m c main_v17 = tile (rowAt 128 slices_S5x130x64_S5x1x64_0_128_0 (m ((c.tc : Thread nD τ).loc main_arg5))) := rfl
/-- The array of window 7. -/
theorem V_w7 : V m c main_v22 = tile (rowAt 129 slices_S5x130x64_S5x1x64_0_129_0 (m ((c.tc : Thread nD τ).loc main_arg5))) := rfl
/-- The array of window 8. -/
theorem V_w8 : V m c main_v25 = tile (m ((c.tc : Thread nD τ).loc main_arg6)) := rfl
/-- The array of window 9. -/
theorem V_w9 : V m c main_v32 = kron64 (m ((c.tc : Thread nD τ).loc main_arg7)) := rfl
/-- The array of window 10. -/
theorem V_w10 : V m c main_v28 = tile (m ((c.tc : Thread nD τ).loc main_arg8)) := rfl
/-- The array of window 11. -/
theorem V_w11 : V m c main_v34 = kron1 (m ((c.tc : Thread nD τ).loc main_arg9)) := rfl
/-- The array of window 13. -/
theorem V_w13 : V m c main_v33 = kron64 (m ((c.tc : Thread nD τ).loc main_arg15)) := rfl
/-- The array of window 14. -/
theorem V_w14 : V m c main_v31 = tile (m ((c.tc : Thread nD τ).loc main_arg16)) := rfl
/-- The array of window 15. -/
theorem V_w15 : V m c main_v35 = kron1 (m ((c.tc : Thread nD τ).loc main_arg17)) := rfl

open Cert.KernelIdeal.KL

/-- The identity's entries. -/
theorem eye_apply (a b : Fin 4) : (eye : FVec Ideal S4x4 .f32) (ix2 a b) = if a = b then 1 else 0 := by
  unfold eye
  pointwise
  have h : IntOp.cmpi .eq (IntOp.addi (BitVec.ofNat 32 a.val) 0#32) (BitVec.ofNat 32 b.val) = if a = b then 1#1 else 0#1 := by
    revert a b
    decide
  rw [h]
  by_cases hab : a = b
  · rw [if_pos hab, if_pos hab]
    show (((1#1 : BitVec 1).toNat : ℝ) : EReal) = 1
    simp
  · rw [if_neg hab, if_neg hab]
    show (((0#1 : BitVec 1).toNat : ℝ) : EReal) = 0
    simp

/-- The copies of a row, by copy and column. -/
theorem tile_apply (y : FVec Ideal S5x64 .f32) (l : Fin 5) (q : Fin 4) (k : Fin 64) : tile y (ix2 l (lane q k)) = y (ix2 l k) := by
  unfold tile lane
  pointwise

/-- An input row. -/
theorem rowAt_apply (n : Nat) (h) (w : FVec Ideal S5x130x64 .f32) (l : Fin 5) (k : Fin 64) (hn : n < 130) :
    rowAt n h w (ix2 l k) = w (ix3 l ⟨n, hn⟩ k) := by
  unfold rowAt
  pointwise

/-- The halves, the first. -/
theorem halves_fst (w : FVec Ideal S5x130x64 .f32) (l : Fin 5) (a k : Fin 64) :
    halves w (ix3 l a ⟨k.val, by omega⟩) = w (ix3 l ⟨a.val, by omega⟩ k) := by
  unfold halves
  pointwise

/-- The halves, the second. -/
theorem halves_snd (w : FVec Ideal S5x130x64 .f32) (l : Fin 5) (a k : Fin 64) :
    halves w (ix3 l a ⟨64 + k.val, by omega⟩) = w (ix3 l ⟨64 + a.val, by omega⟩ k) := by
  unfold halves
  pointwise

/-- The padded positions at a true particle. -/
theorem padded_apply (x : FVec Ideal S1024x66 .f32) (b : Fin 1024) (i : Fin 22) (d : Fin 3) :
    padded x (ix2 ⟨b.val * 24 + i.val, by omega⟩ d) = x (ix2 b ⟨i.val * 3 + d.val, by omega⟩) := by
  unfold padded
  pointwise
  have hm : (b.val * 24 + i.val) % 24 = i.val := by omega
  simp only [hm]
  rw [dif_pos i.isLt]

/-- The copies on the diagonal, by block. -/
theorem kron64_apply (w : FVec Ideal S5x64x64 .f32) (l : Fin 5) (q' q : Fin 4) (a k : Fin 64) :
    kron64 w (ix3 l (lane q' a) (lane q k)) = if q' = q then w (ix3 l a k) else 0 := by
  have h := eye_apply q' q
  unfold kron64
  generalize (eye : FVec Ideal S4x4 .f32) = e at h
  unfold lane
  pointwise
  rw [h]
  by_cases hq : q' = q
  · rw [if_pos hq, if_pos hq, one_mul]
  · rw [if_neg hq, if_neg hq, zero_mul]

/-- The copies of a column on the diagonal, by block. -/
theorem kron1_apply (w : FVec Ideal S5x64x1 .f32) (l : Fin 5) (q' q : Fin 4) (a : Fin 64) :
    kron1 w (ix3 l (lane q' a) q) = if q' = q then w (ix3 l a 0) else 0 := by
  have h := eye_apply q' q
  unfold kron1
  generalize (eye : FVec Ideal S4x4 .f32) = e at h
  unfold lane
  pointwise
  rw [h]
  by_cases hq : q' = q
  · rw [if_pos hq, if_pos hq, one_mul]
  · rw [if_neg hq, if_neg hq, zero_mul]

end Cert.KernelIdeal.KH

end
-- ==== Proof.KFold.lean ====
/-
  The whole body: its five layers, each spelt out in its own payloads, are the one layer of `KLayer.lean` on five sets
  of weights; and the three columns it stores are the displacements less their mean.
-/
module

public import proofs.«01_k».proof.Proof.Gen.KernelIdeal.Frame
public import proofs.«01_k».proof.Proof.KLayer

@[expose] public section

namespace Cert.KernelIdeal.KF

open Idealize.ShloMosaic Egnn Cert.KernelIdeal.Gen Cert.KernelIdeal.KL

noncomputable section

/-! ## Every layer of the body is the one layer

The body spells its five layers out, each cut into payloads at other places. -/

section Layers

variable {F : FTy → Type} [FloatOps F] [Nr : Named F] (w : KW F) (ea : FVec F S8x6x24x256 .f32)
  (x0 x1 x2 : FVec F S8x24x1 .f32)

section One

variable (H0 : FVec F S192x64 .f32) (a : FVec F S8x24x256 .f32) (a' : FVec F S8x24x64 .f32)
  (n1 : Vec F S1x128x64 .f32) (nb1 : Vec F S1x64 .f32) (n2 : Vec F S1x64x64 .f32) (nb2 : Vec F S1x64 .f32)

/-- Layer 1's sum before the edge's squared length. -/
abbrev pre1' : FVec F S8x6x24x256 .f32 :=
  k0_pay39 x1 x2 (k0_pay32 H0 a a' n1 nb1 n2 nb2 w.w1ab) (k0_pay33 H0 a a' n1 nb1 n2 nb2 w.w1ab) (k0_pay34 x0) (k0_pay35 x0) w.wr

/-- Layer 1's messages. -/
theorem one_msg : k0_pay41 ea (pre1' w x0 x1 x2 H0 a a' n1 nb1 n2 nb2) (k0_pay40 w.we) w.eb1 w.w2 w.eb2 w.aw w.ab
    = k0_pay23 (kM w ea (k0_pay30 H0 a a' n1 nb1 n2 nb2) x0 x1 x2) (kG w ea (k0_pay30 H0 a a' n1 nb1 n2 nb2) x0 x1 x2) := rfl

/-- Layer 1's first coordinate. -/
theorem one_x0 : k0_pay44 k0_pay3 x0 (k0_pay36 (k0_pay34 x0) (k0_pay35 x0))
      (k0_pay42 ea (pre1' w x0 x1 x2 H0 a a' n1 nb1 n2 nb2) (k0_pay40 w.we) w.eb1 w.w2 w.eb2 w.aw w.ab w.c1) w.cb1 w.c2
    = kX w ea (k0_pay30 H0 a a' n1 nb1 n2 nb2) x0 x1 x2 x0 := rfl

/-- Layer 1's second coordinate. -/
theorem one_x1 : k0_pay45 k0_pay3 x1 (k0_pay37 x1)
      (k0_pay42 ea (pre1' w x0 x1 x2 H0 a a' n1 nb1 n2 nb2) (k0_pay40 w.we) w.eb1 w.w2 w.eb2 w.aw w.ab w.c1) w.cb1 w.c2
    = kX w ea (k0_pay30 H0 a a' n1 nb1 n2 nb2) x0 x1 x2 x1 := rfl

/-- Layer 1's third coordinate. -/
theorem one_x2 : k0_pay46 k0_pay3 x2 (k0_pay38 x2)
      (k0_pay42 ea (pre1' w x0 x1 x2 H0 a a' n1 nb1 n2 nb2) (k0_pay40 w.we) w.eb1 w.w2 w.eb2 w.aw w.ab w.c1) w.cb1 w.c2
    = kX w ea (k0_pay30 H0 a a' n1 nb1 n2 nb2) x0 x1 x2 x2 := rfl

end One

/-- A layer's features from its messages. -/
theorem one_H (H : FVec F S192x64 .f32) :
    k0_pay49 H (k0_pay47 k0_pay2 H (k0_pay23 (kM w ea H x0 x1 x2) (kG w ea H x0 x1 x2))) (k0_pay48 w.n1) w.nb1 w.n2 w.nb2
      = kH w ea H x0 x1 x2 := rfl

section Two

variable (H A : FVec F S192x64 .f32) (A' : FVec F S192x128 .f32) (N : FVec F S128x64 .f32)
  (nb1 : Vec F S1x64 .f32) (n2 : Vec F S1x64x64 .f32) (nb2 : Vec F S1x64 .f32)

/-- Layer 2's first edge layer. -/
abbrev act2 : FVec F S1152x256 .f32 :=
  k0_pay58 ea x2 (k0_pay51 H A' N nb1 n2 nb2 w.w1ab) (k0_pay52 H A' N nb1 n2 nb2 w.w1ab) (k0_pay53 x0) (k0_pay54 x1)
    (k0_pay55 x1) w.wr w.we w.eb1

/-- Layer 2's messages. -/
theorem two_msg : k0_pay59 (act2 w ea x0 x1 x2 H A' N nb1 n2 nb2) w.w2 w.eb2 w.aw w.ab
    = k0_pay23 (kM w ea (k0_pay49 H A' N nb1 n2 nb2) x0 x1 x2) (kG w ea (k0_pay49 H A' N nb1 n2 nb2) x0 x1 x2) := rfl

/-- Layer 2's first coordinate. -/
theorem two_x0 : k0_pay62 k0_pay3 x0 (k0_pay53 x0)
      (k0_pay60 (act2 w ea x0 x1 x2 H A' N nb1 n2 nb2) w.w2 w.eb2 w.aw w.ab w.c1 w.cb1) w.c2
    = kX w ea (k0_pay49 H A' N nb1 n2 nb2) x0 x1 x2 x0 := rfl

/-- Layer 2's second coordinate. -/
theorem two_x1 : k0_pay63 k0_pay3 x1 (k0_pay56 (k0_pay54 x1) (k0_pay55 x1))
      (k0_pay60 (act2 w ea x0 x1 x2 H A' N nb1 n2 nb2) w.w2 w.eb2 w.aw w.ab w.c1 w.cb1) w.c2
    = kX w ea (k0_pay49 H A' N nb1 n2 nb2) x0 x1 x2 x1 := rfl

/-- Layer 2's third coordinate. -/
theorem two_x2 : k0_pay64 k0_pay3 x2 (k0_pay57 x2)
      (k0_pay60 (act2 w ea x0 x1 x2 H A' N nb1 n2 nb2) w.w2 w.eb2 w.aw w.ab w.c1 w.cb1) w.c2
    = kX w ea (k0_pay49 H A' N nb1 n2 nb2) x0 x1 x2 x2 := rfl

/-- Layer 2's features from its messages. -/
theorem two_H :
    k0_pay66 H (k0_pay65 k0_pay2 H (k0_pay23 (kM w ea H x0 x1 x2) (kG w ea H x0 x1 x2)) w.n1 w.nb1) w.n2 w.nb2
      = kH w ea H x0 x1 x2 := rfl

/-- Layer 3's second edge layer before its bias. -/
abbrev act3 : FVec F S1152x256 .f32 :=
  k0_pay75 ea (k0_pay68 H A n2 nb2 w.w1ab) (k0_pay69 H A n2 nb2 w.w1ab) (k0_pay70 x0) (k0_pay71 x1)
    (k0_pay72 x2) (k0_pay73 x2) w.wr w.we w.eb1 w.w2

/-- Layer 3's messages. -/
theorem three_msg : k0_pay76 (act3 w ea x0 x1 x2 H A n2 nb2) w.eb2 w.aw w.ab
    = k0_pay23 (kM w ea (k0_pay66 H A n2 nb2) x0 x1 x2) (kG w ea (k0_pay66 H A n2 nb2) x0 x1 x2) := rfl

/-- Layer 3's first coordinate. -/
theorem three_x0 : k0_pay79 k0_pay3 x0 (k0_pay70 x0)
      (k0_pay77 (act3 w ea x0 x1 x2 H A n2 nb2) w.eb2 w.aw w.ab w.c1 w.cb1 w.c2)
    = kX w ea (k0_pay66 H A n2 nb2) x0 x1 x2 x0 := rfl

/-- Layer 3's second coordinate. -/
theorem three_x1 : k0_pay80 k0_pay3 x1 (k0_pay71 x1)
      (k0_pay77 (act3 w ea x0 x1 x2 H A n2 nb2) w.eb2 w.aw w.ab w.c1 w.cb1 w.c2)
    = kX w ea (k0_pay66 H A n2 nb2) x0 x1 x2 x1 := rfl

/-- Layer 3's third coordinate. -/
theorem three_x2 : k0_pay81 k0_pay3 x2 (k0_pay74 (k0_pay72 x2) (k0_pay73 x2))
      (k0_pay77 (act3 w ea x0 x1 x2 H A n2 nb2) w.eb2 w.aw w.ab w.c1 w.cb1 w.c2)
    = kX w ea (k0_pay66 H A n2 nb2) x0 x1 x2 x2 := rfl

/-- A layer's features before the last row is added, from its messages. -/
abbrev half (G : FVec F S1152x256 .f32) : FVec F S192x64 .f32 := k0_pay82 k0_pay2 H G w.n1 w.nb1 w.n2

end Two

section Four

variable (H : FVec F S192x64 .f32) (w' : KW F) (y0 y1 y2 : FVec F S8x24x1 .f32)

/-- Layer 4's second edge layer, on layer 3's features. -/
theorem four_m2 :
    k0_pay91 ea (k0_pay84 (half w H (k0_pay23 (kM w ea H x0 x1 x2) (kG w ea H x0 x1 x2))) w.nb2 w'.w1ab)
        (k0_pay85 (half w H (k0_pay23 (kM w ea H x0 x1 x2) (kG w ea H x0 x1 x2))) w.nb2 w'.w1ab)
        (k0_pay89 y0 y1 y2) (k0_pay90 y0 y1 y2) w'.wr w'.we w'.eb1 w'.w2 w'.eb2
      = kM w' ea (kH w ea H x0 x1 x2) y0 y1 y2 := rfl

/-- Layer 4's first coordinate. -/
theorem four_x0 :
    k0_pay93 k0_pay3 y0 (k0_pay86 y0) (kM w' ea H y0 y1 y2) w'.aw w'.ab w'.c1 w'.cb1 w'.c2
      = kX w' ea H y0 y1 y2 y0 := rfl

/-- The second coordinate's column as stored. -/
theorem four_x1 (M : FVec F S1x24x1 .f32) (z : FVec F S8x24x1 .f32) :
    k0_pay95 M z y1 (k0_pay87 y1) (k0_pay92 k0_pay3 (kM w' ea H y0 y1 y2) w'.aw w'.ab w'.c1 w'.cb1 w'.c2)
      = k0_pay94 M z (kX w' ea H y0 y1 y2 y1) := rfl

/-- The third coordinate's column as stored. -/
theorem four_x2 (M : FVec F S1x24x1 .f32) (z : FVec F S8x24x1 .f32) :
    k0_pay1 M
        (k0_pay96 M z y2 (k0_pay88 y2) (k0_pay92 k0_pay3 (kM w' ea H y0 y1 y2) w'.aw w'.ab w'.c1 w'.cb1 w'.c2))
        (k0_pay97 M z y2 (k0_pay88 y2) (k0_pay92 k0_pay3 (kM w' ea H y0 y1 y2) w'.aw w'.ab w'.c1 w'.cb1 w'.c2))
      = k0_pay94 M z (kX w' ea H y0 y1 y2 y2) := rfl

end Four

end Layers

/-! ## The body on its windows -/

/-- The blocks of the twenty input windows at a grid point. -/
structure Win (F : FTy → Type) [FloatOps F] where
  x0 : Vec F S8x1 .f32
  x1 : Vec F S192x3 .f32
  x2 : Vec F S22x21 .f32
  x3 : Vec F S22x64 .f32
  x4 : Vec F S1x64 .f32
  x5 : Vec F S5x64x128 .f32
  x6 : Vec F S5x256 .f32
  x7 : Vec F S5x256 .f32
  x8 : Vec F S5x256 .f32
  x9 : Vec F S5x256x256 .f32
  x10 : Vec F S5x256 .f32
  x11 : Vec F S5x256x4 .f32
  x12 : Vec F S5x1 .f32
  x13 : Vec F S5x256x256 .f32
  x14 : Vec F S5x256 .f32
  x15 : Vec F S5x256x4 .f32
  x16 : Vec F S5x128x64 .f32
  x17 : Vec F S5x64 .f32
  x18 : Vec F S5x64x64 .f32
  x19 : Vec F S5x64 .f32

section Fold

variable {F : FTy → Type} [FloatOps F] [Nr : Named F] (X : Win F)

/-- Layer 0's weights as loaded. -/
def kw0 : KW F where
  w1ab := View.ld X.x5 r0_8
  wr := View.ld X.x6 r0_9
  we := View.ld X.x7 r0_9
  eb1 := View.ld X.x8 r0_9
  w2 := View.ld X.x9 r0_10
  eb2 := View.ld X.x10 r0_9
  aw := View.ld X.x11 r0_11
  ab := View.ld X.x12 r0_12
  c1 := View.ld X.x13 r0_10
  cb1 := View.ld X.x14 r0_9
  c2 := View.ld X.x15 r0_11
  n1 := View.ld X.x16 r0_13
  nb1 := View.ld X.x17 r0_14
  n2 := View.ld X.x18 r0_15
  nb2 := View.ld X.x19 r0_14

/-- Layer 1's weights as loaded. -/
def kw1 : KW F where
  w1ab := View.ld X.x5 r0_16
  wr := View.ld X.x6 r0_17
  we := View.ld X.x7 r0_17
  eb1 := View.ld X.x8 r0_17
  w2 := View.ld X.x9 r0_18
  eb2 := View.ld X.x10 r0_17
  aw := View.ld X.x11 r0_19
  ab := View.ld X.x12 r0_20
  c1 := View.ld X.x13 r0_18
  cb1 := View.ld X.x14 r0_17
  c2 := View.ld X.x15 r0_19
  n1 := View.ld X.x16 r0_21
  nb1 := View.ld X.x17 r0_22
  n2 := View.ld X.x18 r0_23
  nb2 := View.ld X.x19 r0_22

/-- Layer 2's weights as loaded. -/
def kw2 : KW F where
  w1ab := View.ld X.x5 r0_24
  wr := View.ld X.x6 r0_25
  we := View.ld X.x7 r0_25
  eb1 := View.ld X.x8 r0_25
  w2 := View.ld X.x9 r0_26
  eb2 := View.ld X.x10 r0_25
  aw := View.ld X.x11 r0_27
  ab := View.ld X.x12 r0_28
  c1 := View.ld X.x13 r0_26
  cb1 := View.ld X.x14 r0_25
  c2 := View.ld X.x15 r0_27
  n1 := View.ld X.x16 r0_29
  nb1 := View.ld X.x17 r0_30
  n2 := View.ld X.x18 r0_31
  nb2 := View.ld X.x19 r0_30

/-- Layer 3's weights as loaded. -/
def kw3 : KW F where
  w1ab := View.ld X.x5 r0_32
  wr := View.ld X.x6 r0_33
  we := View.ld X.x7 r0_33
  eb1 := View.ld X.x8 r0_33
  w2 := View.ld X.x9 r0_34
  eb2 := View.ld X.x10 r0_33
  aw := View.ld X.x11 r0_35
  ab := View.ld X.x12 r0_36
  c1 := View.ld X.x13 r0_34
  cb1 := View.ld X.x14 r0_33
  c2 := View.ld X.x15 r0_35
  n1 := View.ld X.x16 r0_37
  nb1 := View.ld X.x17 r0_38
  n2 := View.ld X.x18 r0_39
  nb2 := View.ld X.x19 r0_38

/-- Layer 4's weights as loaded; the node network's are not loaded in the last layer and are as the windows hold them. -/
def kw4 : KW F where
  w1ab := View.ld X.x5 r0_40
  wr := View.ld X.x6 r0_41
  we := View.ld X.x7 r0_41
  eb1 := View.ld X.x8 r0_41
  w2 := View.ld X.x9 r0_42
  eb2 := View.ld X.x10 r0_41
  aw := View.ld X.x11 r0_43
  ab := View.ld X.x12 r0_44
  c1 := View.ld X.x13 r0_42
  cb1 := View.ld X.x14 r0_41
  c2 := View.ld X.x15 r0_43
  n1 := fun y => X.x16 (ix3 4 (y 1) (y 2))
  nb1 := fun y => X.x17 (ix2 4 (y 1))
  n2 := fun y => X.x18 (ix3 4 (y 1) (y 2))
  nb2 := fun y => X.x19 (ix2 4 (y 1))

/-- The squared distances at the start, on the lanes. -/
abbrev ea : FVec F S8x6x24x256 .f32 := k0_pay105 X.x0 X.x1 X.x2 X.x3 X.x4 X.x5 X.x6 X.x7 X.x8 X.x9 X.x10 X.x11 X.x12 X.x13 X.x14 X.x15 X.x16 X.x17 X.x18 X.x19
/-- The state before layer 0. -/
def st0 : KSt F where
  H := k0_pay104 X.x0 X.x1 X.x2 X.x3 X.x4 X.x5 X.x6 X.x7 X.x8 X.x9 X.x10 X.x11 X.x12 X.x13 X.x14 X.x15 X.x16 X.x17 X.x18 X.x19
  x0 := k0_pay101 X.x0 X.x1 X.x2 X.x3 X.x4 X.x5 X.x6 X.x7 X.x8 X.x9 X.x10 X.x11 X.x12 X.x13 X.x14 X.x15 X.x16 X.x17 X.x18 X.x19
  x1 := k0_pay102 X.x0 X.x1 X.x2 X.x3 X.x4 X.x5 X.x6 X.x7 X.x8 X.x9 X.x10 X.x11 X.x12 X.x13 X.x14 X.x15 X.x16 X.x17 X.x18 X.x19
  x2 := k0_pay103 X.x0 X.x1 X.x2 X.x3 X.x4 X.x5 X.x6 X.x7 X.x8 X.x9 X.x10 X.x11 X.x12 X.x13 X.x14 X.x15 X.x16 X.x17 X.x18 X.x19
/-- The state before layer 1. -/
def st1 : KSt F where
  H := k0_pay115 X.x0 X.x1 X.x2 X.x3 X.x4 X.x5 X.x6 X.x7 X.x8 X.x9 X.x10 X.x11 X.x12 X.x13 X.x14 X.x15 X.x16 X.x17 X.x18 X.x19
  x0 := k0_pay110 X.x0 X.x1 X.x2 X.x3 X.x4 X.x5 X.x6 X.x7 X.x8 X.x9 X.x10 X.x11 X.x12 X.x13 X.x14 X.x15 X.x16 X.x17 X.x18 X.x19
  x1 := k0_pay111 X.x0 X.x1 X.x2 X.x3 X.x4 X.x5 X.x6 X.x7 X.x8 X.x9 X.x10 X.x11 X.x12 X.x13 X.x14 X.x15 X.x16 X.x17 X.x18 X.x19
  x2 := k0_pay112 X.x0 X.x1 X.x2 X.x3 X.x4 X.x5 X.x6 X.x7 X.x8 X.x9 X.x10 X.x11 X.x12 X.x13 X.x14 X.x15 X.x16 X.x17 X.x18 X.x19
/-- The state before layer 2. -/
def st2 : KSt F where
  H := k0_pay126 X.x0 X.x1 X.x2 X.x3 X.x4 X.x5 X.x6 X.x7 X.x8 X.x9 X.x10 X.x11 X.x12 X.x13 X.x14 X.x15 X.x16 X.x17 X.x18 X.x19
  x0 := k0_pay121 X.x0 X.x1 X.x2 X.x3 X.x4 X.x5 X.x6 X.x7 X.x8 X.x9 X.x10 X.x11 X.x12 X.x13 X.x14 X.x15 X.x16 X.x17 X.x18 X.x19
  x1 := k0_pay122 X.x0 X.x1 X.x2 X.x3 X.x4 X.x5 X.x6 X.x7 X.x8 X.x9 X.x10 X.x11 X.x12 X.x13 X.x14 X.x15 X.x16 X.x17 X.x18 X.x19
  x2 := k0_pay123 X.x0 X.x1 X.x2 X.x3 X.x4 X.x5 X.x6 X.x7 X.x8 X.x9 X.x10 X.x11 X.x12 X.x13 X.x14 X.x15 X.x16 X.x17 X.x18 X.x19
/-- The state before layer 3. -/
def st3 : KSt F where
  H := k0_pay66 (k0_pay126 X.x0 X.x1 X.x2 X.x3 X.x4 X.x5 X.x6 X.x7 X.x8 X.x9 X.x10 X.x11 X.x12 X.x13 X.x14 X.x15 X.x16 X.x17 X.x18 X.x19) (k0_pay135 X.x0 X.x1 X.x2 X.x3 X.x4 X.x5 X.x6 X.x7 X.x8 X.x9 X.x10 X.x11 X.x12 X.x13 X.x14 X.x15 X.x16 X.x17 X.x18 X.x19) (View.ld X.x18 r0_31) (View.ld X.x19 r0_30)
  x0 := k0_pay132 X.x0 X.x1 X.x2 X.x3 X.x4 X.x5 X.x6 X.x7 X.x8 X.x9 X.x10 X.x11 X.x12 X.x13 X.x14 X.x15 X.x16 X.x17 X.x18 X.x19
  x1 := k0_pay133 X.x0 X.x1 X.x2 X.x3 X.x4 X.x5 X.x6 X.x7 X.x8 X.x9 X.x10 X.x11 X.x12 X.x13 X.x14 X.x15 X.x16 X.x17 X.x18 X.x19
  x2 := k0_pay134 X.x0 X.x1 X.x2 X.x3 X.x4 X.x5 X.x6 X.x7 X.x8 X.x9 X.x10 X.x11 X.x12 X.x13 X.x14 X.x15 X.x16 X.x17 X.x18 X.x19

/-- Layer 0. -/
theorem st1_eq : st1 X = kStep (kw0 X) (ea X) (st0 X) := rfl

/-- Layer 1's messages, named. -/
theorem msg1_eq : k0_pay41 (k0_pay105 X.x0 X.x1 X.x2 X.x3 X.x4 X.x5 X.x6 X.x7 X.x8 X.x9 X.x10 X.x11 X.x12 X.x13 X.x14 X.x15 X.x16 X.x17 X.x18 X.x19) (k0_pay118 X.x0 X.x1 X.x2 X.x3 X.x4 X.x5 X.x6 X.x7 X.x8 X.x9 X.x10 X.x11 X.x12 X.x13 X.x14 X.x15 X.x16 X.x17 X.x18 X.x19) (k0_pay119 X.x0 X.x1 X.x2 X.x3 X.x4 X.x5 X.x6 X.x7 X.x8 X.x9 X.x10 X.x11 X.x12 X.x13 X.x14 X.x15 X.x16 X.x17 X.x18 X.x19) (View.ld X.x8 r0_17) (View.ld X.x9 r0_18) (View.ld X.x10 r0_17) (View.ld X.x11 r0_19) (View.ld X.x12 r0_20)
    = k0_pay23 (kM (kw1 X) (ea X) (k0_pay115 X.x0 X.x1 X.x2 X.x3 X.x4 X.x5 X.x6 X.x7 X.x8 X.x9 X.x10 X.x11 X.x12 X.x13 X.x14 X.x15 X.x16 X.x17 X.x18 X.x19) (k0_pay110 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19)) (kG (kw1 X) (ea X) (k0_pay115 X.x0 X.x1 X.x2 X.x3 X.x4 X.x5 X.x6 X.x7 X.x8 X.x9 X.x10 X.x11 X.x12 X.x13 X.x14 X.x15 X.x16 X.x17 X.x18 X.x19) (k0_pay110 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19)) :=
  one_msg (kw1 X) (ea X) (k0_pay110 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19) (k0_pay104 X.x0 X.x1 X.x2 X.x3 X.x4 X.x5 X.x6 X.x7 X.x8 X.x9 X.x10 X.x11 X.x12 X.x13 X.x14 X.x15 X.x16 X.x17 X.x18 X.x19) (k0_pay113 X.x0 X.x1 X.x2 X.x3 X.x4 X.x5 X.x6 X.x7 X.x8 X.x9 X.x10 X.x11 X.x12 X.x13 X.x14 X.x15 X.x16 X.x17 X.x18 X.x19) (k0_pay114 X.x0 X.x1 X.x2 X.x3 X.x4 X.x5 X.x6 X.x7 X.x8 X.x9 X.x10 X.x11 X.x12 X.x13 X.x14 X.x15 X.x16 X.x17 X.x18 X.x19) (kw0 X).n1 (kw0 X).nb1 (kw0 X).n2 (kw0 X).nb2

/-- Layer 1. -/
theorem st2_eq : st2 X = kStep (kw1 X) (ea X) (st1 X) := by
  have h0 : (k0_pay121 X.x0 X.x1 X.x2 X.x3 X.x4 X.x5 X.x6 X.x7 X.x8 X.x9 X.x10 X.x11 X.x12 X.x13 X.x14 X.x15 X.x16 X.x17 X.x18 X.x19) = kX (kw1 X) (ea X) (k0_pay115 X.x0 X.x1 X.x2 X.x3 X.x4 X.x5 X.x6 X.x7 X.x8 X.x9 X.x10 X.x11 X.x12 X.x13 X.x14 X.x15 X.x16 X.x17 X.x18 X.x19) (k0_pay110 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19) (k0_pay110 X.x0 X.x1 X.x2 X.x3 X.x4 X.x5 X.x6 X.x7 X.x8 X.x9 X.x10 X.x11 X.x12 X.x13 X.x14 X.x15 X.x16 X.x17 X.x18 X.x19) :=
    one_x0 (kw1 X) (ea X) (k0_pay110 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19) (k0_pay104 X.x0 X.x1 X.x2 X.x3 X.x4 X.x5 X.x6 X.x7 X.x8 X.x9 X.x10 X.x11 X.x12 X.x13 X.x14 X.x15 X.x16 X.x17 X.x18 X.x19) (k0_pay113 X.x0 X.x1 X.x2 X.x3 X.x4 X.x5 X.x6 X.x7 X.x8 X.x9 X.x10 X.x11 X.x12 X.x13 X.x14 X.x15 X.x16 X.x17 X.x18 X.x19) (k0_pay114 X.x0 X.x1 X.x2 X.x3 X.x4 X.x5 X.x6 X.x7 X.x8 X.x9 X.x10 X.x11 X.x12 X.x13 X.x14 X.x15 X.x16 X.x17 X.x18 X.x19) (kw0 X).n1 (kw0 X).nb1 (kw0 X).n2 (kw0 X).nb2
  have h1 : (k0_pay122 X.x0 X.x1 X.x2 X.x3 X.x4 X.x5 X.x6 X.x7 X.x8 X.x9 X.x10 X.x11 X.x12 X.x13 X.x14 X.x15 X.x16 X.x17 X.x18 X.x19) = kX (kw1 X) (ea X) (k0_pay115 X.x0 X.x1 X.x2 X.x3 X.x4 X.x5 X.x6 X.x7 X.x8 X.x9 X.x10 X.x11 X.x12 X.x13 X.x14 X.x15 X.x16 X.x17 X.x18 X.x19) (k0_pay110 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) :=
    one_x1 (kw1 X) (ea X) (k0_pay110 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19) (k0_pay104 X.x0 X.x1 X.x2 X.x3 X.x4 X.x5 X.x6 X.x7 X.x8 X.x9 X.x10 X.x11 X.x12 X.x13 X.x14 X.x15 X.x16 X.x17 X.x18 X.x19) (k0_pay113 X.x0 X.x1 X.x2 X.x3 X.x4 X.x5 X.x6 X.x7 X.x8 X.x9 X.x10 X.x11 X.x12 X.x13 X.x14 X.x15 X.x16 X.x17 X.x18 X.x19) (k0_pay114 X.x0 X.x1 X.x2 X.x3 X.x4 X.x5 X.x6 X.x7 X.x8 X.x9 X.x10 X.x11 X.x12 X.x13 X.x14 X.x15 X.x16 X.x17 X.x18 X.x19) (kw0 X).n1 (kw0 X).nb1 (kw0 X).n2 (kw0 X).nb2
  have h2 : (k0_pay123 X.x0 X.x1 X.x2 X.x3 X.x4 X.x5 X.x6 X.x7 X.x8 X.x9 X.x10 X.x11 X.x12 X.x13 X.x14 X.x15 X.x16 X.x17 X.x18 X.x19) = kX (kw1 X) (ea X) (k0_pay115 X.x0 X.x1 X.x2 X.x3 X.x4 X.x5 X.x6 X.x7 X.x8 X.x9 X.x10 X.x11 X.x12 X.x13 X.x14 X.x15 X.x16 X.x17 X.x18 X.x19) (k0_pay110 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19) :=
    one_x2 (kw1 X) (ea X) (k0_pay110 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19) (k0_pay104 X.x0 X.x1 X.x2 X.x3 X.x4 X.x5 X.x6 X.x7 X.x8 X.x9 X.x10 X.x11 X.x12 X.x13 X.x14 X.x15 X.x16 X.x17 X.x18 X.x19) (k0_pay113 X.x0 X.x1 X.x2 X.x3 X.x4 X.x5 X.x6 X.x7 X.x8 X.x9 X.x10 X.x11 X.x12 X.x13 X.x14 X.x15 X.x16 X.x17 X.x18 X.x19) (k0_pay114 X.x0 X.x1 X.x2 X.x3 X.x4 X.x5 X.x6 X.x7 X.x8 X.x9 X.x10 X.x11 X.x12 X.x13 X.x14 X.x15 X.x16 X.x17 X.x18 X.x19) (kw0 X).n1 (kw0 X).nb1 (kw0 X).n2 (kw0 X).nb2
  have hH : (k0_pay126 X.x0 X.x1 X.x2 X.x3 X.x4 X.x5 X.x6 X.x7 X.x8 X.x9 X.x10 X.x11 X.x12 X.x13 X.x14 X.x15 X.x16 X.x17 X.x18 X.x19) = kH (kw1 X) (ea X) (k0_pay115 X.x0 X.x1 X.x2 X.x3 X.x4 X.x5 X.x6 X.x7 X.x8 X.x9 X.x10 X.x11 X.x12 X.x13 X.x14 X.x15 X.x16 X.x17 X.x18 X.x19) (k0_pay110 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19) := by
    unfold k0_pay126 k0_pay124
    rw [msg1_eq X]
    exact one_H (kw1 X) (ea X) (k0_pay110 X.x0 X.x1 X.x2 X.x3 X.x4 X.x5 X.x6 X.x7 X.x8 X.x9 X.x10 X.x11 X.x12 X.x13 X.x14 X.x15 X.x16 X.x17 X.x18 X.x19) (k0_pay111 X.x0 X.x1 X.x2 X.x3 X.x4 X.x5 X.x6 X.x7 X.x8 X.x9 X.x10 X.x11 X.x12 X.x13 X.x14 X.x15 X.x16 X.x17 X.x18 X.x19) (k0_pay112 X.x0 X.x1 X.x2 X.x3 X.x4 X.x5 X.x6 X.x7 X.x8 X.x9 X.x10 X.x11 X.x12 X.x13 X.x14 X.x15 X.x16 X.x17 X.x18 X.x19) (k0_pay115 X.x0 X.x1 X.x2 X.x3 X.x4 X.x5 X.x6 X.x7 X.x8 X.x9 X.x10 X.x11 X.x12 X.x13 X.x14 X.x15 X.x16 X.x17 X.x18 X.x19)
  unfold st2
  rw [h0, h1, h2, hH]
  rfl

/-- Layer 2's messages, named. -/
theorem msg2_eq : k0_pay59 (k0_pay130 X.x0 X.x1 X.x2 X.x3 X.x4 X.x5 X.x6 X.x7 X.x8 X.x9 X.x10 X.x11 X.x12 X.x13 X.x14 X.x15 X.x16 X.x17 X.x18 X.x19) (View.ld X.x9 r0_26) (View.ld X.x10 r0_25) (View.ld X.x11 r0_27) (View.ld X.x12 r0_28)
    = k0_pay23 (kM (kw2 X) (ea X) (k0_pay126 X.x0 X.x1 X.x2 X.x3 X.x4 X.x5 X.x6 X.x7 X.x8 X.x9 X.x10 X.x11 X.x12 X.x13 X.x14 X.x15 X.x16 X.x17 X.x18 X.x19) (k0_pay121 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19)) (kG (kw2 X) (ea X) (k0_pay126 X.x0 X.x1 X.x2 X.x3 X.x4 X.x5 X.x6 X.x7 X.x8 X.x9 X.x10 X.x11 X.x12 X.x13 X.x14 X.x15 X.x16 X.x17 X.x18 X.x19) (k0_pay121 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19)) :=
  two_msg (kw2 X) (ea X) (k0_pay121 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19) (k0_pay115 X.x0 X.x1 X.x2 X.x3 X.x4 X.x5 X.x6 X.x7 X.x8 X.x9 X.x10 X.x11 X.x12 X.x13 X.x14 X.x15 X.x16 X.x17 X.x18 X.x19) (k0_pay124 X.x0 X.x1 X.x2 X.x3 X.x4 X.x5 X.x6 X.x7 X.x8 X.x9 X.x10 X.x11 X.x12 X.x13 X.x14 X.x15 X.x16 X.x17 X.x18 X.x19) (k0_pay125 X.x0 X.x1 X.x2 X.x3 X.x4 X.x5 X.x6 X.x7 X.x8 X.x9 X.x10 X.x11 X.x12 X.x13 X.x14 X.x15 X.x16 X.x17 X.x18 X.x19) (kw1 X).nb1 (kw1 X).n2 (kw1 X).nb2

/-- Layer 2. -/
theorem st3_eq : st3 X = kStep (kw2 X) (ea X) (st2 X) := by
  have h0 : (k0_pay132 X.x0 X.x1 X.x2 X.x3 X.x4 X.x5 X.x6 X.x7 X.x8 X.x9 X.x10 X.x11 X.x12 X.x13 X.x14 X.x15 X.x16 X.x17 X.x18 X.x19) = kX (kw2 X) (ea X) (k0_pay126 X.x0 X.x1 X.x2 X.x3 X.x4 X.x5 X.x6 X.x7 X.x8 X.x9 X.x10 X.x11 X.x12 X.x13 X.x14 X.x15 X.x16 X.x17 X.x18 X.x19) (k0_pay121 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19) (k0_pay121 X.x0 X.x1 X.x2 X.x3 X.x4 X.x5 X.x6 X.x7 X.x8 X.x9 X.x10 X.x11 X.x12 X.x13 X.x14 X.x15 X.x16 X.x17 X.x18 X.x19) :=
    two_x0 (kw2 X) (ea X) (k0_pay121 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19) (k0_pay115 X.x0 X.x1 X.x2 X.x3 X.x4 X.x5 X.x6 X.x7 X.x8 X.x9 X.x10 X.x11 X.x12 X.x13 X.x14 X.x15 X.x16 X.x17 X.x18 X.x19) (k0_pay124 X.x0 X.x1 X.x2 X.x3 X.x4 X.x5 X.x6 X.x7 X.x8 X.x9 X.x10 X.x11 X.x12 X.x13 X.x14 X.x15 X.x16 X.x17 X.x18 X.x19) (k0_pay125 X.x0 X.x1 X.x2 X.x3 X.x4 X.x5 X.x6 X.x7 X.x8 X.x9 X.x10 X.x11 X.x12 X.x13 X.x14 X.x15 X.x16 X.x17 X.x18 X.x19) (kw1 X).nb1 (kw1 X).n2 (kw1 X).nb2
  have h1 : (k0_pay133 X.x0 X.x1 X.x2 X.x3 X.x4 X.x5 X.x6 X.x7 X.x8 X.x9 X.x10 X.x11 X.x12 X.x13 X.x14 X.x15 X.x16 X.x17 X.x18 X.x19) = kX (kw2 X) (ea X) (k0_pay126 X.x0 X.x1 X.x2 X.x3 X.x4 X.x5 X.x6 X.x7 X.x8 X.x9 X.x10 X.x11 X.x12 X.x13 X.x14 X.x15 X.x16 X.x17 X.x18 X.x19) (k0_pay121 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) :=
    two_x1 (kw2 X) (ea X) (k0_pay121 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19) (k0_pay115 X.x0 X.x1 X.x2 X.x3 X.x4 X.x5 X.x6 X.x7 X.x8 X.x9 X.x10 X.x11 X.x12 X.x13 X.x14 X.x15 X.x16 X.x17 X.x18 X.x19) (k0_pay124 X.x0 X.x1 X.x2 X.x3 X.x4 X.x5 X.x6 X.x7 X.x8 X.x9 X.x10 X.x11 X.x12 X.x13 X.x14 X.x15 X.x16 X.x17 X.x18 X.x19) (k0_pay125 X.x0 X.x1 X.x2 X.x3 X.x4 X.x5 X.x6 X.x7 X.x8 X.x9 X.x10 X.x11 X.x12 X.x13 X.x14 X.x15 X.x16 X.x17 X.x18 X.x19) (kw1 X).nb1 (kw1 X).n2 (kw1 X).nb2
  have h2 : (k0_pay134 X.x0 X.x1 X.x2 X.x3 X.x4 X.x5 X.x6 X.x7 X.x8 X.x9 X.x10 X.x11 X.x12 X.x13 X.x14 X.x15 X.x16 X.x17 X.x18 X.x19) = kX (kw2 X) (ea X) (k0_pay126 X.x0 X.x1 X.x2 X.x3 X.x4 X.x5 X.x6 X.x7 X.x8 X.x9 X.x10 X.x11 X.x12 X.x13 X.x14 X.x15 X.x16 X.x17 X.x18 X.x19) (k0_pay121 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19) :=
    two_x2 (kw2 X) (ea X) (k0_pay121 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19) (k0_pay115 X.x0 X.x1 X.x2 X.x3 X.x4 X.x5 X.x6 X.x7 X.x8 X.x9 X.x10 X.x11 X.x12 X.x13 X.x14 X.x15 X.x16 X.x17 X.x18 X.x19) (k0_pay124 X.x0 X.x1 X.x2 X.x3 X.x4 X.x5 X.x6 X.x7 X.x8 X.x9 X.x10 X.x11 X.x12 X.x13 X.x14 X.x15 X.x16 X.x17 X.x18 X.x19) (k0_pay125 X.x0 X.x1 X.x2 X.x3 X.x4 X.x5 X.x6 X.x7 X.x8 X.x9 X.x10 X.x11 X.x12 X.x13 X.x14 X.x15 X.x16 X.x17 X.x18 X.x19) (kw1 X).nb1 (kw1 X).n2 (kw1 X).nb2
  have hH : k0_pay66 (k0_pay126 X.x0 X.x1 X.x2 X.x3 X.x4 X.x5 X.x6 X.x7 X.x8 X.x9 X.x10 X.x11 X.x12 X.x13 X.x14 X.x15 X.x16 X.x17 X.x18 X.x19) (k0_pay135 X.x0 X.x1 X.x2 X.x3 X.x4 X.x5 X.x6 X.x7 X.x8 X.x9 X.x10 X.x11 X.x12 X.x13 X.x14 X.x15 X.x16 X.x17 X.x18 X.x19) (View.ld X.x18 r0_31) (View.ld X.x19 r0_30) = kH (kw2 X) (ea X) (k0_pay126 X.x0 X.x1 X.x2 X.x3 X.x4 X.x5 X.x6 X.x7 X.x8 X.x9 X.x10 X.x11 X.x12 X.x13 X.x14 X.x15 X.x16 X.x17 X.x18 X.x19) (k0_pay121 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19) := by
    unfold k0_pay135
    rw [msg2_eq X]
    exact two_H (kw2 X) (ea X) (k0_pay121 X.x0 X.x1 X.x2 X.x3 X.x4 X.x5 X.x6 X.x7 X.x8 X.x9 X.x10 X.x11 X.x12 X.x13 X.x14 X.x15 X.x16 X.x17 X.x18 X.x19) (k0_pay122 X.x0 X.x1 X.x2 X.x3 X.x4 X.x5 X.x6 X.x7 X.x8 X.x9 X.x10 X.x11 X.x12 X.x13 X.x14 X.x15 X.x16 X.x17 X.x18 X.x19) (k0_pay123 X.x0 X.x1 X.x2 X.x3 X.x4 X.x5 X.x6 X.x7 X.x8 X.x9 X.x10 X.x11 X.x12 X.x13 X.x14 X.x15 X.x16 X.x17 X.x18 X.x19) (k0_pay126 X.x0 X.x1 X.x2 X.x3 X.x4 X.x5 X.x6 X.x7 X.x8 X.x9 X.x10 X.x11 X.x12 X.x13 X.x14 X.x15 X.x16 X.x17 X.x18 X.x19)
  unfold st3
  rw [h0, h1, h2, hH]
  rfl

/-- Layer 3's messages, named. -/
theorem msg3_eq : k0_pay76 (k0_pay140 X.x0 X.x1 X.x2 X.x3 X.x4 X.x5 X.x6 X.x7 X.x8 X.x9 X.x10 X.x11 X.x12 X.x13 X.x14 X.x15 X.x16 X.x17 X.x18 X.x19) (View.ld X.x10 r0_33) (View.ld X.x11 r0_35) (View.ld X.x12 r0_36)
    = k0_pay23 (kM (kw3 X) (ea X) (st3 X).H (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19)) (kG (kw3 X) (ea X) (st3 X).H (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19)) :=
  three_msg (kw3 X) (ea X) (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19) (k0_pay126 X.x0 X.x1 X.x2 X.x3 X.x4 X.x5 X.x6 X.x7 X.x8 X.x9 X.x10 X.x11 X.x12 X.x13 X.x14 X.x15 X.x16 X.x17 X.x18 X.x19) (k0_pay135 X.x0 X.x1 X.x2 X.x3 X.x4 X.x5 X.x6 X.x7 X.x8 X.x9 X.x10 X.x11 X.x12 X.x13 X.x14 X.x15 X.x16 X.x17 X.x18 X.x19) (kw2 X).n2 (kw2 X).nb2

/-- The state before layer 4. -/
def st4 : KSt F where
  H := kH (kw3 X) (ea X) (st3 X).H (st3 X).x0 (st3 X).x1 (st3 X).x2
  x0 := (k0_pay142 X.x0 X.x1 X.x2 X.x3 X.x4 X.x5 X.x6 X.x7 X.x8 X.x9 X.x10 X.x11 X.x12 X.x13 X.x14 X.x15 X.x16 X.x17 X.x18 X.x19)
  x1 := (k0_pay143 X.x0 X.x1 X.x2 X.x3 X.x4 X.x5 X.x6 X.x7 X.x8 X.x9 X.x10 X.x11 X.x12 X.x13 X.x14 X.x15 X.x16 X.x17 X.x18 X.x19)
  x2 := (k0_pay144 X.x0 X.x1 X.x2 X.x3 X.x4 X.x5 X.x6 X.x7 X.x8 X.x9 X.x10 X.x11 X.x12 X.x13 X.x14 X.x15 X.x16 X.x17 X.x18 X.x19)

/-- Layer 3. -/
theorem st4_eq : st4 X = kStep (kw3 X) (ea X) (st3 X) := by
  have h0 : (k0_pay142 X.x0 X.x1 X.x2 X.x3 X.x4 X.x5 X.x6 X.x7 X.x8 X.x9 X.x10 X.x11 X.x12 X.x13 X.x14 X.x15 X.x16 X.x17 X.x18 X.x19) = kX (kw3 X) (ea X) (st3 X).H (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19) (k0_pay132 X.x0 X.x1 X.x2 X.x3 X.x4 X.x5 X.x6 X.x7 X.x8 X.x9 X.x10 X.x11 X.x12 X.x13 X.x14 X.x15 X.x16 X.x17 X.x18 X.x19) :=
    three_x0 (kw3 X) (ea X) (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19) (k0_pay126 X.x0 X.x1 X.x2 X.x3 X.x4 X.x5 X.x6 X.x7 X.x8 X.x9 X.x10 X.x11 X.x12 X.x13 X.x14 X.x15 X.x16 X.x17 X.x18 X.x19) (k0_pay135 X.x0 X.x1 X.x2 X.x3 X.x4 X.x5 X.x6 X.x7 X.x8 X.x9 X.x10 X.x11 X.x12 X.x13 X.x14 X.x15 X.x16 X.x17 X.x18 X.x19) (kw2 X).n2 (kw2 X).nb2
  have h1 : (k0_pay143 X.x0 X.x1 X.x2 X.x3 X.x4 X.x5 X.x6 X.x7 X.x8 X.x9 X.x10 X.x11 X.x12 X.x13 X.x14 X.x15 X.x16 X.x17 X.x18 X.x19) = kX (kw3 X) (ea X) (st3 X).H (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) :=
    three_x1 (kw3 X) (ea X) (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19) (k0_pay126 X.x0 X.x1 X.x2 X.x3 X.x4 X.x5 X.x6 X.x7 X.x8 X.x9 X.x10 X.x11 X.x12 X.x13 X.x14 X.x15 X.x16 X.x17 X.x18 X.x19) (k0_pay135 X.x0 X.x1 X.x2 X.x3 X.x4 X.x5 X.x6 X.x7 X.x8 X.x9 X.x10 X.x11 X.x12 X.x13 X.x14 X.x15 X.x16 X.x17 X.x18 X.x19) (kw2 X).n2 (kw2 X).nb2
  have h2 : (k0_pay144 X.x0 X.x1 X.x2 X.x3 X.x4 X.x5 X.x6 X.x7 X.x8 X.x9 X.x10 X.x11 X.x12 X.x13 X.x14 X.x15 X.x16 X.x17 X.x18 X.x19) = kX (kw3 X) (ea X) (st3 X).H (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19) :=
    three_x2 (kw3 X) (ea X) (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19) (k0_pay126 X.x0 X.x1 X.x2 X.x3 X.x4 X.x5 X.x6 X.x7 X.x8 X.x9 X.x10 X.x11 X.x12 X.x13 X.x14 X.x15 X.x16 X.x17 X.x18 X.x19) (k0_pay135 X.x0 X.x1 X.x2 X.x3 X.x4 X.x5 X.x6 X.x7 X.x8 X.x9 X.x10 X.x11 X.x12 X.x13 X.x14 X.x15 X.x16 X.x17 X.x18 X.x19) (kw2 X).n2 (kw2 X).nb2
  unfold st4
  rw [h0, h1, h2]
  rfl

/-- Layer 4's second edge layer. -/
theorem m4_eq : (k0_pay147 X.x0 X.x1 X.x2 X.x3 X.x4 X.x5 X.x6 X.x7 X.x8 X.x9 X.x10 X.x11 X.x12 X.x13 X.x14 X.x15 X.x16 X.x17 X.x18 X.x19) = kM (kw4 X) (ea X) (st4 X).H (st4 X).x0 (st4 X).x1 (st4 X).x2 := by
  unfold k0_pay147
  have h : (k0_pay145 X.x0 X.x1 X.x2 X.x3 X.x4 X.x5 X.x6 X.x7 X.x8 X.x9 X.x10 X.x11 X.x12 X.x13 X.x14 X.x15 X.x16 X.x17 X.x18 X.x19) = half (kw3 X) (st3 X).H
      (k0_pay23 (kM (kw3 X) (ea X) (st3 X).H (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19)) (kG (kw3 X) (ea X) (st3 X).H (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19))) := by
    unfold k0_pay145
    rw [msg3_eq X]
    rfl
  rw [h]
  exact four_m2 (kw3 X) (ea X) (k0_pay132 X.x0 X.x1 X.x2 X.x3 X.x4 X.x5 X.x6 X.x7 X.x8 X.x9 X.x10 X.x11 X.x12 X.x13 X.x14 X.x15 X.x16 X.x17 X.x18 X.x19) (k0_pay133 X.x0 X.x1 X.x2 X.x3 X.x4 X.x5 X.x6 X.x7 X.x8 X.x9 X.x10 X.x11 X.x12 X.x13 X.x14 X.x15 X.x16 X.x17 X.x18 X.x19) (k0_pay134 X.x0 X.x1 X.x2 X.x3 X.x4 X.x5 X.x6 X.x7 X.x8 X.x9 X.x10 X.x11 X.x12 X.x13 X.x14 X.x15 X.x16 X.x17 X.x18 X.x19) (st3 X).H (kw4 X) (k0_pay142 X.x0 X.x1 X.x2 X.x3 X.x4 X.x5 X.x6 X.x7 X.x8 X.x9 X.x10 X.x11 X.x12 X.x13 X.x14 X.x15 X.x16 X.x17 X.x18 X.x19) (k0_pay143 X.x0 X.x1 X.x2 X.x3 X.x4 X.x5 X.x6 X.x7 X.x8 X.x9 X.x10 X.x11 X.x12 X.x13 X.x14 X.x15 X.x16 X.x17 X.x18 X.x19) (k0_pay144 X.x0 X.x1 X.x2 X.x3 X.x4 X.x5 X.x6 X.x7 X.x8 X.x9 X.x10 X.x11 X.x12 X.x13 X.x14 X.x15 X.x16 X.x17 X.x18 X.x19)

/-- A stored column, from the start column `z` and the state before layer 4. -/
def col (z y : FVec F S8x24x1 .f32) : FVec F S192x1 .f32 :=
  k0_pay94 k0_pay4 z (kX (kw4 X) (ea X) (st4 X).H (st4 X).x0 (st4 X).x1 (st4 X).x2 y)

/-- What the body leaves in the output window: three columns. -/
theorem out_eq : out0_20 X.x0 X.x1 X.x2 X.x3 X.x4 X.x5 X.x6 X.x7 X.x8 X.x9 X.x10 X.x11 X.x12 X.x13 X.x14 X.x15 X.x16 X.x17 X.x18 X.x19
    = View.canon [⟨r0_2, col X (st0 X).x2 (st4 X).x2⟩, ⟨r0_1, col X (st0 X).x1 (st4 X).x1⟩, ⟨r0_0, col X (st0 X).x0 (st4 X).x0⟩] := by
  have e0 : k0_pay94 (k0_pay100 X.x0 X.x1 X.x2 X.x3 X.x4 X.x5 X.x6 X.x7 X.x8 X.x9 X.x10 X.x11 X.x12 X.x13 X.x14 X.x15 X.x16 X.x17 X.x18 X.x19) (k0_pay101 X.x0 X.x1 X.x2 X.x3 X.x4 X.x5 X.x6 X.x7 X.x8 X.x9 X.x10 X.x11 X.x12 X.x13 X.x14 X.x15 X.x16 X.x17 X.x18 X.x19) (k0_pay93 (k0_pay99 X.x0 X.x1 X.x2 X.x3 X.x4 X.x5 X.x6 X.x7 X.x8 X.x9 X.x10 X.x11 X.x12 X.x13 X.x14 X.x15 X.x16 X.x17 X.x18 X.x19) (k0_pay142 X.x0 X.x1 X.x2 X.x3 X.x4 X.x5 X.x6 X.x7 X.x8 X.x9 X.x10 X.x11 X.x12 X.x13 X.x14 X.x15 X.x16 X.x17 X.x18 X.x19) (k0_pay86 (k0_pay142 X.x0 X.x1 X.x2 X.x3 X.x4 X.x5 X.x6 X.x7 X.x8 X.x9 X.x10 X.x11 X.x12 X.x13 X.x14 X.x15 X.x16 X.x17 X.x18 X.x19)) (k0_pay147 X.x0 X.x1 X.x2 X.x3 X.x4 X.x5 X.x6 X.x7 X.x8 X.x9 X.x10 X.x11 X.x12 X.x13 X.x14 X.x15 X.x16 X.x17 X.x18 X.x19) (View.ld X.x11 r0_43) (View.ld X.x12 r0_44) (View.ld X.x13 r0_42) (View.ld X.x14 r0_41) (View.ld X.x15 r0_43))
      = col X (st0 X).x0 (st4 X).x0 := by
    rw [m4_eq X]
    exact congrArg (k0_pay94 k0_pay4 (st0 X).x0) (four_x0 (ea X) (st4 X).H (kw4 X) (st4 X).x0 (st4 X).x1 (st4 X).x2)
  have e1 : k0_pay95 (k0_pay100 X.x0 X.x1 X.x2 X.x3 X.x4 X.x5 X.x6 X.x7 X.x8 X.x9 X.x10 X.x11 X.x12 X.x13 X.x14 X.x15 X.x16 X.x17 X.x18 X.x19) (k0_pay102 X.x0 X.x1 X.x2 X.x3 X.x4 X.x5 X.x6 X.x7 X.x8 X.x9 X.x10 X.x11 X.x12 X.x13 X.x14 X.x15 X.x16 X.x17 X.x18 X.x19) (k0_pay143 X.x0 X.x1 X.x2 X.x3 X.x4 X.x5 X.x6 X.x7 X.x8 X.x9 X.x10 X.x11 X.x12 X.x13 X.x14 X.x15 X.x16 X.x17 X.x18 X.x19) (k0_pay87 (k0_pay143 X.x0 X.x1 X.x2 X.x3 X.x4 X.x5 X.x6 X.x7 X.x8 X.x9 X.x10 X.x11 X.x12 X.x13 X.x14 X.x15 X.x16 X.x17 X.x18 X.x19)) (k0_pay148 X.x0 X.x1 X.x2 X.x3 X.x4 X.x5 X.x6 X.x7 X.x8 X.x9 X.x10 X.x11 X.x12 X.x13 X.x14 X.x15 X.x16 X.x17 X.x18 X.x19) = col X (st0 X).x1 (st4 X).x1 := by
    unfold k0_pay148
    rw [m4_eq X]
    exact four_x1 (ea X) (st4 X).H (kw4 X) (st4 X).x0 (st4 X).x1 (st4 X).x2 k0_pay4 (st0 X).x1
  have e2 : k0_pay1 (k0_pay100 X.x0 X.x1 X.x2 X.x3 X.x4 X.x5 X.x6 X.x7 X.x8 X.x9 X.x10 X.x11 X.x12 X.x13 X.x14 X.x15 X.x16 X.x17 X.x18 X.x19) (k0_pay96 (k0_pay100 X.x0 X.x1 X.x2 X.x3 X.x4 X.x5 X.x6 X.x7 X.x8 X.x9 X.x10 X.x11 X.x12 X.x13 X.x14 X.x15 X.x16 X.x17 X.x18 X.x19) (k0_pay103 X.x0 X.x1 X.x2 X.x3 X.x4 X.x5 X.x6 X.x7 X.x8 X.x9 X.x10 X.x11 X.x12 X.x13 X.x14 X.x15 X.x16 X.x17 X.x18 X.x19) (k0_pay144 X.x0 X.x1 X.x2 X.x3 X.x4 X.x5 X.x6 X.x7 X.x8 X.x9 X.x10 X.x11 X.x12 X.x13 X.x14 X.x15 X.x16 X.x17 X.x18 X.x19) (k0_pay146 X.x0 X.x1 X.x2 X.x3 X.x4 X.x5 X.x6 X.x7 X.x8 X.x9 X.x10 X.x11 X.x12 X.x13 X.x14 X.x15 X.x16 X.x17 X.x18 X.x19) (k0_pay148 X.x0 X.x1 X.x2 X.x3 X.x4 X.x5 X.x6 X.x7 X.x8 X.x9 X.x10 X.x11 X.x12 X.x13 X.x14 X.x15 X.x16 X.x17 X.x18 X.x19)) (k0_pay97 (k0_pay100 X.x0 X.x1 X.x2 X.x3 X.x4 X.x5 X.x6 X.x7 X.x8 X.x9 X.x10 X.x11 X.x12 X.x13 X.x14 X.x15 X.x16 X.x17 X.x18 X.x19) (k0_pay103 X.x0 X.x1 X.x2 X.x3 X.x4 X.x5 X.x6 X.x7 X.x8 X.x9 X.x10 X.x11 X.x12 X.x13 X.x14 X.x15 X.x16 X.x17 X.x18 X.x19) (k0_pay144 X.x0 X.x1 X.x2 X.x3 X.x4 X.x5 X.x6 X.x7 X.x8 X.x9 X.x10 X.x11 X.x12 X.x13 X.x14 X.x15 X.x16 X.x17 X.x18 X.x19) (k0_pay146 X.x0 X.x1 X.x2 X.x3 X.x4 X.x5 X.x6 X.x7 X.x8 X.x9 X.x10 X.x11 X.x12 X.x13 X.x14 X.x15 X.x16 X.x17 X.x18 X.x19) (k0_pay148 X.x0 X.x1 X.x2 X.x3 X.x4 X.x5 X.x6 X.x7 X.x8 X.x9 X.x10 X.x11 X.x12 X.x13 X.x14 X.x15 X.x16 X.x17 X.x18 X.x19))
      = col X (st0 X).x2 (st4 X).x2 := by
    unfold k0_pay148
    rw [m4_eq X]
    exact four_x2 (ea X) (st4 X).H (kw4 X) (st4 X).x0 (st4 X).x1 (st4 X).x2 k0_pay4 (st0 X).x2
  unfold out0_20
  rw [e0, e1, e2]

end Fold

end

end Cert.KernelIdeal.KF
-- ==== Proof.KBody.lean ====
/-
  The body at the extended reals: what it leaves in the output window at a sample's particle, when the windows hold the
  weights of five layers.
-/
module

public import proofs.«01_k».proof.Proof.KFold

@[expose] public section

noncomputable section

open Idealize.ShloMosaic

namespace Cert.KernelIdeal.KF

open Cert.KernelIdeal Cert.KernelIdeal.Gen Cert.KernelIdeal.KL Egnn

/-- A slice of a rank-3 window along its first axis, read at an index. -/
theorem ld3 {c n m : ℕ} (Y : Vec Ideal ⟨3, ![c, n, m]⟩ .f32) (l : Fin c)
    (inb : ∀ a : Fin 3, (![l.val, 0, 0] : Fin 3 → ℕ) a + (![1, n, m] : Fin 3 → ℕ) a ≤ (![c, n, m] : Fin 3 → ℕ) a)
    (z : Fin 1) (a : Fin n) (b : Fin m) :
    View.ld Y (Rect.unit (s := ⟨3, ![c, n, m]⟩) ![l.val, 0, 0] ![1, n, m] inb) (ix3 z a b) = Y (ix3 l a b) := by
  have hz : z.val = 0 := by omega
  refine congrArg Y (funext fun x => ?_)
  match x with
  | ⟨0, _⟩ => exact Fin.ext (by show l.val + 1 * z.val = l.val; omega)
  | ⟨1, _⟩ => exact Fin.ext (by show 0 + 1 * a.val = a.val; omega)
  | ⟨2, _⟩ => exact Fin.ext (by show 0 + 1 * b.val = b.val; omega)

/-- A row of a rank-2 window, read at an index. -/
theorem ld2 {c n : ℕ} (Y : Vec Ideal ⟨2, ![c, n]⟩ .f32) (l : Fin c)
    (inb : ∀ a : Fin 2, (![l.val, 0] : Fin 2 → ℕ) a + (![1, n] : Fin 2 → ℕ) a ≤ (![c, n] : Fin 2 → ℕ) a)
    (z : Fin 1) (a : Fin n) :
    View.ld Y (Rect.unit (s := ⟨2, ![c, n]⟩) ![l.val, 0] ![1, n] inb) (ix2 z a) = Y (ix2 l a) := by
  have hz : z.val = 0 := by omega
  refine congrArg Y (funext fun x => ?_)
  match x with
  | ⟨0, _⟩ => exact Fin.ext (by show l.val + 1 * z.val = l.val; omega)
  | ⟨1, _⟩ => exact Fin.ext (by show 0 + 1 * a.val = a.val; omega)

/-- The windows hold the weights `W` of the five layers, the one-hot rows and the embedding. -/
structure Win.Holds (X : Win Ideal) (W : ℕ → Wts) (hi : Fin 22 → Fin 21 → EReal) (ew : Fin 22 → Fin 64 → EReal)
    (eb : Fin 64 → EReal) : Prop where
  hhi : ∀ i a, X.x2 (ix2 i a) = hi i a
  hew : ∀ a k, X.x3 (ix2 a k) = ew a k
  heb : ∀ k, X.x4 (ix2 0 k) = eb k
  ha : ∀ (l : Fin 5) (a k : Fin 64), X.x5 (ix3 l a ⟨k.val, by omega⟩) = (W l).w1 ⟨a.val, by omega⟩ k
  hb : ∀ (l : Fin 5) (a k : Fin 64), X.x5 (ix3 l a ⟨64 + k.val, by omega⟩) = (W l).w1 ⟨64 + a.val, by omega⟩ k
  hr : ∀ (l : Fin 5) q k, X.x6 (ix2 l (lane q k)) = (W l).w1 128 k
  he : ∀ (l : Fin 5) q k, X.x7 (ix2 l (lane q k)) = (W l).w1 129 k
  hb1 : ∀ (l : Fin 5) q k, X.x8 (ix2 l (lane q k)) = (W l).b1 k
  hw2 : ∀ (l : Fin 5) q' c q k, X.x9 (ix3 l (lane q' c) (lane q k)) = if q' = q then (W l).w2 c k else 0
  hb2 : ∀ (l : Fin 5) q k, X.x10 (ix2 l (lane q k)) = (W l).b2 k
  haw : ∀ (l : Fin 5) q' c q, X.x11 (ix3 l (lane q' c) q) = if q' = q then (W l).aw c else 0
  hab : ∀ (l : Fin 5), X.x12 (ix2 l 0) = (W l).ab
  hc1 : ∀ (l : Fin 5) q' c q k, X.x13 (ix3 l (lane q' c) (lane q k)) = if q' = q then (W l).c1 c k else 0
  hcb1 : ∀ (l : Fin 5) q k, X.x14 (ix2 l (lane q k)) = (W l).cb1 k
  hc2 : ∀ (l : Fin 5) q' c q, X.x15 (ix3 l (lane q' c) q) = if q' = q then (W l).c2 c else 0
  hn1 : ∀ (l : Fin 5) a k, X.x16 (ix3 l a k) = (W l).n1 a k
  hnb1 : ∀ (l : Fin 5) k, X.x17 (ix2 l k) = (W l).nb1 k
  hn2 : ∀ (l : Fin 5) a k, X.x18 (ix3 l a k) = (W l).n2 a k
  hnb2 : ∀ (l : Fin 5) k, X.x19 (ix2 l k) = (W l).nb2 k

/-- The index of a column's row in the start block. -/
theorem col_idx (d : Fin 3) (inb : ∀ a : Fin 2, (![0, d.val] : Fin 2 → ℕ) a + S192x1.size a ≤ S192x3.size a) (n : Fin 192) :
    (Rect.unit (s := S192x3) ![0, d.val] S192x1.size inb).idx (ix2 n 0) = ix2 n d := by
  funext x
  match x with
  | ⟨0, _⟩ => exact Fin.ext (by show 0 + 1 * n.val = n.val; omega)
  | ⟨1, _⟩ => exact Fin.ext (by show d.val + 1 * 0 = d.val; omega)

/-- The first start column. -/
theorem pay5_apply (v : Vec Ideal S192x1 .f32) (b : Fin 8) (i : Fin 24) : k0_pay5 v (ix3 b i 0) = v (ix2 (nrow b i) 0) := by
  unfold k0_pay5
  pointwise
  rfl

/-- The second start column. -/
theorem pay6_apply (v : Vec Ideal S192x1 .f32) (b : Fin 8) (i : Fin 24) : k0_pay6 v (ix3 b i 0) = v (ix2 (nrow b i) 0) :=
  pay5_apply v b i

/-- The third start column. -/
theorem pay7_apply (v : Vec Ideal S192x1 .f32) (b : Fin 8) (i : Fin 24) : k0_pay7 v (ix3 b i 0) = v (ix2 (nrow b i) 0) :=
  pay5_apply v b i

/-- The starting features of a particle. -/
theorem pay8_apply (hi : Vec Ideal S22x21 .f32) (ew : Vec Ideal S21x64 .f32) (eb : Vec Ideal S1x64 .f32)
    (t : Vec Ideal S8x1 .f32) (el : Vec Ideal S1x64 .f32) (b : Fin 8) (i : Fin 22) (k : Fin 64) :
    k0_pay8 hi ew eb t el (ix2 (nrow b (up i)) k)
      = ((∑ a : Fin 21, hi (ix2 i a) * ew (ix2 a k)) + t (ix2 b 0) * el (ix2 0 k)) + eb (ix2 0 k) := by
  unfold k0_pay8
  pointwise [dot_S22x21_S21x64_S22x64_1_0_0_1_n_n]
  have e1 : ∀ h, (⟨(nrow b (up i)).val / 24, h⟩ : Fin 8) = b := fun h => Fin.ext (by simp only [nrow, up, Fin.val_castLE]; omega)
  have e2 : (nrow b (up i)).val % 24 = i.val := by simp only [nrow, up, Fin.val_castLE]; omega
  simp only [e1, e2, i.isLt, dif_pos, Fin.eta]
  rw [add_right_comm]

/-- The mean's factor. -/
theorem inv22 : (Named.named (F := Ideal) κ "inv22" 0x3D3A2E8C#32 : Ideal .f32) = ((22⁻¹ : ℝ) : EReal) :=
  IdealRules.named_const.ideal_named_scalar _ _ _ _ rfl

/-- A sum over the 24 rows that is zero on the two padded ones. -/
theorem sum_real (g : Fin 24 → EReal) : (∑ j : Fin 24, if j.val < 22 then g j else 0) = ∑ j : Fin 22, g (up j) := by
  rw [Fin.sum_univ_castSucc, Fin.sum_univ_castSucc]
  rw [if_neg (by simp), if_neg (by simp), add_zero, add_zero]
  refine Finset.sum_congr rfl fun j _ => ?_
  rw [if_pos (by simp)]
  rfl

/-- A stored column: the displacement less its mean. -/
theorem pay94_apply (z y : FVec Ideal S8x24x1 .f32) (b : Fin 8) (i : Fin 22) :
    k0_pay94 k0_pay4 z y (ix2 (nrow b (up i)) 0)
      = (y (ix3 b (up i) 0) - z (ix3 b (up i) 0))
        - (∑ j : Fin 22, (y (ix3 b (up j) 0) - z (ix3 b (up j) 0))) * ((1 / 22 : ℝ) : EReal) := by
  have hm := nmask_apply
  unfold k0_pay94
  generalize (k0_pay4 (F := Ideal)) = M at *
  pointwise
  have e1 : ∀ h, (⟨(nrow b (up i)).val / 24, h⟩ : Fin 8) = b := fun h => Fin.ext (by simp only [nrow, up, Fin.val_castLE]; omega)
  have e2 : ∀ h, (⟨(nrow b (up i)).val % 24, h⟩ : Fin 24) = up i := fun h => Fin.ext (by simp only [nrow, up, Fin.val_castLE]; omega)
  simp only [e1, e2, hm, inv22]
  have hi : (up i).val < 22 := i.isLt
  rw [if_pos hi, mul_one, mul_one, ← sum_real fun j => y (ix3 b j 0) - z (ix3 b j 0), one_div]
  have e3 : ∀ j : Fin 24, (y (ix3 b j 0) - z (ix3 b j 0)) * (if j.val < 22 then 1 else 0)
      = if j.val < 22 then y (ix3 b j 0) - z (ix3 b j 0) else 0 := fun j => by
    by_cases h : j.val < 22
    · rw [if_pos h, if_pos h, mul_one]
    · rw [if_neg h, if_neg h, mul_zero]
  simp only [e3]

/-- Three stored columns, read at a row and a column. -/
theorem canon3 (p0 p1 p2 : Vec Ideal S192x1 .f32) (n : Fin 192) (d : Fin 3) :
    View.canon (Val := Elt Ideal) (s := S192x3) (e := .f32) [⟨r0_2, p2⟩, ⟨r0_1, p1⟩, ⟨r0_0, p0⟩] (ix2 n d)
      = (![p0, p1, p2] : Fin 3 → Vec Ideal S192x1 .f32) d (ix2 n 0) := by
  have out_of : ∀ (e d : Fin 3) (inb : ∀ a : Fin 2, (![0, e.val] : Fin 2 → ℕ) a + S192x1.size a ≤ S192x3.size a), d ≠ e →
      (ix2 n d : S192x3.Idx) ∉ (Rect.unit (s := S192x3) ![0, e.val] S192x1.size inb).set := by
    intro e d inb hne hmem
    have := Rect.mem_set_unit.mp hmem 1
    have h1 : e.val ≤ d.val := this.1
    have h2 : d.val < e.val + 1 := this.2
    exact hne (Fin.ext (by omega))
  let P2 : View.Piece (Elt Ideal) S192x3 .f32 := ⟨r0_2, p2⟩
  let P1 : View.Piece (Elt Ideal) S192x3 .f32 := ⟨r0_1, p1⟩
  let P0 : View.Piece (Elt Ideal) S192x3 .f32 := ⟨r0_0, p0⟩
  have m2 : ∀ d, d ≠ 2 → View.canon [P2, P1, P0] (ix2 n d) = View.canon [P1, P0] (ix2 n d) := fun d h =>
    View.canon_cons_of_not_mem P2 [P1, P0] (out_of 2 d inb_S192x3_S192x1_0_2 h)
  have m1 : ∀ d, d ≠ 1 → View.canon [P1, P0] (ix2 n d) = View.canon [P0] (ix2 n d) := fun d h =>
    View.canon_cons_of_not_mem P1 [P0] (out_of 1 d inb_S192x3_S192x1_0_1 h)
  have k2 : View.canon [P2, P1, P0] (ix2 n 2) = p2 (ix2 n 0) :=
    (congrArg (View.canon [P2, P1, P0]) (col_idx 2 inb_S192x3_S192x1_0_2 n).symm).trans (View.canon_cons_emb r0_2 p2 [P1, P0] (ix2 n 0))
  have k1 : View.canon [P1, P0] (ix2 n 1) = p1 (ix2 n 0) :=
    (congrArg (View.canon [P1, P0]) (col_idx 1 inb_S192x3_S192x1_0_1 n).symm).trans (View.canon_cons_emb r0_1 p1 [P0] (ix2 n 0))
  have k0 : View.canon [P0] (ix2 n 0) = p0 (ix2 n 0) :=
    (congrArg (View.canon [P0]) (col_idx 0 inb_S192x3_S192x1_0_0 n).symm).trans (View.canon_cons_emb r0_0 p0 [] (ix2 n 0))
  match d with
  | 0 => exact (m2 0 (by decide)).trans ((m1 0 (by decide)).trans k0)
  | 1 => exact (m2 1 (by decide)).trans k1
  | 2 => exact k2

/-- Layer `l` lies inside an array of five layers. -/
theorem in3 (l : Fin 5) (n m : ℕ) (a : Fin 3) : (![l.val, 0, 0] : Fin 3 → ℕ) a + (![1, n, m] : Fin 3 → ℕ) a ≤ (![5, n, m] : Fin 3 → ℕ) a := by
  match a with
  | ⟨0, _⟩ => show l.val + 1 ≤ 5; omega
  | ⟨1, _⟩ => show 0 + n ≤ n; omega
  | ⟨2, _⟩ => show 0 + m ≤ m; omega

/-- Row `l` lies inside an array of five rows. -/
theorem in2 (l : Fin 5) (n : ℕ) (a : Fin 2) : (![l.val, 0] : Fin 2 → ℕ) a + (![1, n] : Fin 2 → ℕ) a ≤ (![5, n] : Fin 2 → ℕ) a := by
  match a with
  | ⟨0, _⟩ => show l.val + 1 ≤ 5; omega
  | ⟨1, _⟩ => show 0 + n ≤ n; omega

/-- Layer `l`'s weights as loaded. -/
def kwAt (X : Win Ideal) (l : Fin 5) : KW Ideal where
  w1ab := View.ld X.x5 (Rect.unit (s := ⟨3, ![5, 64, 128]⟩) ![l.val, 0, 0] ![1, 64, 128] (in3 l 64 128))
  wr := View.ld X.x6 (Rect.unit (s := ⟨2, ![5, 256]⟩) ![l.val, 0] ![1, 256] (in2 l 256))
  we := View.ld X.x7 (Rect.unit (s := ⟨2, ![5, 256]⟩) ![l.val, 0] ![1, 256] (in2 l 256))
  eb1 := View.ld X.x8 (Rect.unit (s := ⟨2, ![5, 256]⟩) ![l.val, 0] ![1, 256] (in2 l 256))
  w2 := View.ld X.x9 (Rect.unit (s := ⟨3, ![5, 256, 256]⟩) ![l.val, 0, 0] ![1, 256, 256] (in3 l 256 256))
  eb2 := View.ld X.x10 (Rect.unit (s := ⟨2, ![5, 256]⟩) ![l.val, 0] ![1, 256] (in2 l 256))
  aw := View.ld X.x11 (Rect.unit (s := ⟨3, ![5, 256, 4]⟩) ![l.val, 0, 0] ![1, 256, 4] (in3 l 256 4))
  ab := View.ld X.x12 (Rect.unit (s := ⟨2, ![5, 1]⟩) ![l.val, 0] ![1, 1] (in2 l 1))
  c1 := View.ld X.x13 (Rect.unit (s := ⟨3, ![5, 256, 256]⟩) ![l.val, 0, 0] ![1, 256, 256] (in3 l 256 256))
  cb1 := View.ld X.x14 (Rect.unit (s := ⟨2, ![5, 256]⟩) ![l.val, 0] ![1, 256] (in2 l 256))
  c2 := View.ld X.x15 (Rect.unit (s := ⟨3, ![5, 256, 4]⟩) ![l.val, 0, 0] ![1, 256, 4] (in3 l 256 4))
  n1 := View.ld X.x16 (Rect.unit (s := ⟨3, ![5, 128, 64]⟩) ![l.val, 0, 0] ![1, 128, 64] (in3 l 128 64))
  nb1 := View.ld X.x17 (Rect.unit (s := ⟨2, ![5, 64]⟩) ![l.val, 0] ![1, 64] (in2 l 64))
  n2 := View.ld X.x18 (Rect.unit (s := ⟨3, ![5, 64, 64]⟩) ![l.val, 0, 0] ![1, 64, 64] (in3 l 64 64))
  nb2 := View.ld X.x19 (Rect.unit (s := ⟨2, ![5, 64]⟩) ![l.val, 0] ![1, 64] (in2 l 64))

section Body

variable {X : Win Ideal} {W : ℕ → Wts} {hi : Fin 22 → Fin 21 → EReal} {ew : Fin 22 → Fin 64 → EReal}
  {eb : Fin 64 → EReal} (hX : X.Holds W hi ew eb)

include hX in
/-- A layer's loads hold the layer's weights. -/
theorem kwAt_holds (l : Fin 5) : (kwAt X l).Holds (W l) where
  ha := fun a b => (ld3 X.x5 l _ 0 _ _ ).trans (hX.ha l a b)
  hb := fun a b => (ld3 X.x5 l _ 0 _ _ ).trans (hX.hb l a b)
  hr := fun a b => (ld2 X.x6 l _ 0 _ ).trans (hX.hr l a b)
  he := fun a b => (ld2 X.x7 l _ 0 _ ).trans (hX.he l a b)
  hb1 := fun a b => (ld2 X.x8 l _ 0 _ ).trans (hX.hb1 l a b)
  hw2 := fun a b c d => (ld3 X.x9 l _ 0 _ _ ).trans (hX.hw2 l a b c d)
  hb2 := fun a b => (ld2 X.x10 l _ 0 _ ).trans (hX.hb2 l a b)
  haw := fun a b c => (ld3 X.x11 l _ 0 _ _ ).trans (hX.haw l a b c)
  hab := (ld2 X.x12 l _ 0 _ ).trans (hX.hab l)
  hc1 := fun a b c d => (ld3 X.x13 l _ 0 _ _ ).trans (hX.hc1 l a b c d)
  hcb1 := fun a b => (ld2 X.x14 l _ 0 _ ).trans (hX.hcb1 l a b)
  hc2 := fun a b c => (ld3 X.x15 l _ 0 _ _ ).trans (hX.hc2 l a b c)
  hn1 := fun a b => (ld3 X.x16 l _ 0 _ _ ).trans (hX.hn1 l a b)
  hnb1 := fun a => (ld2 X.x17 l _ 0 _ ).trans (hX.hnb1 l a)
  hn2 := fun a b => (ld3 X.x18 l _ 0 _ _ ).trans (hX.hn2 l a b)
  hnb2 := fun a => (ld2 X.x19 l _ 0 _ ).trans (hX.hnb2 l a)

include hX in
/-- Layer 0's loads hold layer 0's weights. -/
theorem kw0_holds : (kw0 X).Holds (W 0) := kwAt_holds hX 0

include hX in
/-- Layer 1's loads hold layer 1's weights. -/
theorem kw1_holds : (kw1 X).Holds (W 1) := kwAt_holds hX 1

include hX in
/-- Layer 2's loads hold layer 2's weights. -/
theorem kw2_holds : (kw2 X).Holds (W 2) := kwAt_holds hX 2

include hX in
/-- Layer 3's loads hold layer 3's weights. -/
theorem kw3_holds : (kw3 X).Holds (W 3) := kwAt_holds hX 3

include hX in
/-- Layer 4's loads hold layer 4's weights. -/
theorem kw4_holds : (kw4 X).Holds (W 4) :=
  have h := kwAt_holds hX 4
  { ha := h.ha, hb := h.hb, hr := h.hr, he := h.he, hb1 := h.hb1, hw2 := h.hw2, hb2 := h.hb2, haw := h.haw, hab := h.hab,
    hc1 := h.hc1, hcb1 := h.hcb1, hc2 := h.hc2, hn1 := hX.hn1 4, hnb1 := hX.hnb1 4, hn2 := hX.hn2 4, hnb2 := hX.hnb2 4 }

/-- Sample `b`'s starting positions in the window. -/
def Win.pos (X : Win Ideal) (b : Fin 8) : Posn := fun i d => X.x1 (ix2 (nrow b (up i)) d)

include hX in
/-- The state before layer 0 holds the starting positions and features. -/
theorem st0_holds (b : Fin 8) : (st0 X).Holds b (X.pos b) (embed hi ew eb (X.x0 (ix2 b 0))) := by
  constructor
  · intro i
    funext k
    refine (pay8_apply _ _ _ _ _ b i k).trans ?_
    have e1 : ∀ a, View.ld X.x2 r0_3 (ix2 i a) = hi i a := fun a => (congrArg X.x2 (by
      funext x; match x with
      | ⟨0, _⟩ => exact Fin.ext (by show 0 + 1 * i.val = i.val; omega)
      | ⟨1, _⟩ => exact Fin.ext (by show 0 + 1 * a.val = a.val; omega))).trans (hX.hhi i a)
    have e2 : ∀ a : Fin 21, View.ld X.x3 r0_4 (ix2 a k) = ew ⟨a.val, by omega⟩ k := fun a => (congrArg X.x3 (by
      funext x; match x with
      | ⟨0, _⟩ => exact Fin.ext (by show 0 + 1 * a.val = a.val; omega)
      | ⟨1, _⟩ => exact Fin.ext (by show 0 + 1 * k.val = k.val; omega))).trans (hX.hew ⟨a.val, by omega⟩ k)
    have e3 : View.ld X.x4 r0_5 (ix2 0 k) = eb k := (ld2 X.x4 0 _ 0 k).trans (hX.heb k)
    have e4 : View.ld X.x0 r0_6 (ix2 b 0) = X.x0 (ix2 b 0) := congrArg X.x0 (by
      funext x; match x with
      | ⟨0, _⟩ => exact Fin.ext (by show 0 + 1 * b.val = b.val; omega)
      | ⟨1, _⟩ => rfl)
    have e5 : View.ld X.x3 r0_7 (ix2 0 k) = ew 21 k := (ld2 X.x3 21 _ 0 k).trans (hX.hew 21 k)
    rw [e3, e4, e5]
    simp only [e1, e2]
    rfl
  · intro i
    funext d
    fin_cases d
    · exact (pay5_apply (View.ld X.x1 r0_0) b (up i)).trans (congrArg X.x1 (col_idx 0 inb_S192x3_S192x1_0_0 (nrow b (up i))))
    · exact (pay6_apply (View.ld X.x1 r0_1) b (up i)).trans (congrArg X.x1 (col_idx 1 inb_S192x3_S192x1_0_1 (nrow b (up i))))
    · exact (pay7_apply (View.ld X.x1 r0_2) b (up i)).trans (congrArg X.x1 (col_idx 2 inb_S192x3_S192x1_0_2 (nrow b (up i))))

/-- The lanes of squared starting distances hold the sample's. -/
theorem ea_holds (b : Fin 8) : EaHolds (ea X) b fun i j =>
    dist2 (xK b (st0 X).x0 (st0 X).x1 (st0 X).x2 i) (xK b (st0 X).x0 (st0 X).x1 (st0 X).x2 j) :=
  fun jh i q k => pay10_apply b _ _ _ jh i q k

include hX in
/-- The state before layer 4 holds four layers' positions and features, and the last layer's positions follow. -/
theorem st4_holds (b : Fin 8) :
    (kStep (kw4 X) (ea X) (st4 X)).Holds b (run W (X.pos b) (embed hi ew eb (X.x0 (ix2 b 0))) 5).1
      (run W (X.pos b) (embed hi ew eb (X.x0 (ix2 b 0))) 5).2 := by
  have h0 := st0_holds hX b
  have hr : ∀ i j : Fin 22, dist2 (xK b (st0 X).x0 (st0 X).x1 (st0 X).x2 (up i)) (xK b (st0 X).x0 (st0 X).x1 (st0 X).x2 (up j))
      = dist2 (X.pos b i) (X.pos b j) := fun i j => by rw [h0.2 i, h0.2 j]
  have h1 := kStep_holds (kw0_holds hX) (ea_holds b) (st0 X) (X.pos b) _ _ h0 hr
  rw [← st1_eq X] at h1
  have h2 := kStep_holds (kw1_holds hX) (ea_holds b) (st1 X) (X.pos b) _ _ h1 hr
  rw [← st2_eq X] at h2
  have h3 := kStep_holds (kw2_holds hX) (ea_holds b) (st2 X) (X.pos b) _ _ h2 hr
  rw [← st3_eq X] at h3
  have h4 := kStep_holds (kw3_holds hX) (ea_holds b) (st3 X) (X.pos b) _ _ h3 hr
  rw [← st4_eq X] at h4
  exact kStep_holds (kw4_holds hX) (ea_holds b) (st4 X) (X.pos b) _ _ h4 hr

include hX in
/-- What the body leaves in the output window at a sample's particle: the mathematics' result. -/
theorem body_apply (b : Fin 8) (i : Fin 22) (d : Fin 3) :
    out0_20 X.x0 X.x1 X.x2 X.x3 X.x4 X.x5 X.x6 X.x7 X.x8 X.x9 X.x10 X.x11 X.x12 X.x13 X.x14 X.x15 X.x16 X.x17 X.x18 X.x19
        (ix2 (nrow b (up i)) d)
      = out (X.pos b) (run W (X.pos b) (embed hi ew eb (X.x0 (ix2 b 0))) 5).1 i d := by
  have h0 := st0_holds hX b
  have h5 := st4_holds hX b
  rw [out_eq]
  have hc : ∀ (e : Fin 3) (z y : FVec Ideal S8x24x1 .f32), (∀ i, z (ix3 b (up i) 0) = X.pos b i e) →
      (∀ i, kX (kw4 X) (ea X) (st4 X).H (st4 X).x0 (st4 X).x1 (st4 X).x2 y (ix3 b (up i) 0)
        = (run W (X.pos b) (embed hi ew eb (X.x0 (ix2 b 0))) 5).1 i e) →
      col X z y (ix2 (nrow b (up i)) 0) = out (X.pos b) (run W (X.pos b) (embed hi ew eb (X.x0 (ix2 b 0))) 5).1 i e := by
    intro e z y hz hy
    unfold col
    rw [pay94_apply]
    simp only [hz, hy]
    rfl
  have k0 := hc 0 (st0 X).x0 (st4 X).x0 (fun i => congrFun (h0.2 i) 0) (fun i => congrFun (h5.2 i) 0)
  have k1 := hc 1 (st0 X).x1 (st4 X).x1 (fun i => congrFun (h0.2 i) 1) (fun i => congrFun (h5.2 i) 1)
  have k2 := hc 2 (st0 X).x2 (st4 X).x2 (fun i => congrFun (h0.2 i) 2) (fun i => congrFun (h5.2 i) 2)
  rw [canon3]
  fin_cases d
  · exact k0
  · exact k1
  · exact k2

end Body

end Cert.KernelIdeal.KF
-- ==== Proof.KBlk.lean ====
/-
  What the windows hold at a point of the grid: the arguments' weights, and the point's eight samples.
-/
module

public import proofs.«01_k».proof.Proof.KHost
public import proofs.«01_k».proof.Proof.KBody
public import Idealize.ShloMosaic.Lib.Pipeline.Value

@[expose] public section

set_option maxRecDepth 16384

noncomputable section

namespace Cert.KernelIdeal.KV

open Cert.KernelIdeal Cert.KernelIdeal.Gen Cert.KernelIdeal.KL Cert.KernelIdeal.KF Cert.KernelIdeal.KH Idealize.ShloMosaic Idealize.ShloMosaic.TcCoe
  Idealize.ShloMosaic.StableHlo Egnn

variable (m : (ℓ : Loc nD τ sig) → Buf (Elt Ideal) ℓ) (c : Dev nD)

/-- The grid has 128 points. -/
theorem N_128 : cfg0.N = 128 := by decide +kernel

/-- Window 0's index at a point. -/
theorem index0 : ∀ t : Fin cfg0.N, win0_0.index t 0 = t.val ∧ win0_0.index t 1 = 0 := by decide +kernel
/-- Window 1's index at a point. -/
theorem index1 : ∀ t : Fin cfg0.N, win0_1.index t 0 = t.val ∧ win0_1.index t 1 = 0 := by decide +kernel

/-- The index of every window that is a whole array: zero at every point. -/
theorem index_whole : ∀ w : Fin 21, (2 ≤ w.val ∧ w.val < 20) → ∀ (t : Fin cfg0.N) a, (cfg0.win w).index t a = 0 := by decide +kernel

/-- A coordinate in a block of index zero. -/
theorem whole_val {i z x : ℕ} (h : i = 0) : i * z + 1 * x = x := by
  rw [h, Nat.zero_mul, Nat.zero_add, Nat.one_mul]

/-- Window 0's block. -/
theorem blk0 (t : Fin cfg0.N) (b : Fin 8) (hb : t.val * 8 + b.val < 1024) : iblk m c 0 t (ix2 b 0) = V m c main_v3 (ix2 ⟨t.val * 8 + b.val, hb⟩ 0) := by
  show V m c main_v3 _ = _
  congr 1
  funext a
  refine Fin.ext ?_
  match a with
  | ⟨0, _⟩ =>
    show win0_0.index t 0 * 8 + 1 * b.val = t.val * 8 + b.val
    rw [(index0 t).1]
    omega
  | ⟨1, _⟩ =>
    show win0_0.index t 1 * 1 + 1 * 0 = 0
    rw [(index0 t).2]

/-- Window 1's block. -/
theorem blk1 (t : Fin cfg0.N) (n : Fin 192) (d : Fin 3) (hn : t.val * 192 + n.val < 24576) :
    iblk m c 1 t (ix2 n d) = V m c main_v2 (ix2 ⟨t.val * 192 + n.val, hn⟩ d) := by
  show V m c main_v2 _ = _
  congr 1
  funext a
  refine Fin.ext ?_
  match a with
  | ⟨0, _⟩ =>
    show win0_1.index t 0 * 192 + 1 * n.val = t.val * 192 + n.val
    rw [(index1 t).1]
    omega
  | ⟨1, _⟩ =>
    show win0_1.index t 1 * 3 + 1 * d.val = d.val
    rw [(index1 t).2]
    omega

/-- Window 2's block. -/
theorem blk2 (t : Fin cfg0.N) : iblk m c 2 t = V m c main_arg2 :=
  funext fun j => congrArg (V m c main_arg2) (funext fun a => Fin.ext (whole_val (index_whole 2 (by decide) t a)))

/-- Window 3's block. -/
theorem blk3 (t : Fin cfg0.N) : iblk m c 3 t = V m c main_arg3 :=
  funext fun j => congrArg (V m c main_arg3) (funext fun a => Fin.ext (whole_val (index_whole 3 (by decide) t a)))

/-- Window 4's block. -/
theorem blk4 (t : Fin cfg0.N) : iblk m c 4 t = V m c main_v36 :=
  funext fun j => congrArg (V m c main_v36) (funext fun a => Fin.ext (whole_val (index_whole 4 (by decide) t a)))

/-- Window 5's block. -/
theorem blk5 (t : Fin cfg0.N) : iblk m c 5 t = V m c main_v12 :=
  funext fun j => congrArg (V m c main_v12) (funext fun a => Fin.ext (whole_val (index_whole 5 (by decide) t a)))

/-- Window 6's block. -/
theorem blk6 (t : Fin cfg0.N) : iblk m c 6 t = V m c main_v17 :=
  funext fun j => congrArg (V m c main_v17) (funext fun a => Fin.ext (whole_val (index_whole 6 (by decide) t a)))

/-- Window 7's block. -/
theorem blk7 (t : Fin cfg0.N) : iblk m c 7 t = V m c main_v22 :=
  funext fun j => congrArg (V m c main_v22) (funext fun a => Fin.ext (whole_val (index_whole 7 (by decide) t a)))

/-- Window 8's block. -/
theorem blk8 (t : Fin cfg0.N) : iblk m c 8 t = V m c main_v25 :=
  funext fun j => congrArg (V m c main_v25) (funext fun a => Fin.ext (whole_val (index_whole 8 (by decide) t a)))

/-- Window 9's block. -/
theorem blk9 (t : Fin cfg0.N) : iblk m c 9 t = V m c main_v32 :=
  funext fun j => congrArg (V m c main_v32) (funext fun a => Fin.ext (whole_val (index_whole 9 (by decide) t a)))

/-- Window 10's block. -/
theorem blk10 (t : Fin cfg0.N) : iblk m c 10 t = V m c main_v28 :=
  funext fun j => congrArg (V m c main_v28) (funext fun a => Fin.ext (whole_val (index_whole 10 (by decide) t a)))

/-- Window 11's block. -/
theorem blk11 (t : Fin cfg0.N) : iblk m c 11 t = V m c main_v34 :=
  funext fun j => congrArg (V m c main_v34) (funext fun a => Fin.ext (whole_val (index_whole 11 (by decide) t a)))

/-- Window 12's block. -/
theorem blk12 (t : Fin cfg0.N) : iblk m c 12 t = V m c main_arg10 :=
  funext fun j => congrArg (V m c main_arg10) (funext fun a => Fin.ext (whole_val (index_whole 12 (by decide) t a)))

/-- Window 13's block. -/
theorem blk13 (t : Fin cfg0.N) : iblk m c 13 t = V m c main_v33 :=
  funext fun j => congrArg (V m c main_v33) (funext fun a => Fin.ext (whole_val (index_whole 13 (by decide) t a)))

/-- Window 14's block. -/
theorem blk14 (t : Fin cfg0.N) : iblk m c 14 t = V m c main_v31 :=
  funext fun j => congrArg (V m c main_v31) (funext fun a => Fin.ext (whole_val (index_whole 14 (by decide) t a)))

/-- Window 15's block. -/
theorem blk15 (t : Fin cfg0.N) : iblk m c 15 t = V m c main_v35 :=
  funext fun j => congrArg (V m c main_v35) (funext fun a => Fin.ext (whole_val (index_whole 15 (by decide) t a)))

/-- Window 16's block. -/
theorem blk16 (t : Fin cfg0.N) : iblk m c 16 t = V m c main_arg11 :=
  funext fun j => congrArg (V m c main_arg11) (funext fun a => Fin.ext (whole_val (index_whole 16 (by decide) t a)))

/-- Window 17's block. -/
theorem blk17 (t : Fin cfg0.N) : iblk m c 17 t = V m c main_arg12 :=
  funext fun j => congrArg (V m c main_arg12) (funext fun a => Fin.ext (whole_val (index_whole 17 (by decide) t a)))

/-- Window 18's block. -/
theorem blk18 (t : Fin cfg0.N) : iblk m c 18 t = V m c main_arg13 :=
  funext fun j => congrArg (V m c main_arg13) (funext fun a => Fin.ext (whole_val (index_whole 18 (by decide) t a)))

/-- Window 19's block. -/
theorem blk19 (t : Fin cfg0.N) : iblk m c 19 t = V m c main_arg14 :=
  funext fun j => congrArg (V m c main_arg14) (funext fun a => Fin.ext (whole_val (index_whole 19 (by decide) t a)))

/-- A vector as a row, read at an index. -/
theorem asRow_apply (x : Vec Ideal S64 .f32) (h : S64.ShapeCasts S1x64) (k : Fin 64) : shapeCast S1x64 x h (ix2 0 k) = x (ix1 k) := by
  pointwise

/-- A vector as a column, read at an index. -/
theorem asCol_apply (x : Vec Ideal S1024 .f32) (h : S1024.ShapeCasts S1024x1) (b : Fin 1024) : shapeCast S1024x1 x h (ix2 b 0) = x (ix1 b) := by
  pointwise

/-- The arguments on a device. -/
def args : In where
  t := m ((c.tc : Thread nD τ).loc main_arg0)
  x := m ((c.tc : Thread nD τ).loc main_arg1)
  hi := m ((c.tc : Thread nD τ).loc main_arg2)
  ew := m ((c.tc : Thread nD τ).loc main_arg3)
  eb := m ((c.tc : Thread nD τ).loc main_arg4)
  w1 := m ((c.tc : Thread nD τ).loc main_arg5)
  b1 := m ((c.tc : Thread nD τ).loc main_arg6)
  w2 := m ((c.tc : Thread nD τ).loc main_arg7)
  b2 := m ((c.tc : Thread nD τ).loc main_arg8)
  aw := m ((c.tc : Thread nD τ).loc main_arg9)
  ab := m ((c.tc : Thread nD τ).loc main_arg10)
  n1 := m ((c.tc : Thread nD τ).loc main_arg11)
  nb1 := m ((c.tc : Thread nD τ).loc main_arg12)
  n2 := m ((c.tc : Thread nD τ).loc main_arg13)
  nb2 := m ((c.tc : Thread nD τ).loc main_arg14)
  c1 := m ((c.tc : Thread nD τ).loc main_arg15)
  cb1 := m ((c.tc : Thread nD τ).loc main_arg16)
  c2 := m ((c.tc : Thread nD τ).loc main_arg17)

/-- The windows' blocks at a point. -/
def X (t : Fin cfg0.N) : Win Ideal where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
/-- Window 2 read at an index. -/
theorem at_hhi (t : Fin cfg0.N) : ∀ i a, iblk m c 2 t (ix2 i a) = (args m c).hi (ix2 i a) := by
  intro i a
  rw [blk2, V_main_arg2]
  rfl

/-- Window 3 read at an index. -/
theorem at_hew (t : Fin cfg0.N) : ∀ a k, iblk m c 3 t (ix2 a k) = (args m c).ew (ix2 a k) := by
  intro a k
  rw [blk3, V_main_arg3]
  rfl

/-- Window 4 read at an index. -/
theorem at_heb (t : Fin cfg0.N) : ∀ k, iblk m c 4 t (ix2 0 k) = (args m c).eb (ix1 k) := by
  intro k
  rw [blk4, V_w4]
  exact asRow_apply _ _ k

/-- Window 5 read at an index. -/
theorem at_ha (t : Fin cfg0.N) : ∀ (l : Fin 5) (a k : Fin 64), iblk m c 5 t (ix3 l a ⟨k.val, by omega⟩) = ((args m c).wl l).w1 ⟨a.val, by omega⟩ k := by
  intro l a k
  rw [blk5, V_w5]
  exact halves_fst _ l a k

/-- Window 5 read at an index. -/
theorem at_hb (t : Fin cfg0.N) : ∀ (l : Fin 5) (a k : Fin 64), iblk m c 5 t (ix3 l a ⟨64 + k.val, by omega⟩) = ((args m c).wl l).w1 ⟨64 + a.val, by omega⟩ k := by
  intro l a k
  rw [blk5, V_w5]
  exact halves_snd _ l a k

/-- Window 6 read at an index. -/
theorem at_hr (t : Fin cfg0.N) : ∀ (l : Fin 5) q k, iblk m c 6 t (ix2 l (lane q k)) = ((args m c).wl l).w1 128 k := by
  intro l q k
  rw [blk6, V_w6]
  exact (tile_apply _ l q k).trans (rowAt_apply 128 _ _ l k (by omega))

/-- Window 7 read at an index. -/
theorem at_he (t : Fin cfg0.N) : ∀ (l : Fin 5) q k, iblk m c 7 t (ix2 l (lane q k)) = ((args m c).wl l).w1 129 k := by
  intro l q k
  rw [blk7, V_w7]
  exact (tile_apply _ l q k).trans (rowAt_apply 129 _ _ l k (by omega))

/-- Window 8 read at an index. -/
theorem at_hb1 (t : Fin cfg0.N) : ∀ (l : Fin 5) q k, iblk m c 8 t (ix2 l (lane q k)) = ((args m c).wl l).b1 k := by
  intro l q k
  rw [blk8, V_w8]
  exact tile_apply _ l q k

/-- Window 9 read at an index. -/
theorem at_hw2 (t : Fin cfg0.N) : ∀ (l : Fin 5) q' a q k, iblk m c 9 t (ix3 l (lane q' a) (lane q k)) = if q' = q then ((args m c).wl l).w2 a k else 0 := by
  intro l q' a q k
  rw [blk9, V_w9]
  exact kron64_apply _ l q' q a k

/-- Window 10 read at an index. -/
theorem at_hb2 (t : Fin cfg0.N) : ∀ (l : Fin 5) q k, iblk m c 10 t (ix2 l (lane q k)) = ((args m c).wl l).b2 k := by
  intro l q k
  rw [blk10, V_w10]
  exact tile_apply _ l q k

/-- Window 11 read at an index. -/
theorem at_haw (t : Fin cfg0.N) : ∀ (l : Fin 5) q' a q, iblk m c 11 t (ix3 l (lane q' a) q) = if q' = q then ((args m c).wl l).aw a else 0 := by
  intro l q' a q
  rw [blk11, V_w11]
  exact kron1_apply _ l q' q a

/-- Window 12 read at an index. -/
theorem at_hab (t : Fin cfg0.N) : ∀ (l : Fin 5), iblk m c 12 t (ix2 l 0) = ((args m c).wl l).ab := by
  intro l
  rw [blk12, V_main_arg10]
  rfl

/-- Window 13 read at an index. -/
theorem at_hc1 (t : Fin cfg0.N) : ∀ (l : Fin 5) q' a q k, iblk m c 13 t (ix3 l (lane q' a) (lane q k)) = if q' = q then ((args m c).wl l).c1 a k else 0 := by
  intro l q' a q k
  rw [blk13, V_w13]
  exact kron64_apply _ l q' q a k

/-- Window 14 read at an index. -/
theorem at_hcb1 (t : Fin cfg0.N) : ∀ (l : Fin 5) q k, iblk m c 14 t (ix2 l (lane q k)) = ((args m c).wl l).cb1 k := by
  intro l q k
  rw [blk14, V_w14]
  exact tile_apply _ l q k

/-- Window 15 read at an index. -/
theorem at_hc2 (t : Fin cfg0.N) : ∀ (l : Fin 5) q' a q, iblk m c 15 t (ix3 l (lane q' a) q) = if q' = q then ((args m c).wl l).c2 a else 0 := by
  intro l q' a q
  rw [blk15, V_w15]
  exact kron1_apply _ l q' q a

/-- Window 16 read at an index. -/
theorem at_hn1 (t : Fin cfg0.N) : ∀ (l : Fin 5) a k, iblk m c 16 t (ix3 l a k) = ((args m c).wl l).n1 a k := by
  intro l a k
  rw [blk16, V_main_arg11]
  rfl

/-- Window 17 read at an index. -/
theorem at_hnb1 (t : Fin cfg0.N) : ∀ (l : Fin 5) k, iblk m c 17 t (ix2 l k) = ((args m c).wl l).nb1 k := by
  intro l k
  rw [blk17, V_main_arg12]
  rfl

/-- Window 18 read at an index. -/
theorem at_hn2 (t : Fin cfg0.N) : ∀ (l : Fin 5) a k, iblk m c 18 t (ix3 l a k) = ((args m c).wl l).n2 a k := by
  intro l a k
  rw [blk18, V_main_arg13]
  rfl

/-- Window 19 read at an index. -/
theorem at_hnb2 (t : Fin cfg0.N) : ∀ (l : Fin 5) k, iblk m c 19 t (ix2 l k) = ((args m c).wl l).nb2 k := by
  intro l k
  rw [blk19, V_main_arg14]
  rfl

/-- Window 0's block. -/
theorem X_0 (t : Fin cfg0.N) : (X m c t).x0 = iblk m c 0 t := by
  simp only [X]

/-- Window 1's block. -/
theorem X_1 (t : Fin cfg0.N) : (X m c t).x1 = iblk m c 1 t := by
  simp only [X]

/-- Window 2's block. -/
theorem X_2 (t : Fin cfg0.N) : (X m c t).x2 = iblk m c 2 t := by
  simp only [X]

/-- Window 3's block. -/
theorem X_3 (t : Fin cfg0.N) : (X m c t).x3 = iblk m c 3 t := by
  simp only [X]

/-- Window 4's block. -/
theorem X_4 (t : Fin cfg0.N) : (X m c t).x4 = iblk m c 4 t := by
  simp only [X]

/-- Window 5's block. -/
theorem X_5 (t : Fin cfg0.N) : (X m c t).x5 = iblk m c 5 t := by
  simp only [X]

/-- Window 6's block. -/
theorem X_6 (t : Fin cfg0.N) : (X m c t).x6 = iblk m c 6 t := by
  simp only [X]

/-- Window 7's block. -/
theorem X_7 (t : Fin cfg0.N) : (X m c t).x7 = iblk m c 7 t := by
  simp only [X]

/-- Window 8's block. -/
theorem X_8 (t : Fin cfg0.N) : (X m c t).x8 = iblk m c 8 t := by
  simp only [X]

/-- Window 9's block. -/
theorem X_9 (t : Fin cfg0.N) : (X m c t).x9 = iblk m c 9 t := by
  simp only [X]

/-- Window 10's block. -/
theorem X_10 (t : Fin cfg0.N) : (X m c t).x10 = iblk m c 10 t := by
  simp only [X]

/-- Window 11's block. -/
theorem X_11 (t : Fin cfg0.N) : (X m c t).x11 = iblk m c 11 t := by
  simp only [X]

/-- Window 12's block. -/
theorem X_12 (t : Fin cfg0.N) : (X m c t).x12 = iblk m c 12 t := by
  simp only [X]

/-- Window 13's block. -/
theorem X_13 (t : Fin cfg0.N) : (X m c t).x13 = iblk m c 13 t := by
  simp only [X]

/-- Window 14's block. -/
theorem X_14 (t : Fin cfg0.N) : (X m c t).x14 = iblk m c 14 t := by
  simp only [X]

/-- Window 15's block. -/
theorem X_15 (t : Fin cfg0.N) : (X m c t).x15 = iblk m c 15 t := by
  simp only [X]

/-- Window 16's block. -/
theorem X_16 (t : Fin cfg0.N) : (X m c t).x16 = iblk m c 16 t := by
  simp only [X]

/-- Window 17's block. -/
theorem X_17 (t : Fin cfg0.N) : (X m c t).x17 = iblk m c 17 t := by
  simp only [X]

/-- Window 18's block. -/
theorem X_18 (t : Fin cfg0.N) : (X m c t).x18 = iblk m c 18 t := by
  simp only [X]

/-- Window 19's block. -/
theorem X_19 (t : Fin cfg0.N) : (X m c t).x19 = iblk m c 19 t := by
  simp only [X]

/-- The windows hold the arguments' weights at every point. -/
theorem holds (t : Fin cfg0.N) : (X m c t).Holds (args m c).wn (fun i a => (args m c).hi (ix2 i a))
    (fun a k => (args m c).ew (ix2 a k)) (fun k => (args m c).eb (ix1 k)) where
  hhi := by
    rw [X_2]
    exact at_hhi m c t
  hew := by
    rw [X_3]
    exact at_hew m c t
  heb := by
    rw [X_4]
    exact at_heb m c t
  ha l := by
    rw [In.wn_val, X_5]
    exact at_ha m c t l
  hb l := by
    rw [In.wn_val, X_5]
    exact at_hb m c t l
  hr l := by
    rw [In.wn_val, X_6]
    exact at_hr m c t l
  he l := by
    rw [In.wn_val, X_7]
    exact at_he m c t l
  hb1 l := by
    rw [In.wn_val, X_8]
    exact at_hb1 m c t l
  hw2 l := by
    rw [In.wn_val, X_9]
    exact at_hw2 m c t l
  hb2 l := by
    rw [In.wn_val, X_10]
    exact at_hb2 m c t l
  haw l := by
    rw [In.wn_val, X_11]
    exact at_haw m c t l
  hab l := by
    rw [In.wn_val, X_12]
    exact at_hab m c t l
  hc1 l := by
    rw [In.wn_val, X_13]
    exact at_hc1 m c t l
  hcb1 l := by
    rw [In.wn_val, X_14]
    exact at_hcb1 m c t l
  hc2 l := by
    rw [In.wn_val, X_15]
    exact at_hc2 m c t l
  hn1 l := by
    rw [In.wn_val, X_16]
    exact at_hn1 m c t l
  hnb1 l := by
    rw [In.wn_val, X_17]
    exact at_hnb1 m c t l
  hn2 l := by
    rw [In.wn_val, X_18]
    exact at_hn2 m c t l
  hnb2 l := by
    rw [In.wn_val, X_19]
    exact at_hnb2 m c t l

/-- The start positions a point reads. -/
theorem pos_apply (t : Fin cfg0.N) (b : Fin 8) (hb : t.val * 8 + b.val < 1024) :
    (X m c t).pos b = (args m c).x0 ⟨t.val * 8 + b.val, hb⟩ := by
  funext i d
  have h0 : (nrow b (up i)).val = b.val * 24 + i.val := by simp only [nrow, up, Fin.val_castLE]
  show iblk m c 1 t (ix2 (nrow b (up i)) d) = _
  rw [blk1 m c t _ d (by omega), V_w1]
  have e : (⟨t.val * 192 + (nrow b (up i)).val, by omega⟩ : Fin 24576)
      = ⟨(⟨t.val * 8 + b.val, hb⟩ : Fin 1024).val * 24 + i.val, by omega⟩ := Fin.ext (by show t.val * 192 + (nrow b (up i)).val = (t.val * 8 + b.val) * 24 + i.val; omega)
  rw [e]
  exact padded_apply _ _ i d

/-- The time a point reads. -/
theorem time_apply (t : Fin cfg0.N) (b : Fin 8) (hb : t.val * 8 + b.val < 1024) :
    (X m c t).x0 (ix2 b 0) = (args m c).t (ix1 ⟨t.val * 8 + b.val, hb⟩) := by
  show iblk m c 0 t (ix2 b 0) = _
  rw [blk0 m c t b hb, V_w0]
  exact asCol_apply _ _ _

/-- What a point leaves in the result's block: its samples' results. -/
theorem point_apply (t : Fin cfg0.N) (b : Fin 8) (i : Fin 22) (d : Fin 3) (hb : t.val * 8 + b.val < 1024) :
    (dats m 0 c).after 20 t (ix2 (nrow b (up i)) d) = (args m c).res ⟨t.val * 8 + b.val, hb⟩ i d := by
  have e : (dats m 0 c).after 20 t = out0_20 (X m c t).x0 (X m c t).x1 (X m c t).x2 (X m c t).x3 (X m c t).x4 (X m c t).x5 (X m c t).x6 (X m c t).x7 (X m c t).x8 (X m c t).x9 (X m c t).x10 (X m c t).x11 (X m c t).x12 (X m c t).x13 (X m c t).x14 (X m c t).x15 (X m c t).x16 (X m c t).x17 (X m c t).x18 (X m c t).x19 := by
    rw [after0_20]
    simp only [X]
  rw [e, body_apply (holds m c t) b i d, pos_apply m c t b hb, time_apply m c t b hb]
  unfold In.res In.h0
  rfl

end Cert.KernelIdeal.KV

end
-- ==== Proof.KValue.lean ====
/-
  The kernel's result, sample by sample: the function of `Common.lean`.
-/
module

public import proofs.«01_k».proof.Proof.KBlk

@[expose] public section

set_option maxRecDepth 16384

noncomputable section

namespace Cert.KernelIdeal.KV

open Cert.KernelIdeal Cert.KernelIdeal.Gen Cert.KernelIdeal.KL Cert.KernelIdeal.KF Cert.KernelIdeal.KH Idealize.ShloMosaic Idealize.ShloMosaic.TcCoe
  Idealize.ShloMosaic.StableHlo Idealize.SL.Sem Egnn

/-- The result array with its padded rows dropped, a sample a row. -/
def trim (y : FVec Ideal S24576x3 .f32) : FVec Ideal S1024x66 .f32 :=
  shapeCast _ (extractStridedSlice S1024x22x3 ![0, 0, 0] (shapeCast S1024x24x3 y shapeCasts_S24576x3_S1024x24x3)
    slices_S1024x24x3_S1024x22x3_0_0_0) shapeCasts_S1024x22x3_S1024x66

/-- The result at a sample's particle and coordinate. -/
theorem trim_apply (y : FVec Ideal S24576x3 .f32) (b : Fin 1024) (i : Fin 22) (d : Fin 3) :
    trim y (ix2 b ⟨3 * i.val + d.val, by omega⟩) = y (ix2 ⟨b.val * 24 + i.val, by omega⟩ d) := by
  unfold trim
  pointwise

/-- The lines after the grid. -/
theorem tail_eq (W : Valuation τ sig (Elt Ideal)) :
    StableHlo.after hostOps1 W (Proc.devRef .tc main_v40) = trim (W (Proc.devRef .tc main_v37)) := rfl

variable (m : (ℓ : Loc nD τ sig) → Buf (Elt Ideal) ℓ) (c : Dev nD)

/-- The array of the points' blocks. -/
def G : FVec Ideal S24576x3 .f32 := fun j =>
  ((dats m 0 c).after 20 ⟨(j 0).val / 192, by have h : (j 0).val < 24576 := (j 0).isLt; rw [N_128]; omega⟩ : FVec Ideal S192x3 .f32)
    (ix2 ⟨(j 0).val % 192, Nat.mod_lt _ (by omega)⟩ (j 1))

/-- The array of the points' blocks, read in a point's block. -/
theorem G_apply (t : Fin cfg0.N) (n : Fin 192) (d : Fin 3) (h : t.val * 192 + n.val < 24576) :
    G m c (ix2 ⟨t.val * 192 + n.val, h⟩ d) = (dats m 0 c).after 20 t (ix2 n d) := by
  have e1 : ∀ h', (⟨(t.val * 192 + n.val) / 192, h'⟩ : Fin cfg0.N) = t := fun _ => Fin.ext (by show (t.val * 192 + n.val) / 192 = t.val; omega)
  have e2 : ∀ h', (⟨(t.val * 192 + n.val) % 192, h'⟩ : Fin 192) = n := fun _ => Fin.ext (by show (t.val * 192 + n.val) % 192 = n.val; omega)
  exact congrArg₂ (fun (t' : Fin cfg0.N) (n' : Fin 192) => ((dats m 0 c).after 20 t' : FVec Ideal S192x3 .f32) (ix2 n' d)) (e1 _) (e2 _)

/-- Window 20's index at a point. -/
theorem index20 : ∀ t : Fin cfg0.N, win0_20.index t 0 = t.val ∧ win0_20.index t 1 = 0 := by decide +kernel

/-- Window 20's block at a point: 192 rows of three. -/
theorem size20 : ∀ t : Fin cfg0.N, win0_20.index t 0 * win0_20.size 0 = t.val * 192 ∧ win0_20.xsize (grid0.coords t) 0 = 192
      ∧ win0_20.index t 1 * win0_20.size 1 = 0 ∧ win0_20.xsize (grid0.coords t) 1 = 3 := by decide +kernel

/-- What a point writes back is its block of the array. -/
theorem flushed_20 (t : Fin cfg0.N) : (dats m 0 c).flushed 20 t = ((cfg0.win 20).blk t).view.read (Elt Ideal) (G m c) := by
  show (cfg0.win 20).cut (grid0.coords t) ((dats m 0 c).after 20 t) = _
  funext j
  have h0 : (j 0).val < 192 := lt_of_lt_of_eq (j 0).isLt (size20 t).2.1
  have h1 : (j 1).val < 3 := lt_of_lt_of_eq (j 1).isLt (size20 t).2.2.2
  have ht : t.val < 128 := lt_of_lt_of_eq t.isLt N_128
  have hl : (cfg0.win 20).cut (grid0.coords t) ((dats m 0 c).after 20 t) j
      = (dats m 0 c).after 20 t (ix2 ⟨(j 0).val, h0⟩ ⟨(j 1).val, h1⟩) := by
    show (dats m 0 c).after 20 t _ = _
    refine congrArg _ (funext fun a => Fin.ext ?_)
    match a with
    | ⟨0, _⟩ => rfl
    | ⟨1, _⟩ => rfl
  have hr : ((cfg0.win 20).blk t).view.read (Elt Ideal) (G m c) j
      = G m c (ix2 ⟨t.val * 192 + (j 0).val, by omega⟩ ⟨(j 1).val, h1⟩) := by
    show G m c _ = _
    refine congrArg _ (funext fun a => Fin.ext ?_)
    match a with
    | ⟨0, _⟩ =>
      show win0_20.index t 0 * 192 + 1 * (j 0).val = t.val * 192 + (j 0).val
      rw [(index20 t).1]
      omega
    | ⟨1, _⟩ =>
      show win0_20.index t 1 * 3 + 1 * (j 1).val = (j 1).val
      rw [(index20 t).2]
      omega
  rw [hl, hr]
  exact (G_apply m c t ⟨(j 0).val, h0⟩ ⟨(j 1).val, h1⟩ (by show t.val * 192 + (j 0).val < 24576; omega)).symm

/-- Where a point's block lies. -/
theorem mem_blk20 (t : Fin cfg0.N) (i : S24576x3.Idx) (h : t.val * 192 ≤ (i 0).val ∧ (i 0).val < t.val * 192 + 192) :
    i ∈ ((cfg0.win 20).blk t).view.set := by
  show i ∈ ((View.whole main_v37).slice (win0_20.rect t)).set
  rw [View.set_slice_whole, Rect.mem_set_unit]
  have h1 : (i 1).val < 3 := (i 1).isLt
  have e := size20 t
  intro a
  match a with
  | ⟨0, _⟩ =>
    show win0_20.index t 0 * win0_20.size 0 ≤ (i 0).val ∧ (i 0).val < win0_20.index t 0 * win0_20.size 0 + win0_20.xsize (grid0.coords t) 0
    rw [e.1, e.2.1]
    exact h
  | ⟨1, _⟩ =>
    show win0_20.index t 1 * win0_20.size 1 ≤ (i 1).val ∧ (i 1).val < win0_20.index t 1 * win0_20.size 1 + win0_20.xsize (grid0.coords t) 1
    rw [e.2.2.1, e.2.2.2]
    omega

/-- The points' blocks cover the array. -/
theorem cover20 (i : S24576x3.Idx) : ∃ t : Fin cfg0.N, (cfg0.win 20).flush t = true ∧ i ∈ ((cfg0.win 20).blk t).view.set := by
  have h0 : (i 0).val < 24576 := (i 0).isLt
  have hN : (i 0).val / 192 < cfg0.N := by rw [N_128]; omega
  refine ⟨⟨(i 0).val / 192, hN⟩, flush0_20 _, mem_blk20 _ i ?_⟩
  show (i 0).val / 192 * 192 ≤ (i 0).val ∧ (i 0).val < (i 0).val / 192 * 192 + 192
  omega

/-- The array after the grid. -/
theorem final20 : (dats m 0 c).arrAt 20 cfg0.N = G m c :=
  (dats m 0 c).arrAt_eq_of_cover 20 (G m c) (fun t _ => flushed_20 m c t) cover20

/-- The result: the padded rows dropped from the array of the points' blocks. -/
theorem result_eq : Pipeline.afterTail₀ cfgs (dats m) 0 (V0 m) [hostOps1] c main_v40 = trim (G m c) := by
  have h : Pipeline.afterTail₀ cfgs (dats m) 0 (V0 m) [hostOps1] c main_v40
      = trim (Pipeline.withArrays spec0 c (V0 m c) (fun w => (dats m 0 c).arrAt w cfg0.N) (Proc.devRef .tc main_v37)) :=
    tail_eq _
  rw [h]
  refine congrArg trim ?_
  refine Eq.trans ?_ (final20 m c)
  exact Pipeline.withArrays_arr spec0 (by decide +kernel) c (V0 m c) (fun w => (dats m 0 c).arrAt w cfg0.N) 20

/-- The result at a sample's particle and coordinate. -/
theorem result_apply (n : Fin 1024) (i : Fin 22) (d : Fin 3) :
    trim (G m c) (ix2 n ⟨3 * i.val + d.val, by omega⟩) = (args m c).res n i d := by
  have hN : n.val / 8 < cfg0.N := by rw [N_128]; omega
  let t : Fin cfg0.N := ⟨n.val / 8, hN⟩
  let b : Fin 8 := ⟨n.val % 8, Nat.mod_lt _ (by omega)⟩
  have hb : t.val * 8 + b.val < 1024 := by show n.val / 8 * 8 + n.val % 8 < 1024; omega
  have hn : (⟨t.val * 8 + b.val, hb⟩ : Fin 1024) = n := Fin.ext (by show n.val / 8 * 8 + n.val % 8 = n.val; omega)
  have hr : (nrow b (up i)).val = n.val % 8 * 24 + i.val := by simp only [nrow, up, Fin.val_castLE, b]
  have hk : t.val * 192 + (nrow b (up i)).val < 24576 := by rw [hr]; show n.val / 8 * 192 + (n.val % 8 * 24 + i.val) < 24576; omega
  have e : (⟨n.val * 24 + i.val, by omega⟩ : Fin 24576) = ⟨t.val * 192 + (nrow b (up i)).val, hk⟩ :=
    Fin.ext (by show n.val * 24 + i.val = t.val * 192 + (nrow b (up i)).val; rw [hr]; show n.val * 24 + i.val = n.val / 8 * 192 + (n.val % 8 * 24 + i.val); omega)
  rw [trim_apply, e, G_apply, point_apply m c t b i d hb, hn]

/-- The kernel's run leaves the result array at the trimmed array of the points' blocks. -/
theorem run_result (ρ : Dev nD → PrngReg) :
    θ_run (defs (F := Ideal)) (onTc (τ := τ) (main (F := Ideal))) ⟨m, fun _ => 0, ρ⟩ fun r => ∀ c : Dev nD,
      r.2.mem ((c.tc : Thread nD τ).loc main_v40) = trim (G m c) :=
  (θ_run defs _ _).mono (fun _ h c => ((h c).2 main_v40 (by decide +kernel)).trans (result_eq m c)) (run_main m ρ)

end Cert.KernelIdeal.KV

end
-- ==== Proof.RFold.lean ====
/-
  The reference program's result as five applications of one layer, on arrays.
-/
module

public import proofs.«01_k».proof.Proof.Gen.ReferenceIdeal.Run

@[expose] public section

noncomputable section

namespace Cert.ReferenceIdeal.RF

open Cert.ReferenceIdeal Cert.ReferenceIdeal.Gen Cert.ReferenceIdeal.Value Idealize.ShloMosaic Idealize.ShloMosaic.TcCoe
  Idealize.ShloMosaic.StableHlo

variable {F : FTy → Type} [FloatOps F]

/-- One layer's weights as arrays. -/
structure RW (F : FTy → Type) [FloatOps F] where
  w1 : FVec F S130x64 .f32
  b1 : FVec F S64 .f32
  w2 : FVec F S64x64 .f32
  b2 : FVec F S64 .f32
  aw : FVec F S64x1 .f32
  ab : FVec F S1 .f32
  n1 : FVec F S128x64 .f32
  nb1 : FVec F S64 .f32
  n2 : FVec F S64x64 .f32
  nb2 : FVec F S64 .f32
  c1 : FVec F S64x64 .f32
  cb1 : FVec F S64 .f32
  c2 : FVec F S64x1 .f32

/-- A list of row numbers as gather indices, a negative one counted from the end. -/
def rSel (A : IVec S473088 32) : IVec S473088x1 32 :=
  broadcastInDim S473088x1 ![0] bcast_S473088_S473088x1_0 (select (cmpi .slt A (broadcastInDim S473088 ![] bcast_S_S473088 (constantI S_ 32 0#32))) (addi A (broadcastInDim S473088 ![] bcast_S_S473088 (constantI S_ 32 22528#32))) A)

/-- A list of row numbers as scatter indices. -/
def rRow (A : IVec S473088 32) : IVec S473088x1 32 := broadcastInDim S473088x1 ![0] bcast_S473088_S473088x1_0 A

/-- Every edge's difference of positions. -/
def rDiff (A B : IVec S473088 32) (x : FVec F S22528x3 .f32) : FVec F S473088x3 .f32 :=
  subf (Host.gather gather_S22528x3_S473088x1_S473088x3_1_0_n_n_0_1_13 x (rSel A)) (Host.gather gather_S22528x3_S473088x1_S473088x3_1_0_n_n_0_1_13 x (rSel B))

/-- Every edge's squared length. -/
def rRad (d : FVec F S473088x3 .f32) : FVec F S473088x1 .f32 :=
  broadcastInDim S473088x1 ![0] bcast_S473088_S473088x1_0 (Host.reduceAdd (mulf d d) (constant S_ .f32 0x00000000#32) reducesTo_S473088x3_S473088_d1 h_S_)

/-- A bias on every edge. -/
def rBias (b : FVec F S64 .f32) : FVec F S473088x64 .f32 :=
  broadcastInDim S473088x64 ![0, 1] bcast_S1x64_S473088x64_0_1 (broadcastInDim S1x64 ![1] bcast_S64_S1x64_1 b)

/-- A bias on every particle. -/
def rBiasN (b : FVec F S64 .f32) : FVec F S22528x64 .f32 :=
  broadcastInDim S22528x64 ![0, 1] bcast_S1x64_S22528x64_0_1 (broadcastInDim S1x64 ![1] bcast_S64_S1x64_1 b)

/-- The activation on every edge. -/
def rSilu (v : FVec F S473088x64 .f32) : FVec F S473088x64 .f32 :=
  mulf v (Host.divf (broadcastInDim S473088x64 ![] bcast_S_S473088x64 (constant S_ .f32 0x3F800000#32)) (addf (broadcastInDim S473088x64 ![] bcast_S_S473088x64 (constant S_ .f32 0x3F800000#32)) (Host.exp (Host.negf v))))

/-- The activation on every particle. -/
def rSiluN (v : FVec F S22528x64 .f32) : FVec F S22528x64 .f32 :=
  mulf v (Host.divf (broadcastInDim S22528x64 ![] bcast_S_S22528x64 (constant S_ .f32 0x3F800000#32)) (addf (broadcastInDim S22528x64 ![] bcast_S_S22528x64 (constant S_ .f32 0x3F800000#32)) (Host.exp (Host.negf v))))

/-- The edge network's first layer before its activation. -/
def rPre1 (w : RW F) (A B : IVec S473088 32) (h : FVec F S22528x64 .f32) (r e : FVec F S473088x1 .f32) : FVec F S473088x64 .f32 :=
  addf (Host.dotGeneral dot_S473088x130_S130x64_S473088x64_1_0_0_1_n_n none
    (concatenate S473088x130 1 [⟨S473088x64, Host.gather gather_S22528x64_S473088x1_S473088x64_1_0_n_n_0_1_164 h (rSel A)⟩,
      ⟨S473088x64, Host.gather gather_S22528x64_S473088x1_S473088x64_1_0_n_n_0_1_164 h (rSel B)⟩, ⟨S473088x1, r⟩, ⟨S473088x1, e⟩]
      concatenates_S473088x64_S473088x64_S473088x1_S473088x1_S473088x130_d1) w.w1) (rBias w.b1)

/-- A dense layer of width 64 on every edge. -/
def rLin (w : FVec F S64x64 .f32) (b : FVec F S64 .f32) (m : FVec F S473088x64 .f32) : FVec F S473088x64 .f32 :=
  addf (Host.dotGeneral dot_S473088x64_S64x64_S473088x64_1_0_0_1_n_n none m w) (rBias b)

/-- The messages, from the edge network's second layer. -/
def rGate (w : RW F) (m : FVec F S473088x64 .f32) : FVec F S473088x64 .f32 :=
  mulf m (broadcastInDim S473088x64 ![0, 1] bcast_S473088x1_S473088x64_0_1 (Host.divf (broadcastInDim S473088x1 ![] bcast_S_S473088x1 (constant S_ .f32 0x3F800000#32)) (addf (broadcastInDim S473088x1 ![] bcast_S_S473088x1 (constant S_ .f32 0x3F800000#32)) (Host.exp (Host.negf (addf (Host.dotGeneral dot_S473088x64_S64x1_S473088x1_1_0_0_1_n_n none m w.aw) (broadcastInDim S473088x1 ![0, 1] bcast_S1x1_S473088x1_0_1 (broadcastInDim S1x1 ![1] bcast_S1_S1x1_1 w.ab))))))))

/-- Every edge's message. -/
def rMsg (w : RW F) (A B : IVec S473088 32) (e : FVec F S473088x1 .f32) (x : FVec F S22528x3 .f32) (h : FVec F S22528x64 .f32) : FVec F S473088x64 .f32 :=
  rGate w (rSilu (rLin w.w2 w.b2 (rSilu (rPre1 w A B h (rRad (rDiff A B x)) e))))

/-- Every edge's scalar for its difference of positions. -/
def rCoef (w : RW F) (m : FVec F S473088x64 .f32) : FVec F S473088x1 .f32 :=
  mulf (Host.tanh (Host.dotGeneral dot_S473088x64_S64x1_S473088x1_1_0_0_1_n_n none (rSilu (rLin w.c1 w.cb1 m)) w.c2)) (broadcastInDim S473088x1 ![] bcast_S_S473088x1 (constant S_ .f32 0x40400000#32))

/-- The new positions from the edges' differences and messages. -/
def rX (w : RW F) (A : IVec S473088 32) (x : FVec F S22528x3 .f32) (d : FVec F S473088x3 .f32) (m : FVec F S473088x64 .f32) : FVec F S22528x3 .f32 :=
  addf x (Host.scatterAdd scatter_S22528x3_S473088x1_S473088x3_1_0_0_1 (broadcastInDim S22528x3 ![] bcast_S_S22528x3 (constant S_ .f32 0x00000000#32)) (rRow A)
    (mulf d (broadcastInDim S473088x3 ![0, 1] bcast_S473088x1_S473088x3_0_1 (rCoef w m))))

/-- The node network's first layer before its activation. -/
def rNode1 (w : RW F) (A : IVec S473088 32) (h : FVec F S22528x64 .f32) (m : FVec F S473088x64 .f32) : FVec F S22528x64 .f32 :=
  addf (Host.dotGeneral dot_S22528x128_S128x64_S22528x64_1_0_0_1_n_n none (concatenate S22528x128 1 [⟨S22528x64, h⟩, ⟨S22528x64, Host.scatterAdd scatter_S22528x64_S473088x1_S473088x64_1_0_0_1 (broadcastInDim S22528x64 ![] bcast_S_S22528x64 (constant S_ .f32 0x00000000#32)) (rRow A) m⟩] concatenates_S22528x64_S22528x64_S22528x128_d1) w.n1) (rBiasN w.nb1)

/-- The new features from the messages. -/
def rH (w : RW F) (A : IVec S473088 32) (h : FVec F S22528x64 .f32) (m : FVec F S473088x64 .f32) : FVec F S22528x64 .f32 :=
  addf h (addf (Host.dotGeneral dot_S22528x64_S64x64_S22528x64_1_0_0_1_n_n none (rSiluN (rNode1 w A h m)) w.n2) (rBiasN w.nb2))

/-- Positions and features of all particles. -/
structure RSt (F : FTy → Type) [FloatOps F] where
  x : FVec F S22528x3 .f32
  h : FVec F S22528x64 .f32

/-- One layer. -/
def rStep (w : RW F) (A B : IVec S473088 32) (e : FVec F S473088x1 .f32) (s : RSt F) : RSt F where
  x := rX w A s.x (rDiff A B s.x) (rMsg w A B e s.x s.h)
  h := rH w A s.h (rMsg w A B e s.x s.h)

/-- The result from the last positions and the first. -/
def rOut (x x0 : FVec F S22528x3 .f32) : FVec F S1024x66 .f32 :=
  shapeCast _ (subf (shapeCast S1024x22x3 (subf x x0) shapeCasts_S22528x3_S1024x22x3) (broadcastInDim S1024x22x3 ![0, 1, 2] bcast_S1024x1x3_S1024x22x3_0_1_2 (Host.divf (broadcastInDim S1024x1x3 ![0, 2] bcast_S1024x3_S1024x1x3_0_2 (Host.reduceAdd (shapeCast S1024x22x3 (subf x x0) shapeCasts_S22528x3_S1024x22x3) (constant S_ .f32 0x00000000#32) reducesTo_S1024x22x3_S1024x3_d1 h_S_)) (broadcastInDim S1024x1x3 ![] bcast_S_S1024x1x3 (constant S_ .f32 0x41B00000#32))))) shapeCasts_S1024x22x3_S1024x66

section Fold

variable (V0 : Valuation τ sig (Elt F))

/-- The receivers. -/
abbrev vA : IVec S473088 32 := V0 (Proc.devRef .tc main_arg18)
/-- The senders. -/
abbrev vB : IVec S473088 32 := V0 (Proc.devRef .tc main_arg19)

/-- Layer 0's weights. -/
def rw0 : RW F where
  w1 := shapeCast _ (extractStridedSlice S1x130x64 ![0, 0, 0] (V0 (Proc.devRef .tc main_arg5)) slices_S5x130x64_S1x130x64_0_0_0) shapeCasts_S1x130x64_S130x64
  b1 := shapeCast _ (extractStridedSlice S1x64 ![0, 0] (V0 (Proc.devRef .tc main_arg6)) slices_S5x64_S1x64_0_0) shapeCasts_S1x64_S64
  w2 := shapeCast _ (extractStridedSlice S1x64x64 ![0, 0, 0] (V0 (Proc.devRef .tc main_arg7)) slices_S5x64x64_S1x64x64_0_0_0) shapeCasts_S1x64x64_S64x64
  b2 := shapeCast _ (extractStridedSlice S1x64 ![0, 0] (V0 (Proc.devRef .tc main_arg8)) slices_S5x64_S1x64_0_0) shapeCasts_S1x64_S64
  aw := shapeCast _ (extractStridedSlice S1x64x1 ![0, 0, 0] (V0 (Proc.devRef .tc main_arg9)) slices_S5x64x1_S1x64x1_0_0_0) shapeCasts_S1x64x1_S64x1
  ab := shapeCast _ (extractStridedSlice S1x1 ![0, 0] (V0 (Proc.devRef .tc main_arg10)) slices_S5x1_S1x1_0_0) shapeCasts_S1x1_S1
  n1 := shapeCast _ (extractStridedSlice S1x128x64 ![0, 0, 0] (V0 (Proc.devRef .tc main_arg11)) slices_S5x128x64_S1x128x64_0_0_0) shapeCasts_S1x128x64_S128x64
  nb1 := shapeCast _ (extractStridedSlice S1x64 ![0, 0] (V0 (Proc.devRef .tc main_arg12)) slices_S5x64_S1x64_0_0) shapeCasts_S1x64_S64
  n2 := shapeCast _ (extractStridedSlice S1x64x64 ![0, 0, 0] (V0 (Proc.devRef .tc main_arg13)) slices_S5x64x64_S1x64x64_0_0_0) shapeCasts_S1x64x64_S64x64
  nb2 := shapeCast _ (extractStridedSlice S1x64 ![0, 0] (V0 (Proc.devRef .tc main_arg14)) slices_S5x64_S1x64_0_0) shapeCasts_S1x64_S64
  c1 := shapeCast _ (extractStridedSlice S1x64x64 ![0, 0, 0] (V0 (Proc.devRef .tc main_arg15)) slices_S5x64x64_S1x64x64_0_0_0) shapeCasts_S1x64x64_S64x64
  cb1 := shapeCast _ (extractStridedSlice S1x64 ![0, 0] (V0 (Proc.devRef .tc main_arg16)) slices_S5x64_S1x64_0_0) shapeCasts_S1x64_S64
  c2 := shapeCast _ (extractStridedSlice S1x64x1 ![0, 0, 0] (V0 (Proc.devRef .tc main_arg17)) slices_S5x64x1_S1x64x1_0_0_0) shapeCasts_S1x64x1_S64x1

/-- Layer 1's weights. -/
def rw1 : RW F where
  w1 := shapeCast _ (extractStridedSlice S1x130x64 ![1, 0, 0] (V0 (Proc.devRef .tc main_arg5)) slices_S5x130x64_S1x130x64_1_0_0) shapeCasts_S1x130x64_S130x64
  b1 := shapeCast _ (extractStridedSlice S1x64 ![1, 0] (V0 (Proc.devRef .tc main_arg6)) slices_S5x64_S1x64_1_0) shapeCasts_S1x64_S64
  w2 := shapeCast _ (extractStridedSlice S1x64x64 ![1, 0, 0] (V0 (Proc.devRef .tc main_arg7)) slices_S5x64x64_S1x64x64_1_0_0) shapeCasts_S1x64x64_S64x64
  b2 := shapeCast _ (extractStridedSlice S1x64 ![1, 0] (V0 (Proc.devRef .tc main_arg8)) slices_S5x64_S1x64_1_0) shapeCasts_S1x64_S64
  aw := shapeCast _ (extractStridedSlice S1x64x1 ![1, 0, 0] (V0 (Proc.devRef .tc main_arg9)) slices_S5x64x1_S1x64x1_1_0_0) shapeCasts_S1x64x1_S64x1
  ab := shapeCast _ (extractStridedSlice S1x1 ![1, 0] (V0 (Proc.devRef .tc main_arg10)) slices_S5x1_S1x1_1_0) shapeCasts_S1x1_S1
  n1 := shapeCast _ (extractStridedSlice S1x128x64 ![1, 0, 0] (V0 (Proc.devRef .tc main_arg11)) slices_S5x128x64_S1x128x64_1_0_0) shapeCasts_S1x128x64_S128x64
  nb1 := shapeCast _ (extractStridedSlice S1x64 ![1, 0] (V0 (Proc.devRef .tc main_arg12)) slices_S5x64_S1x64_1_0) shapeCasts_S1x64_S64
  n2 := shapeCast _ (extractStridedSlice S1x64x64 ![1, 0, 0] (V0 (Proc.devRef .tc main_arg13)) slices_S5x64x64_S1x64x64_1_0_0) shapeCasts_S1x64x64_S64x64
  nb2 := shapeCast _ (extractStridedSlice S1x64 ![1, 0] (V0 (Proc.devRef .tc main_arg14)) slices_S5x64_S1x64_1_0) shapeCasts_S1x64_S64
  c1 := shapeCast _ (extractStridedSlice S1x64x64 ![1, 0, 0] (V0 (Proc.devRef .tc main_arg15)) slices_S5x64x64_S1x64x64_1_0_0) shapeCasts_S1x64x64_S64x64
  cb1 := shapeCast _ (extractStridedSlice S1x64 ![1, 0] (V0 (Proc.devRef .tc main_arg16)) slices_S5x64_S1x64_1_0) shapeCasts_S1x64_S64
  c2 := shapeCast _ (extractStridedSlice S1x64x1 ![1, 0, 0] (V0 (Proc.devRef .tc main_arg17)) slices_S5x64x1_S1x64x1_1_0_0) shapeCasts_S1x64x1_S64x1

/-- Layer 2's weights. -/
def rw2 : RW F where
  w1 := shapeCast _ (extractStridedSlice S1x130x64 ![2, 0, 0] (V0 (Proc.devRef .tc main_arg5)) slices_S5x130x64_S1x130x64_2_0_0) shapeCasts_S1x130x64_S130x64
  b1 := shapeCast _ (extractStridedSlice S1x64 ![2, 0] (V0 (Proc.devRef .tc main_arg6)) slices_S5x64_S1x64_2_0) shapeCasts_S1x64_S64
  w2 := shapeCast _ (extractStridedSlice S1x64x64 ![2, 0, 0] (V0 (Proc.devRef .tc main_arg7)) slices_S5x64x64_S1x64x64_2_0_0) shapeCasts_S1x64x64_S64x64
  b2 := shapeCast _ (extractStridedSlice S1x64 ![2, 0] (V0 (Proc.devRef .tc main_arg8)) slices_S5x64_S1x64_2_0) shapeCasts_S1x64_S64
  aw := shapeCast _ (extractStridedSlice S1x64x1 ![2, 0, 0] (V0 (Proc.devRef .tc main_arg9)) slices_S5x64x1_S1x64x1_2_0_0) shapeCasts_S1x64x1_S64x1
  ab := shapeCast _ (extractStridedSlice S1x1 ![2, 0] (V0 (Proc.devRef .tc main_arg10)) slices_S5x1_S1x1_2_0) shapeCasts_S1x1_S1
  n1 := shapeCast _ (extractStridedSlice S1x128x64 ![2, 0, 0] (V0 (Proc.devRef .tc main_arg11)) slices_S5x128x64_S1x128x64_2_0_0) shapeCasts_S1x128x64_S128x64
  nb1 := shapeCast _ (extractStridedSlice S1x64 ![2, 0] (V0 (Proc.devRef .tc main_arg12)) slices_S5x64_S1x64_2_0) shapeCasts_S1x64_S64
  n2 := shapeCast _ (extractStridedSlice S1x64x64 ![2, 0, 0] (V0 (Proc.devRef .tc main_arg13)) slices_S5x64x64_S1x64x64_2_0_0) shapeCasts_S1x64x64_S64x64
  nb2 := shapeCast _ (extractStridedSlice S1x64 ![2, 0] (V0 (Proc.devRef .tc main_arg14)) slices_S5x64_S1x64_2_0) shapeCasts_S1x64_S64
  c1 := shapeCast _ (extractStridedSlice S1x64x64 ![2, 0, 0] (V0 (Proc.devRef .tc main_arg15)) slices_S5x64x64_S1x64x64_2_0_0) shapeCasts_S1x64x64_S64x64
  cb1 := shapeCast _ (extractStridedSlice S1x64 ![2, 0] (V0 (Proc.devRef .tc main_arg16)) slices_S5x64_S1x64_2_0) shapeCasts_S1x64_S64
  c2 := shapeCast _ (extractStridedSlice S1x64x1 ![2, 0, 0] (V0 (Proc.devRef .tc main_arg17)) slices_S5x64x1_S1x64x1_2_0_0) shapeCasts_S1x64x1_S64x1

/-- Layer 3's weights. -/
def rw3 : RW F where
  w1 := shapeCast _ (extractStridedSlice S1x130x64 ![3, 0, 0] (V0 (Proc.devRef .tc main_arg5)) slices_S5x130x64_S1x130x64_3_0_0) shapeCasts_S1x130x64_S130x64
  b1 := shapeCast _ (extractStridedSlice S1x64 ![3, 0] (V0 (Proc.devRef .tc main_arg6)) slices_S5x64_S1x64_3_0) shapeCasts_S1x64_S64
  w2 := shapeCast _ (extractStridedSlice S1x64x64 ![3, 0, 0] (V0 (Proc.devRef .tc main_arg7)) slices_S5x64x64_S1x64x64_3_0_0) shapeCasts_S1x64x64_S64x64
  b2 := shapeCast _ (extractStridedSlice S1x64 ![3, 0] (V0 (Proc.devRef .tc main_arg8)) slices_S5x64_S1x64_3_0) shapeCasts_S1x64_S64
  aw := shapeCast _ (extractStridedSlice S1x64x1 ![3, 0, 0] (V0 (Proc.devRef .tc main_arg9)) slices_S5x64x1_S1x64x1_3_0_0) shapeCasts_S1x64x1_S64x1
  ab := shapeCast _ (extractStridedSlice S1x1 ![3, 0] (V0 (Proc.devRef .tc main_arg10)) slices_S5x1_S1x1_3_0) shapeCasts_S1x1_S1
  n1 := shapeCast _ (extractStridedSlice S1x128x64 ![3, 0, 0] (V0 (Proc.devRef .tc main_arg11)) slices_S5x128x64_S1x128x64_3_0_0) shapeCasts_S1x128x64_S128x64
  nb1 := shapeCast _ (extractStridedSlice S1x64 ![3, 0] (V0 (Proc.devRef .tc main_arg12)) slices_S5x64_S1x64_3_0) shapeCasts_S1x64_S64
  n2 := shapeCast _ (extractStridedSlice S1x64x64 ![3, 0, 0] (V0 (Proc.devRef .tc main_arg13)) slices_S5x64x64_S1x64x64_3_0_0) shapeCasts_S1x64x64_S64x64
  nb2 := shapeCast _ (extractStridedSlice S1x64 ![3, 0] (V0 (Proc.devRef .tc main_arg14)) slices_S5x64_S1x64_3_0) shapeCasts_S1x64_S64
  c1 := shapeCast _ (extractStridedSlice S1x64x64 ![3, 0, 0] (V0 (Proc.devRef .tc main_arg15)) slices_S5x64x64_S1x64x64_3_0_0) shapeCasts_S1x64x64_S64x64
  cb1 := shapeCast _ (extractStridedSlice S1x64 ![3, 0] (V0 (Proc.devRef .tc main_arg16)) slices_S5x64_S1x64_3_0) shapeCasts_S1x64_S64
  c2 := shapeCast _ (extractStridedSlice S1x64x1 ![3, 0, 0] (V0 (Proc.devRef .tc main_arg17)) slices_S5x64x1_S1x64x1_3_0_0) shapeCasts_S1x64x1_S64x1

/-- Layer 4's weights. -/
def rw4 : RW F where
  w1 := shapeCast _ (extractStridedSlice S1x130x64 ![4, 0, 0] (V0 (Proc.devRef .tc main_arg5)) slices_S5x130x64_S1x130x64_4_0_0) shapeCasts_S1x130x64_S130x64
  b1 := shapeCast _ (extractStridedSlice S1x64 ![4, 0] (V0 (Proc.devRef .tc main_arg6)) slices_S5x64_S1x64_4_0) shapeCasts_S1x64_S64
  w2 := shapeCast _ (extractStridedSlice S1x64x64 ![4, 0, 0] (V0 (Proc.devRef .tc main_arg7)) slices_S5x64x64_S1x64x64_4_0_0) shapeCasts_S1x64x64_S64x64
  b2 := shapeCast _ (extractStridedSlice S1x64 ![4, 0] (V0 (Proc.devRef .tc main_arg8)) slices_S5x64_S1x64_4_0) shapeCasts_S1x64_S64
  aw := shapeCast _ (extractStridedSlice S1x64x1 ![4, 0, 0] (V0 (Proc.devRef .tc main_arg9)) slices_S5x64x1_S1x64x1_4_0_0) shapeCasts_S1x64x1_S64x1
  ab := shapeCast _ (extractStridedSlice S1x1 ![4, 0] (V0 (Proc.devRef .tc main_arg10)) slices_S5x1_S1x1_4_0) shapeCasts_S1x1_S1
  n1 := shapeCast _ (extractStridedSlice S1x128x64 ![4, 0, 0] (V0 (Proc.devRef .tc main_arg11)) slices_S5x128x64_S1x128x64_4_0_0) shapeCasts_S1x128x64_S128x64
  nb1 := shapeCast _ (extractStridedSlice S1x64 ![4, 0] (V0 (Proc.devRef .tc main_arg12)) slices_S5x64_S1x64_4_0) shapeCasts_S1x64_S64
  n2 := shapeCast _ (extractStridedSlice S1x64x64 ![4, 0, 0] (V0 (Proc.devRef .tc main_arg13)) slices_S5x64x64_S1x64x64_4_0_0) shapeCasts_S1x64x64_S64x64
  nb2 := shapeCast _ (extractStridedSlice S1x64 ![4, 0] (V0 (Proc.devRef .tc main_arg14)) slices_S5x64_S1x64_4_0) shapeCasts_S1x64_S64
  c1 := shapeCast _ (extractStridedSlice S1x64x64 ![4, 0, 0] (V0 (Proc.devRef .tc main_arg15)) slices_S5x64x64_S1x64x64_4_0_0) shapeCasts_S1x64x64_S64x64
  cb1 := shapeCast _ (extractStridedSlice S1x64 ![4, 0] (V0 (Proc.devRef .tc main_arg16)) slices_S5x64_S1x64_4_0) shapeCasts_S1x64_S64
  c2 := shapeCast _ (extractStridedSlice S1x64x1 ![4, 0, 0] (V0 (Proc.devRef .tc main_arg17)) slices_S5x64x1_S1x64x1_4_0_0) shapeCasts_S1x64x1_S64x1

/-- The state before layer 0. -/
def rs0 : RSt F := ⟨res_main_v0 V0, res_main_v29 V0⟩
/-- The state before layer 1. -/
def rs1 : RSt F := ⟨res_main_v135 V0, res_main_v163 V0⟩
/-- The state before layer 2. -/
def rs2 : RSt F := ⟨res_main_v269 V0, res_main_v297 V0⟩
/-- The state before layer 3. -/
def rs3 : RSt F := ⟨res_main_v403 V0, res_main_v431 V0⟩
/-- The state before layer 4. -/
def rs4 : RSt F := ⟨res_main_v537 V0, res_main_v565 V0⟩

/-- The squared distances at the start. -/
abbrev rEa : FVec F S473088x1 .f32 := res_main_v20 V0

/-- The squared distances at the start, as an edge's squared length. -/
theorem rEa_eq : rEa V0 = rRad (rDiff (vA V0) (vB V0) (rs0 V0).x) := rfl

/-- Layer 0's messages. -/
theorem msg0_eq : res_main_v108 V0 = rMsg (rw0 V0) (vA V0) (vB V0) (rEa V0) (rs0 V0).x (rs0 V0).h := by
  have h1 : res_main_v70 V0 = rPre1 (rw0 V0) (vA V0) (vB V0) (rs0 V0).h (rRad (rDiff (vA V0) (vB V0) (rs0 V0).x)) (rEa V0) := rfl
  have h2 : res_main_v85 V0 = rLin (rw0 V0).w2 (rw0 V0).b2 (rSilu (res_main_v70 V0)) := rfl
  have h3 : res_main_v92 V0 = rSilu (res_main_v85 V0) := rfl
  have h4 : res_main_v108 V0 = rGate (rw0 V0) (res_main_v92 V0) := rfl
  rw [h4, h3, h2, h1]
  rfl

/-- Layer 0. -/
theorem rs1_eq : rs1 V0 = rStep (rw0 V0) (vA V0) (vB V0) (rEa V0) (rs0 V0) := by
  have hx : res_main_v135 V0 = rX (rw0 V0) (vA V0) (rs0 V0).x (rDiff (vA V0) (vB V0) (rs0 V0).x) (res_main_v108 V0) := rfl
  have hh : res_main_v163 V0 = rH (rw0 V0) (vA V0) (rs0 V0).h (res_main_v108 V0) := rfl
  unfold rs1
  rw [hx, hh, msg0_eq]
  rfl

/-- Layer 1's messages. -/
theorem msg1_eq : res_main_v242 V0 = rMsg (rw1 V0) (vA V0) (vB V0) (rEa V0) (rs1 V0).x (rs1 V0).h := by
  have h1 : res_main_v204 V0 = rPre1 (rw1 V0) (vA V0) (vB V0) (rs1 V0).h (rRad (rDiff (vA V0) (vB V0) (rs1 V0).x)) (rEa V0) := rfl
  have h2 : res_main_v219 V0 = rLin (rw1 V0).w2 (rw1 V0).b2 (rSilu (res_main_v204 V0)) := rfl
  have h3 : res_main_v226 V0 = rSilu (res_main_v219 V0) := rfl
  have h4 : res_main_v242 V0 = rGate (rw1 V0) (res_main_v226 V0) := rfl
  rw [h4, h3, h2, h1]
  rfl

/-- Layer 1. -/
theorem rs2_eq : rs2 V0 = rStep (rw1 V0) (vA V0) (vB V0) (rEa V0) (rs1 V0) := by
  have hx : res_main_v269 V0 = rX (rw1 V0) (vA V0) (rs1 V0).x (rDiff (vA V0) (vB V0) (rs1 V0).x) (res_main_v242 V0) := rfl
  have hh : res_main_v297 V0 = rH (rw1 V0) (vA V0) (rs1 V0).h (res_main_v242 V0) := rfl
  unfold rs2
  rw [hx, hh, msg1_eq]
  rfl

/-- Layer 2's messages. -/
theorem msg2_eq : res_main_v376 V0 = rMsg (rw2 V0) (vA V0) (vB V0) (rEa V0) (rs2 V0).x (rs2 V0).h := by
  have h1 : res_main_v338 V0 = rPre1 (rw2 V0) (vA V0) (vB V0) (rs2 V0).h (rRad (rDiff (vA V0) (vB V0) (rs2 V0).x)) (rEa V0) := rfl
  have h2 : res_main_v353 V0 = rLin (rw2 V0).w2 (rw2 V0).b2 (rSilu (res_main_v338 V0)) := rfl
  have h3 : res_main_v360 V0 = rSilu (res_main_v353 V0) := rfl
  have h4 : res_main_v376 V0 = rGate (rw2 V0) (res_main_v360 V0) := rfl
  rw [h4, h3, h2, h1]
  rfl

/-- Layer 2. -/
theorem rs3_eq : rs3 V0 = rStep (rw2 V0) (vA V0) (vB V0) (rEa V0) (rs2 V0) := by
  have hx : res_main_v403 V0 = rX (rw2 V0) (vA V0) (rs2 V0).x (rDiff (vA V0) (vB V0) (rs2 V0).x) (res_main_v376 V0) := rfl
  have hh : res_main_v431 V0 = rH (rw2 V0) (vA V0) (rs2 V0).h (res_main_v376 V0) := rfl
  unfold rs3
  rw [hx, hh, msg2_eq]
  rfl

/-- Layer 3's messages. -/
theorem msg3_eq : res_main_v510 V0 = rMsg (rw3 V0) (vA V0) (vB V0) (rEa V0) (rs3 V0).x (rs3 V0).h := by
  have h1 : res_main_v472 V0 = rPre1 (rw3 V0) (vA V0) (vB V0) (rs3 V0).h (rRad (rDiff (vA V0) (vB V0) (rs3 V0).x)) (rEa V0) := rfl
  have h2 : res_main_v487 V0 = rLin (rw3 V0).w2 (rw3 V0).b2 (rSilu (res_main_v472 V0)) := rfl
  have h3 : res_main_v494 V0 = rSilu (res_main_v487 V0) := rfl
  have h4 : res_main_v510 V0 = rGate (rw3 V0) (res_main_v494 V0) := rfl
  rw [h4, h3, h2, h1]
  rfl

/-- Layer 3. -/
theorem rs4_eq : rs4 V0 = rStep (rw3 V0) (vA V0) (vB V0) (rEa V0) (rs3 V0) := by
  have hx : res_main_v537 V0 = rX (rw3 V0) (vA V0) (rs3 V0).x (rDiff (vA V0) (vB V0) (rs3 V0).x) (res_main_v510 V0) := rfl
  have hh : res_main_v565 V0 = rH (rw3 V0) (vA V0) (rs3 V0).h (res_main_v510 V0) := rfl
  unfold rs4
  rw [hx, hh, msg3_eq]
  rfl

/-- Layer 4's messages. -/
theorem msg4_eq : res_main_v644 V0 = rMsg (rw4 V0) (vA V0) (vB V0) (rEa V0) (rs4 V0).x (rs4 V0).h := by
  have h1 : res_main_v606 V0 = rPre1 (rw4 V0) (vA V0) (vB V0) (rs4 V0).h (rRad (rDiff (vA V0) (vB V0) (rs4 V0).x)) (rEa V0) := rfl
  have h2 : res_main_v621 V0 = rLin (rw4 V0).w2 (rw4 V0).b2 (rSilu (res_main_v606 V0)) := rfl
  have h3 : res_main_v628 V0 = rSilu (res_main_v621 V0) := rfl
  have h4 : res_main_v644 V0 = rGate (rw4 V0) (res_main_v628 V0) := rfl
  rw [h4, h3, h2, h1]
  rfl

/-- The last displacements. -/
theorem v701_eq : res_main_v701 V0 = shapeCast S1024x22x3 (subf (rStep (rw4 V0) (vA V0) (vB V0) (rEa V0) (rs4 V0)).x (rs0 V0).x) shapeCasts_S22528x3_S1024x22x3 := by
  have hx : res_main_v701 V0 = shapeCast S1024x22x3 (subf (rX (rw4 V0) (vA V0) (rs4 V0).x (rDiff (vA V0) (vB V0) (rs4 V0).x) (res_main_v644 V0)) (rs0 V0).x) shapeCasts_S22528x3_S1024x22x3 := rfl
  rw [hx, msg4_eq]
  rfl

/-- The result of the program's run, as `rOut` of the last positions. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v708)
        = rOut (rStep (rw4 (launchContents m c)) (vA (launchContents m c)) (vB (launchContents m c)) (rEa (launchContents m c)) (rs4 (launchContents m c))).x (rs0 (launchContents m c)).x := by
  refine (run m ρ).mono fun r h c => ?_
  refine (h c).1.trans ?_
  rw [v701_eq]
  rfl

end Fold

end Cert.ReferenceIdeal.RF

end
-- ==== Proof.Rows.lean ====
/-
  Reading rows of a table and adding rows into a table: the gather `x[rows]` and the scatter-add behind a segment sum,
  both over a list of row numbers, at an index.
-/
module

public import Idealize.ShloMosaic.Lib.Pointwise
public import Idealize.ShloMosaic.PureOps.Ideal

@[expose] public section

noncomputable section

open Idealize.ShloMosaic

namespace Egnn.Rows

variable {α : Type} {N E C : ℕ}

/-- The dimension numbers of `x[rows]` for a table `[N, C]` and `E` row numbers. -/
abbrev takeDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[rows]` at edge `e` and column `c` is the table at that row, when the row number is one of the table's. -/
theorem take_apply
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (c : Fin C) (r : Fin N)
    (hr : (idx (ix2 e 0)).toInt = (r.val : ℤ)) :
    Host.gather (takeDims N E C wf) x idx (ix2 e c) = x (ix2 r c) := by
  unfold Host.gather
  congr 1
  funext a
  refine Fin.ext ?_
  show (takeDims N E C wf).start (ix2 e c) idx a + (takeDims N E C wf).batchCoord (ix2 e c) a
      + (takeDims N E C wf).offCoord (ix2 e c) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (takeDims N E C wf).startIndexMap from List.mem_singleton.mpr rfl)]
    have hsi : (takeDims N E C wf).siIdx (ix2 e c) ⟨List.idxOf (0 : Fin 2) (takeDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, hr]
    show min ((r.val : ℤ).toNat) (N - 1) = r.val
    have := r.isLt
    omega
  · have h0 : (takeDims N E C wf).start (ix2 e c) idx 1 = 0 := by
      unfold GatherDims.start
      rw [dif_neg (by simp)]
    rw [h0, Nat.zero_add]
    rfl

/-- The dimension numbers of a sum by row number of `E` rows into a table `[N, C]`. -/
abbrev addDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where an added row's entry lands. -/
theorem add_index
    (wf : ScatterDims.WF ⟨2, ![N, C]⟩ ⟨2, ![E, 1]⟩ ⟨2, ![E, C]⟩ [1] [0] [0] 1)
    (idx : IVec ⟨2, ![E, 1]⟩ 32) (e : Fin E) (c : Fin C) (r : Fin N) (hr : (idx (ix2 e 0)).toInt = (r.val : ℤ)) :
    (addDims N E C wf).resultIdx? (ix2 e c) idx = some (ix2 r c) := by
  have s0 : (addDims N E C wf).start (ix2 e c) idx 0 = (r.val : ℤ) := by
    unfold ScatterDims.start
    rw [dif_pos (show (0 : Fin 2) ∈ (addDims N E C wf).scatterDimsToOperandDims from List.mem_singleton.mpr rfl)]
    have hsi : (addDims N E C wf).siIdx (ix2 e c) ⟨List.idxOf (0 : Fin 2) (addDims N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi, hr]
  have s1 : (addDims N E C wf).start (ix2 e c) idx 1 = 0 := by
    unfold ScatterDims.start
    rw [dif_neg (by simp)]
  have w0 : (addDims N E C wf).window (ix2 e c) 0 = 0 := by
    unfold ScatterDims.window
    rw [dif_neg (by simp [ScatterDims.sKept, Shape.kept])]
  have w1 : (addDims N E C wf).window (ix2 e c) 1 = c.val := rfl
  unfold ScatterDims.resultIdx?
  have hin : ∀ a, 0 ≤ (addDims N E C wf).start (ix2 e c) idx a + (addDims N E C wf).window (ix2 e c) a
      ∧ (addDims N E C wf).start (ix2 e c) idx a + (addDims N E C wf).window (ix2 e c) a < (⟨2, ![N, C]⟩ : Shape).size a := by
    intro a
    match a with
    | ⟨0, _⟩ =>
      show 0 ≤ (addDims N E C wf).start (ix2 e c) idx 0 + (addDims N E C wf).window (ix2 e c) 0
        ∧ (addDims N E C wf).start (ix2 e c) idx 0 + (addDims N E C wf).window (ix2 e c) 0 < (N : ℤ)
      rw [s0, w0]; have := r.isLt; omega
    | ⟨1, _⟩ =>
      show 0 ≤ (addDims N E C wf).start (ix2 e c) idx 1 + (addDims N E C wf).window (ix2 e c) 1
        ∧ (addDims N E C wf).start (ix2 e c) idx 1 + (addDims N E C wf).window (ix2 e c) 1 < (C : ℤ)
      rw [s1, w1]; have := c.isLt; omega
  rw [dif_pos hin]
  refine congrArg some (funext fun a => Fin.ext ?_)
  match a with
  | ⟨0, _⟩ =>
    show ((addDims N E C wf).start (ix2 e c) idx 0 + (addDims N E C wf).window (ix2 e c) 0).toNat = r.val
    rw [s0, w0]; omega
  | ⟨1, _⟩ =>
    show ((addDims N E C wf).start (ix2 e c) idx 1 + (addDims N E C wf).window (ix2 e c) 1).toNat = c.val
    rw [s1, w1]; omega

/-- A sum by row number, at a row and column: the start entry plus every edge's entry whose row it is. -/
theorem add_apply
    (wf : ScatterDims.WF ⟨2, ![N, C]⟩ ⟨2, ![E, 1]⟩ ⟨2, ![E, C]⟩ [1] [0] [0] 1)
    (z : (⟨2, ![N, C]⟩ : Shape).Idx → EReal) (idx : IVec ⟨2, ![E, 1]⟩ 32) (u : (⟨2, ![E, C]⟩ : Shape).Idx → EReal)
    (r : Fin E → Fin N) (hr : ∀ e, (idx (ix2 e 0)).toInt = ((r e).val : ℤ)) (n : Fin N) (c : Fin C) :
    Ideal.hostScatterAdd (addDims N E C wf) z idx u (ix2 n c) = z (ix2 n c) + ∑ e : Fin E, if r e = n then u (ix2 e c) else 0 := by
  unfold Ideal.hostScatterAdd
  congr 1
  have h : ∀ (e : Fin E) (c' : Fin C), ((addDims N E C wf).resultIdx? (ix2 e c') idx = some (ix2 n c)) ↔ (r e = n ∧ c' = c) := by
    intro e c'
    rw [add_index wf idx e c' (r e) (hr e)]
    constructor
    · intro h
      have h' := Option.some.inj h
      exact ⟨congrFun h' 0, congrFun h' 1⟩
    · rintro ⟨rfl, rfl⟩
      rfl
  symm
  rw [← Finset.sum_filter]
  refine Finset.sum_bij' (fun e _ => (ix2 e c : (⟨2, ![E, C]⟩ : Shape).Idx)) (fun j _ => (j 0 : Fin E)) ?_ ?_ ?_ ?_ ?_
  · intro e he
    have he' : r e = n := (Finset.mem_filter.mp he).2
    exact Finset.mem_filter.mpr ⟨Finset.mem_univ _, (h e c).mpr ⟨he', rfl⟩⟩
  · intro j hj
    have hj' := (Finset.mem_filter.mp hj).2
    rw [eq_ix2 j] at hj'
    exact Finset.mem_filter.mpr ⟨Finset.mem_univ _, ((h (j 0) (j 1)).mp hj').1⟩
  · intro e _
    rfl
  · intro j hj
    have hj' := (Finset.mem_filter.mp hj).2
    rw [eq_ix2 j] at hj'
    have := ((h (j 0) (j 1)).mp hj').2
    rw [eq_ix2 j]
    show ix2 (j 0) c = ix2 (j 0) (j 1)
    rw [this]
    rfl
  · intro e _
    rfl

end Egnn.Rows

end
-- ==== Proof.RLayer.lean ====
/-
  The reference's layer read at an index: from the arrays of `RFold.lean` to the functions of `Spec.lean`, edge by edge
  and particle by particle.
-/
module

public import proofs.«01_k».proof.Proof.RFold
public import proofs.«01_k».proof.Proof.Rows
public import proofs.«01_k».proof.Proof.Spec
public import Idealize.ShloMosaic.Lib.Pointwise

@[expose] public section

noncomputable section

namespace Cert.ReferenceIdeal.RL

open Cert.ReferenceIdeal Cert.ReferenceIdeal.Gen Cert.ReferenceIdeal.RF Idealize.ShloMosaic Egnn

/-- The constant twenty-two. -/
theorem bits_22 : Ideal.ofBits .f32 0x41B00000#32 = ((22 : ℝ) : EReal) := by
  simp [Ideal.ofBits, Ideal.ieee, -EReal.coe_mul]
  try norm_num

/-- The activation on edges. -/
theorem rSilu_apply (v : FVec Ideal S473088x64 .f32) (e : Fin 473088) (k : Fin 64) :
    rSilu v (ix2 e k) = silu (v (ix2 e k)) := by
  unfold rSilu
  pointwise
  rfl

/-- The activation on particles. -/
theorem rSiluN_apply (v : FVec Ideal S22528x64 .f32) (n : Fin 22528) (k : Fin 64) :
    rSiluN v (ix2 n k) = silu (v (ix2 n k)) := by
  unfold rSiluN
  pointwise
  rfl

/-- A dense layer on edges. -/
theorem rLin_apply (w : FVec Ideal S64x64 .f32) (b : FVec Ideal S64 .f32) (m : FVec Ideal S473088x64 .f32)
    (e : Fin 473088) (k : Fin 64) :
    rLin w b m (ix2 e k) = lin (fun a k => w (ix2 a k)) (fun k => b (ix1 k)) (fun a => m (ix2 e a)) k := by
  unfold rLin rBias
  pointwise [dot_S473088x64_S64x64_S473088x64_1_0_0_1_n_n]
  rfl

/-- The row an edge's number names. -/
theorem toInt_row (A : IVec S473088 32) (R : Fin 473088 → Fin 22528) (hA : ∀ e, A (ix1 e) = BitVec.ofNat 32 (R e).val)
    (e : Fin 473088) : (A (ix1 e)).toInt = ((R e).val : ℤ) := by
  have h1 := (R e).isLt
  rw [hA e, BitVec.toInt_eq_toNat_cond, BitVec.toNat_ofNat, Nat.mod_eq_of_lt (by omega), if_pos (by omega)]

/-- The row an edge's number names, as a gather index. -/
theorem rSel_apply (A : IVec S473088 32) (R : Fin 473088 → Fin 22528) (hA : ∀ e, A (ix1 e) = BitVec.ofNat 32 (R e).val)
    (e : Fin 473088) : (rSel A (ix2 e 0)).toInt = ((R e).val : ℤ) := by
  unfold rSel
  pointwise
  have hn : (A (ix1 e)).toInt = ((R e).val : ℤ) := toInt_row A R hA e
  have h0 : IntOp.cmpi .slt (A (ix1 e)) 0#32 = 0#1 := by
    show BitVec.ofBool ((A (ix1 e)).slt 0#32) = 0#1
    rw [BitVec.slt_eq_decide, hn]
    rw [decide_eq_false (show ¬ ((R e).val : ℤ) < (0#32).toInt from by
      show ¬ ((R e).val : ℤ) < 0
      omega)]
    rfl
  rw [h0]
  exact hn

/-- The row an edge's number names, as a scatter index. -/
theorem rRow_apply (A : IVec S473088 32) (R : Fin 473088 → Fin 22528) (hA : ∀ e, A (ix1 e) = BitVec.ofNat 32 (R e).val)
    (e : Fin 473088) : (rRow A (ix2 e 0)).toInt = ((R e).val : ℤ) := by
  unfold rRow
  pointwise
  exact toInt_row A R hA e

/-- An edge's squared length. -/
theorem rRad_apply (d : FVec Ideal S473088x3 .f32) (e : Fin 473088) :
    rRad d (ix2 e 0) = ∑ c : Fin 3, d (ix2 e c) * d (ix2 e c) := by
  unfold rRad
  pointwise

/-- The gate. -/
theorem rGate_apply (w : RW Ideal) (m : FVec Ideal S473088x64 .f32) (e : Fin 473088) (k : Fin 64) :
    rGate w m (ix2 e k) = m (ix2 e k) * Ideal.logistic ((∑ a : Fin 64, m (ix2 e a) * w.aw (ix2 a 0)) + w.ab (ix1 0)) := by
  unfold rGate
  pointwise [dot_S473088x64_S64x1_S473088x1_1_0_0_1_n_n]
  rfl

/-- The scalar. -/
theorem rCoef_apply (w : RW Ideal) (m : FVec Ideal S473088x64 .f32) (e : Fin 473088) :
    rCoef w m (ix2 e 0) = Ideal.tanh (∑ a : Fin 64, rSilu (rLin w.c1 w.cb1 m) (ix2 e a) * w.c2 (ix2 a 0)) * Ideal.ofBits .f32 0x40400000#32 := by
  unfold rCoef
  generalize rSilu (rLin w.c1 w.cb1 m) = v
  pointwise [dot_S473088x64_S64x1_S473088x1_1_0_0_1_n_n]

/-- A sum over the edge network's 130 inputs, by its four parts. -/
theorem sum130 (f : Fin 130 → EReal) :
    ∑ x, f x = (((∑ a : Fin 64, f ⟨a.val, by omega⟩) + ∑ a : Fin 64, f ⟨64 + a.val, by omega⟩) + f 128) + f 129 := by
  have h1 : ∑ x, f x = (∑ x : Fin 129, f ⟨x.val, by omega⟩) + f 129 := Fin.sum_univ_castSucc (n := 129) f
  have h2 : ∑ x : Fin 129, f ⟨x.val, by omega⟩ = (∑ x : Fin 128, f ⟨x.val, by omega⟩) + f 128 :=
    Fin.sum_univ_castSucc (n := 128) fun x => f ⟨x.val, by omega⟩
  have h3 : ∑ x : Fin 128, f ⟨x.val, by omega⟩ = (∑ a : Fin 64, f ⟨a.val, by omega⟩) + ∑ a : Fin 64, f ⟨64 + a.val, by omega⟩ :=
    Fin.sum_univ_add (a := 64) (b := 64) fun x => f ⟨x.val, by omega⟩
  rw [h1, h2, h3]

/-- A sum over the node network's 128 inputs, by its two parts. -/
theorem sum128 (f : Fin 128 → EReal) :
    ∑ x, f x = (∑ a : Fin 64, f ⟨a.val, by omega⟩) + ∑ a : Fin 64, f ⟨64 + a.val, by omega⟩ :=
  Fin.sum_univ_add (a := 64) (b := 64) f

/-- The product of four blocks side by side with a weight. -/
theorem cat4 (u v : FVec Ideal S473088x64 .f32) (r q : FVec Ideal S473088x1 .f32) (w : FVec Ideal S130x64 .f32) (e : Fin 473088) (k : Fin 64) :
    Host.dotGeneral dot_S473088x130_S130x64_S473088x64_1_0_0_1_n_n none
      (concatenate S473088x130 1 [⟨S473088x64, u⟩, ⟨S473088x64, v⟩, ⟨S473088x1, r⟩, ⟨S473088x1, q⟩]
      concatenates_S473088x64_S473088x64_S473088x1_S473088x1_S473088x130_d1) w (ix2 e k)
    = (((∑ a : Fin 64, u (ix2 e a) * w (ix2 ⟨a.val, by omega⟩ k)) + ∑ a : Fin 64, v (ix2 e a) * w (ix2 ⟨64 + a.val, by omega⟩ k))
        + r (ix2 e 0) * w (ix2 128 k)) + q (ix2 e 0) * w (ix2 129 k) := by
  pointwise [dot_S473088x130_S130x64_S473088x64_1_0_0_1_n_n]
  rw [sum130]
  congr 1

/-- The product of two blocks side by side with a weight. -/
theorem cat2 (u v : FVec Ideal S22528x64 .f32) (w : FVec Ideal S128x64 .f32) (n : Fin 22528) (k : Fin 64) :
    Host.dotGeneral dot_S22528x128_S128x64_S22528x64_1_0_0_1_n_n none
      (concatenate S22528x128 1 [⟨S22528x64, u⟩, ⟨S22528x64, v⟩] concatenates_S22528x64_S22528x64_S22528x128_d1) w (ix2 n k)
    = (∑ a : Fin 64, u (ix2 n a) * w (ix2 ⟨a.val, by omega⟩ k)) + ∑ a : Fin 64, v (ix2 n a) * w (ix2 ⟨64 + a.val, by omega⟩ k) := by
  pointwise [dot_S22528x128_S128x64_S22528x64_1_0_0_1_n_n]

/-- A layer's weights as functions. -/
def wts (w : RW Ideal) : Wts where
  w1 a k := w.w1 (ix2 a k)
  b1 k := w.b1 (ix1 k)
  w2 a k := w.w2 (ix2 a k)
  b2 k := w.b2 (ix1 k)
  aw a := w.aw (ix2 a 0)
  ab := w.ab (ix1 0)
  n1 a k := w.n1 (ix2 a k)
  nb1 k := w.nb1 (ix1 k)
  n2 a k := w.n2 (ix2 a k)
  nb2 k := w.nb2 (ix1 k)
  c1 a k := w.c1 (ix2 a k)
  cb1 k := w.cb1 (ix1 k)
  c2 a := w.c2 (ix2 a 0)

section Edges

variable (A B : IVec S473088 32) (R C : Fin 473088 → Fin 22528)
  (hA : ∀ e, A (ix1 e) = BitVec.ofNat 32 (R e).val) (hB : ∀ e, B (ix1 e) = BitVec.ofNat 32 (C e).val)

/-- A sum by row number into the positions. -/
theorem add3 (z : FVec Ideal S22528x3 .f32) (idx : IVec S473088x1 32) (u : FVec Ideal S473088x3 .f32) (r : Fin 473088 → Fin 22528)
    (hr : ∀ e, (idx (ix2 e 0)).toInt = ((r e).val : ℤ)) (n : Fin 22528) (c : Fin 3) :
    Host.scatterAdd scatter_S22528x3_S473088x1_S473088x3_1_0_0_1 z idx u (ix2 n c)
      = z (ix2 n c) + ∑ e : Fin 473088, if r e = n then u (ix2 e c) else 0 := by
  unfold Host.scatterAdd
  rw [Ideal.hostScatterAdd_def]
  exact Rows.add_apply scatter_S22528x3_S473088x1_S473088x3_1_0_0_1_wf z idx u r hr n c

/-- A sum by row number into the features. -/
theorem add64 (z : FVec Ideal S22528x64 .f32) (idx : IVec S473088x1 32) (u : FVec Ideal S473088x64 .f32) (r : Fin 473088 → Fin 22528)
    (hr : ∀ e, (idx (ix2 e 0)).toInt = ((r e).val : ℤ)) (n : Fin 22528) (c : Fin 64) :
    Host.scatterAdd scatter_S22528x64_S473088x1_S473088x64_1_0_0_1 z idx u (ix2 n c)
      = z (ix2 n c) + ∑ e : Fin 473088, if r e = n then u (ix2 e c) else 0 := by
  unfold Host.scatterAdd
  rw [Ideal.hostScatterAdd_def]
  exact Rows.add_apply scatter_S22528x64_S473088x1_S473088x64_1_0_0_1_wf z idx u r hr n c

include hA in
/-- A row of the positions. -/
theorem take3 (x : FVec Ideal S22528x3 .f32) (e : Fin 473088) (c : Fin 3) :
    Host.gather gather_S22528x3_S473088x1_S473088x3_1_0_n_n_0_1_13 x (rSel A) (ix2 e c) = x (ix2 (R e) c) :=
  Rows.take_apply _ x (rSel A) e c (R e) (rSel_apply A R hA e)

include hA in
/-- A row of the features. -/
theorem take64 (x : FVec Ideal S22528x64 .f32) (e : Fin 473088) (c : Fin 64) :
    Host.gather gather_S22528x64_S473088x1_S473088x64_1_0_n_n_0_1_164 x (rSel A) (ix2 e c) = x (ix2 (R e) c) :=
  Rows.take_apply _ x (rSel A) e c (R e) (rSel_apply A R hA e)

include hA hB in
/-- An edge's difference of positions. -/
theorem rDiff_apply (x : FVec Ideal S22528x3 .f32) (e : Fin 473088) (c : Fin 3) :
    rDiff A B x (ix2 e c) = x (ix2 (R e) c) - x (ix2 (C e) c) := by
  have h1 := take3 A R hA x e c
  have h2 := take3 B C hB x e c
  unfold rDiff
  pointwise
  rw [h1, h2]

include hA hB in
/-- An edge's squared length, from the positions. -/
theorem rRadDiff_apply (x : FVec Ideal S22528x3 .f32) (e : Fin 473088) :
    rRad (rDiff A B x) (ix2 e 0) = dist2 (fun c => x (ix2 (R e) c)) (fun c => x (ix2 (C e) c)) := by
  rw [rRad_apply]
  refine Finset.sum_congr rfl fun c _ => ?_
  rw [rDiff_apply A B R C hA hB]

include hA hB in
/-- The edge network's first layer. -/
theorem rPre1_apply (w : RW Ideal) (h : FVec Ideal S22528x64 .f32) (r q : FVec Ideal S473088x1 .f32) (e : Fin 473088) (k : Fin 64) :
    rPre1 w A B h r q (ix2 e k) = pre1 (wts w) (fun a => h (ix2 (R e) a)) (fun a => h (ix2 (C e) a)) (r (ix2 e 0)) (q (ix2 e 0)) k := by
  have hb : rBias w.b1 (ix2 e k) = w.b1 (ix1 k) := by
    unfold rBias
    pointwise
  have hc := cat4 (Host.gather gather_S22528x64_S473088x1_S473088x64_1_0_n_n_0_1_164 h (rSel A))
    (Host.gather gather_S22528x64_S473088x1_S473088x64_1_0_n_n_0_1_164 h (rSel B)) r q w.w1 e k
  simp only [take64 A R hA, take64 B C hB] at hc
  exact congrArg₂ (· + ·) hc hb

include hA hB in
/-- An edge's message. -/
theorem rMsg_apply (w : RW Ideal) (q : FVec Ideal S473088x1 .f32) (x x0 : FVec Ideal S22528x3 .f32) (h : FVec Ideal S22528x64 .f32)
    (hq : q = rRad (rDiff A B x0)) (e : Fin 473088) (k : Fin 64) :
    rMsg w A B q x h (ix2 e k) = msg (wts w) (fun a => h (ix2 (R e) a)) (fun a => h (ix2 (C e) a))
      (dist2 (fun c => x (ix2 (R e) c)) (fun c => x (ix2 (C e) c)))
      (dist2 (fun c => x0 (ix2 (R e) c)) (fun c => x0 (ix2 (C e) c))) k := by
  unfold rMsg
  simp only [rGate_apply, rSilu_apply, rLin_apply, rPre1_apply A B R C hA hB, hq, rRadDiff_apply A B R C hA hB]
  rfl

/-- An edge's scalar. -/
theorem rCoef_apply' (w : RW Ideal) (m : FVec Ideal S473088x64 .f32) (e : Fin 473088) :
    rCoef w m (ix2 e 0) = coef (wts w) (fun a => m (ix2 e a)) := by
  simp only [rCoef_apply, rSilu_apply, rLin_apply]
  rfl

include hA in
/-- The new positions, with the sum over the edges a particle receives. -/
theorem rX_apply (w : RW Ideal) (x : FVec Ideal S22528x3 .f32) (d : FVec Ideal S473088x3 .f32) (m : FVec Ideal S473088x64 .f32)
    (n : Fin 22528) (c : Fin 3) :
    rX w A x d m (ix2 n c) = x (ix2 n c) + ∑ e, if R e = n then d (ix2 e c) * coef (wts w) (fun a => m (ix2 e a)) else 0 := by
  have hs := add3 (broadcastInDim S22528x3 ![] bcast_S_S22528x3 (constant (F := Ideal) S_ .f32 0x00000000#32)) (rRow A)
    (mulf d (broadcastInDim S473088x3 ![0, 1] bcast_S473088x1_S473088x3_0_1 (rCoef w m))) R (rRow_apply A R hA) n c
  have hz : (broadcastInDim S22528x3 ![] bcast_S_S22528x3 (constant (F := Ideal) S_ .f32 0x00000000#32)) (ix2 n c) = (0 : EReal) := by
    pointwise
  have hu : ∀ e, (mulf d (broadcastInDim S473088x3 ![0, 1] bcast_S473088x1_S473088x3_0_1 (rCoef w m))) (ix2 e c)
      = d (ix2 e c) * coef (wts w) (fun a => m (ix2 e a)) := by
    intro e
    rw [← rCoef_apply']
    generalize rCoef w m = z
    pointwise
  rw [hz, zero_add] at hs
  simp only [hu] at hs
  exact congrArg₂ (· + ·) rfl hs

include hA in
/-- The new features, with the sum over the edges a particle receives. -/
theorem rH_apply (w : RW Ideal) (h : FVec Ideal S22528x64 .f32) (m : FVec Ideal S473088x64 .f32) (n : Fin 22528) (k : Fin 64) :
    rH w A h m (ix2 n k) = node (wts w) (fun a => h (ix2 n a)) (fun a => ∑ e, if R e = n then m (ix2 e a) else 0) k := by
  have hb : ∀ (b : FVec Ideal S64 .f32) (k : Fin 64), rBiasN b (ix2 n k) = b (ix1 k) := by
    intro b k
    unfold rBiasN
    pointwise
  have hg : ∀ c, Host.scatterAdd scatter_S22528x64_S473088x1_S473088x64_1_0_0_1 (broadcastInDim S22528x64 ![] bcast_S_S22528x64 (constant (F := Ideal) S_ .f32 0x00000000#32)) (rRow A) m (ix2 n c)
      = ∑ e, if R e = n then m (ix2 e c) else 0 := by
    intro c
    have hs := add64 (broadcastInDim S22528x64 ![] bcast_S_S22528x64 (constant (F := Ideal) S_ .f32 0x00000000#32)) (rRow A) m R (rRow_apply A R hA) n c
    have hz : (broadcastInDim S22528x64 ![] bcast_S_S22528x64 (constant (F := Ideal) S_ .f32 0x00000000#32)) (ix2 n c) = (0 : EReal) := by
      pointwise
    rw [hz, zero_add] at hs
    exact hs
  have h1 : ∀ a, rNode1 w A h m (ix2 n a) = ((∑ x : Fin 64, h (ix2 n x) * w.n1 (ix2 ⟨x.val, by omega⟩ a))
      + ∑ x : Fin 64, (∑ e, if R e = n then m (ix2 e x) else 0) * w.n1 (ix2 ⟨64 + x.val, by omega⟩ a)) + w.nb1 (ix1 a) := by
    intro a
    have hc := cat2 h (Host.scatterAdd scatter_S22528x64_S473088x1_S473088x64_1_0_0_1 (broadcastInDim S22528x64 ![] bcast_S_S22528x64 (constant (F := Ideal) S_ .f32 0x00000000#32)) (rRow A) m) w.n1 n a
    simp only [hg] at hc
    exact congrArg₂ (· + ·) hc (hb w.nb1 a)
  have h2 : ∀ v : FVec Ideal S22528x64 .f32, Host.dotGeneral dot_S22528x64_S64x64_S22528x64_1_0_0_1_n_n none v w.n2 (ix2 n k)
      = ∑ a : Fin 64, v (ix2 n a) * w.n2 (ix2 a k) := by
    intro v
    pointwise [dot_S22528x64_S64x64_S22528x64_1_0_0_1_n_n]
  have h3 := h2 (rSiluN (rNode1 w A h m))
  simp only [rSiluN_apply, h1] at h3
  exact congrArg₂ (· + ·) rfl (congrArg₂ (· + ·) h3 (hb w.nb2 k))

/-- The row of sample `b`'s particle `i`. -/
def pn (b : Fin 1024) (i : Fin 22) : Fin 22528 := ⟨b.val * 22 + i.val, by omega⟩

/-- Sample `b`'s positions. -/
def xOf (x : FVec Ideal S22528x3 .f32) (b : Fin 1024) : Posn := fun i d => x (ix2 (pn b i) d)
/-- Sample `b`'s features. -/
def hOf (h : FVec Ideal S22528x64 .f32) (b : Fin 1024) : Feat := fun i k => h (ix2 (pn b i) k)

/-- The edges a particle receives are those from the other particles of its sample, one each. -/
def Complete (R C : Fin 473088 → Fin 22528) : Prop :=
  ∀ (g : Fin 22528 → Fin 22528 → EReal) (b : Fin 1024) (i : Fin 22),
    ∑ e, (if R e = pn b i then g (R e) (C e) else 0) = ∑ j, if j = i then 0 else g (pn b i) (pn b j)

variable (hS : Complete R C)

include hA hB hS in
/-- One layer's positions on a sample. -/
theorem rStep_x (w : RW Ideal) (q : FVec Ideal S473088x1 .f32) (x0 : FVec Ideal S22528x3 .f32) (s : RSt Ideal)
    (hq : q = rRad (rDiff A B x0)) (b : Fin 1024) :
    xOf (rStep w A B q s).x b = stepX (wts w) (xOf x0 b) (xOf s.x b) (hOf s.h b) := by
  funext i d
  show rX w A s.x (rDiff A B s.x) (rMsg w A B q s.x s.h) (ix2 (pn b i) d) = _
  rw [rX_apply A R hA]
  simp only [rDiff_apply A B R C hA hB, rMsg_apply A B R C hA hB w q s.x x0 s.h hq]
  have := hS (fun r c => (s.x (ix2 r d) - s.x (ix2 c d)) * coef (wts w) (fun a => msg (wts w) (fun a => s.h (ix2 r a)) (fun a => s.h (ix2 c a))
      (dist2 (fun c' => s.x (ix2 r c')) (fun c' => s.x (ix2 c c')))
      (dist2 (fun c' => x0 (ix2 r c')) (fun c' => x0 (ix2 c c'))) a)) b i
  exact congrArg₂ (· + ·) rfl this

include hA hB hS in
/-- One layer's features on a sample. -/
theorem rStep_h (w : RW Ideal) (q : FVec Ideal S473088x1 .f32) (x0 : FVec Ideal S22528x3 .f32) (s : RSt Ideal)
    (hq : q = rRad (rDiff A B x0)) (b : Fin 1024) :
    hOf (rStep w A B q s).h b = stepH (wts w) (xOf x0 b) (xOf s.x b) (hOf s.h b) := by
  funext i k
  show rH w A s.h (rMsg w A B q s.x s.h) (ix2 (pn b i) k) = _
  rw [rH_apply A R hA]
  simp only [rMsg_apply A B R C hA hB w q s.x x0 s.h hq]
  have : ∀ a, _ := fun a => hS (fun r c => msg (wts w) (fun a => s.h (ix2 r a)) (fun a => s.h (ix2 c a))
      (dist2 (fun c' => s.x (ix2 r c')) (fun c' => s.x (ix2 c c')))
      (dist2 (fun c' => x0 (ix2 r c')) (fun c' => x0 (ix2 c c'))) a) b i
  simp only [this]
  rfl

end Edges

/-- The result of a sample. -/
theorem rOut_apply (x x0 : FVec Ideal S22528x3 .f32) (b : Fin 1024) (i : Fin 22) (d : Fin 3) :
    rOut x x0 (ix2 b ⟨3 * i.val + d.val, by omega⟩) = out (xOf x0 b) (xOf x b) i d := by
  unfold rOut
  pointwise
  rw [bits_22, Ideal.div_coe (by norm_num)]
  rfl

end Cert.ReferenceIdeal.RL

end
-- ==== Proof.Graph.lean ====
/-
  The edge list of the complete graph: what the precondition says of the two lists of row numbers, and the sum over the
  edges a particle receives as a sum over the other particles of its sample.
-/
module

public import proofs.«01_k».proof.Proof.RLayer
public import proofs.«01_k».proof.Proof.Gen.Pre_complete_graph
public import Idealize.ShloMosaic.Lib.ReduceAll

@[expose] public section

noncomputable section

namespace Cert.ReferenceIdeal.RL

open Idealize.ShloMosaic Egnn

/-- The receiver in a sample of its edge number `p`. -/
def pr (p : Fin 462) : ℕ := (Cert.Pre_complete_graph.lit0 p).toNat
/-- The sender in a sample of its edge number `p`. -/
def pc (p : Fin 462) : ℕ := (Cert.Pre_complete_graph.lit1 p).toNat

/-- The number of the edge to `i` from `j`. -/
def pos (i j : ℕ) : ℕ :=
  if i < j then 2 * (i * 21 - i * (i - 1) / 2 + (j - i - 1)) else 2 * (j * 21 - j * (j - 1) / 2 + (i - j - 1)) + 1

/-- The table's entries: two different particles of a sample, and the edge's number back from them. -/
theorem table (p : Fin 462) : pr p < 22 ∧ pc p < 22 ∧ pr p ≠ pc p ∧ pos (pr p) (pc p) = p.val := by
  revert p
  decide +kernel

/-- Every pair of different particles is in the table. -/
theorem table_inv (i j : Fin 22) (h : j ≠ i) : ∃ hp : pos i j < 462, pr ⟨pos i j, hp⟩ = i.val ∧ pc ⟨pos i j, hp⟩ = j.val := by
  revert i j
  decide +kernel

/-- The sum over the edges of a sample that `i` receives. -/
theorem sum_table (f : ℕ → EReal) (i : Fin 22) :
    ∑ p : Fin 462, (if pr p = i.val then f (pc p) else 0) = ∑ j : Fin 22, if j = i then 0 else f j.val := by
  have h0 : ∑ j : Fin 22, (if j = i then 0 else f j.val) = ∑ j : Fin 22, if j ≠ i then f j.val else 0 :=
    Finset.sum_congr rfl fun j _ => by by_cases h : j = i <;> simp [h]
  rw [h0, ← Finset.sum_filter, ← Finset.sum_filter]
  refine Finset.sum_bij' (fun p _ => (⟨pc p, (table p).2.1⟩ : Fin 22))
    (fun j hj => (⟨pos i j, (table_inv i j (Finset.mem_filter.mp hj).2).1⟩ : Fin 462)) ?_ ?_ ?_ ?_ ?_
  · intro p hp
    have hp' := (Finset.mem_filter.mp hp).2
    refine Finset.mem_filter.mpr ⟨Finset.mem_univ _, fun he => (table p).2.2.1 ?_⟩
    rw [hp', ← he]
  · intro j hj
    exact Finset.mem_filter.mpr ⟨Finset.mem_univ _, (table_inv i j (Finset.mem_filter.mp hj).2).2.1⟩
  · intro p hp
    have hp' := (Finset.mem_filter.mp hp).2
    refine Fin.ext ?_
    show pos i.val (pc p) = p.val
    rw [← hp']
    exact (table p).2.2.2
  · intro j hj
    exact Fin.ext (table_inv i j (Finset.mem_filter.mp hj).2).2.2
  · intro p hp
    rfl

/-- The edge number `p` of sample `b`. -/
def edge (b : Fin 1024) (p : Fin 462) : Fin 473088 := ⟨b.val * 462 + p.val, by omega⟩

/-- A sum over all edges, sample by sample. -/
theorem sum_edges (f : Fin 473088 → EReal) : ∑ e, f e = ∑ b : Fin 1024, ∑ p : Fin 462, f (edge b p) := by
  rw [← Fintype.sum_prod_type' (f := fun b p => f (edge b p))]
  refine (Fintype.sum_equiv (finProdFinEquiv (m := 1024) (n := 462)) _ _ fun q => ?_).symm
  congr 1
  refine Fin.ext ?_
  simp only [edge, finProdFinEquiv_apply_val]
  omega

/-- The receiver of an edge. -/
def eR (e : Fin 473088) : Fin 22528 :=
  ⟨e.val / 462 * 22 + pr ⟨e.val % 462, Nat.mod_lt _ (by omega)⟩, by
    have := (table ⟨e.val % 462, Nat.mod_lt _ (by omega)⟩).1
    have := e.isLt
    omega⟩
/-- The sender of an edge. -/
def eC (e : Fin 473088) : Fin 22528 :=
  ⟨e.val / 462 * 22 + pc ⟨e.val % 462, Nat.mod_lt _ (by omega)⟩, by
    have := (table ⟨e.val % 462, Nat.mod_lt _ (by omega)⟩).2.1
    have := e.isLt
    omega⟩

/-- An edge's receiver by its sample and number. -/
theorem eR_edge (b : Fin 1024) (p : Fin 462) : eR (edge b p) = pn b ⟨pr p, (table p).1⟩ := by
  have hm : (⟨(edge b p).val % 462, Nat.mod_lt _ (by omega)⟩ : Fin 462) = p := by
    refine Fin.ext ?_
    show (b.val * 462 + p.val) % 462 = p.val
    omega
  refine Fin.ext ?_
  show (b.val * 462 + p.val) / 462 * 22 + pr ⟨(edge b p).val % 462, _⟩ = b.val * 22 + pr p
  rw [hm]
  omega

/-- An edge's sender by its sample and number. -/
theorem eC_edge (b : Fin 1024) (p : Fin 462) : eC (edge b p) = pn b ⟨pc p, (table p).2.1⟩ := by
  have hm : (⟨(edge b p).val % 462, Nat.mod_lt _ (by omega)⟩ : Fin 462) = p := by
    refine Fin.ext ?_
    show (b.val * 462 + p.val) % 462 = p.val
    omega
  refine Fin.ext ?_
  show (b.val * 462 + p.val) / 462 * 22 + pc ⟨(edge b p).val % 462, _⟩ = b.val * 22 + pc p
  rw [hm]
  omega

/-- Different samples' particles have different rows, and so have a sample's particles. -/
theorem pn_inj (b b' : Fin 1024) (i i' : Fin 22) : pn b' i' = pn b i ↔ b' = b ∧ i' = i := by
  constructor
  · intro h
    have h' : b'.val * 22 + i'.val = b.val * 22 + i.val := congrArg Fin.val h
    exact ⟨Fin.ext (by omega), Fin.ext (by omega)⟩
  · rintro ⟨rfl, rfl⟩
    rfl

/-- The edges are the complete graph's. -/
theorem complete : Complete eR eC := by
  intro g b i
  rw [sum_edges, Finset.sum_eq_single b]
  · have h : ∀ p : Fin 462, (if eR (edge b p) = pn b i then g (eR (edge b p)) (eC (edge b p)) else 0)
        = if pr p = i.val then (fun n => if hn : n < 22 then g (pn b i) (pn b ⟨n, hn⟩) else 0) (pc p) else 0 := by
      intro p
      rw [eR_edge, eC_edge]
      by_cases hp : pr p = i.val
      · have hi : (⟨pr p, (table p).1⟩ : Fin 22) = i := Fin.ext hp
        rw [if_pos hp, hi, if_pos rfl]
        show _ = dite _ _ _
        rw [dif_pos (table p).2.1]
      · rw [if_neg hp, if_neg]
        intro h
        exact hp (congrArg Fin.val ((pn_inj _ _ _ _).mp h).2)
    simp only [h]
    have ht := sum_table (fun n => if hn : n < 22 then g (pn b i) (pn b ⟨n, hn⟩) else 0) i
    refine Eq.trans ht ?_
    refine Finset.sum_congr rfl fun j _ => ?_
    by_cases hj : j = i
    · rw [if_pos hj, if_pos hj]
    · rw [if_neg hj, if_neg hj]
      show dite _ _ _ = _
      rw [dif_pos j.isLt]
  · intro b' _ hb
    refine Finset.sum_eq_zero fun p _ => ?_
    rw [eR_edge, if_neg]
    intro h
    exact hb ((pn_inj _ _ _ _).mp h).1
  · intro h
    exact absurd (Finset.mem_univ _) h

/-- A row number of the table as a word. -/
theorem word_eq (l : BitVec 32) (q : ℕ) (hq : q < 1024) (hl : l.toNat < 22) :
    l + 22#32 * BitVec.ofNat 32 q = BitVec.ofNat 32 (q * 22 + l.toNat) := by
  refine BitVec.eq_of_toNat_eq ?_
  simp only [BitVec.toNat_add, BitVec.toNat_mul, BitVec.toNat_ofNat]
  omega

/-- A comparison that is one is an equality. -/
theorem cmpi_one (x y : BitVec 32) : IntOp.cmpi .eq x y = 1#1 ↔ x = y := by
  show BitVec.ofBool (x == y) = 1#1 ↔ x = y
  by_cases h : x = y
  · simp [h]
  · rw [beq_eq_false_iff_ne.mpr h]
    simp [h]

/-- The place of an entry of a vector in its list. -/
theorem row1 (k : Fin 462) : (Cert.Pre_complete_graph.S462.rowMajor (ix1 k)).val = k.val :=
  (rowMajor_val1 (d := ![462]) (ix1 k)).trans rfl

/-- What the precondition says of the two lists. -/
theorem pre_rows (a0 a1 a2 a3 a4 a5 a6 a7 a8 a9 a10 a11 a12 a13 a14 a15 a16 a17) (A B : IVec Cert.Pre_complete_graph.S473088 32)
    (h : Cert.Pre_complete_graph.fn (F := Ideal) a0 a1 a2 a3 a4 a5 a6 a7 a8 a9 a10 a11 a12 a13 a14 a15 a16 a17 A B = fun _ => 1#1) (e : Fin 473088) :
    A (ix1 e) = BitVec.ofNat 32 (eR e).val ∧ B (ix1 e) = BitVec.ofNat 32 (eC e).val := by
  have h1 := congrFun h (fun a => a.elim0)
  unfold Cert.Pre_complete_graph.fn at h1
  dsimp only at h1
  have : Subsingleton (Cert.Pre_complete_graph.S_).Idx := ⟨fun a b => funext fun i => i.elim0⟩
  have h2 := Host.reduce_andi_all _ _ _ _ _ h1 (ix1 e)
  generalize hl0 : Cert.Pre_complete_graph.lit0 = l0 at h2
  generalize hl1 : Cert.Pre_complete_graph.lit1 = l1 at h2
  pointwise at h2
  obtain ⟨h3, h4⟩ := IntOp.andi_eq_one.1 h2
  rw [cmpi_one] at h3 h4
  have hr : Cert.Pre_complete_graph.S462.rowMajor (ix1 ⟨e.val % 462, Nat.mod_lt _ (by omega)⟩) = (⟨e.val % 462, Nat.mod_lt _ (by omega)⟩ : Fin 462) := by
    refine Fin.ext ?_
    exact row1 ⟨e.val % 462, Nat.mod_lt _ (by omega)⟩
  rw [hr] at h3 h4
  have hlt : e.val / 462 < 1024 := by have := e.isLt; omega
  refine ⟨h3.trans ?_, h4.trans ?_⟩
  · rw [← hl0]
    exact word_eq _ _ hlt (table _).1
  · rw [← hl1]
    exact word_eq _ _ hlt (table _).2.1

end Cert.ReferenceIdeal.RL

end
-- ==== Proof.RValue.lean ====
/-
  The reference program's result, sample by sample: the function of `Common.lean`.
-/
module

public import proofs.«01_k».proof.Proof.Common
public import proofs.«01_k».proof.Proof.Graph

@[expose] public section

noncomputable section

namespace Cert.ReferenceIdeal.RL

open Cert.ReferenceIdeal Cert.ReferenceIdeal.Gen Cert.ReferenceIdeal.RF Cert.ReferenceIdeal.Value Idealize.ShloMosaic Idealize.ShloMosaic.TcCoe
  Idealize.ShloMosaic.StableHlo Egnn

variable (V0 : Valuation τ sig (Elt Ideal))

/-- The reference's arguments. -/
def args : In where
  t := V0 (Proc.devRef .tc main_arg0)
  x := V0 (Proc.devRef .tc main_arg1)
  hi := V0 (Proc.devRef .tc main_arg2)
  ew := V0 (Proc.devRef .tc main_arg3)
  eb := V0 (Proc.devRef .tc main_arg4)
  w1 := V0 (Proc.devRef .tc main_arg5)
  b1 := V0 (Proc.devRef .tc main_arg6)
  w2 := V0 (Proc.devRef .tc main_arg7)
  b2 := V0 (Proc.devRef .tc main_arg8)
  aw := V0 (Proc.devRef .tc main_arg9)
  ab := V0 (Proc.devRef .tc main_arg10)
  n1 := V0 (Proc.devRef .tc main_arg11)
  nb1 := V0 (Proc.devRef .tc main_arg12)
  n2 := V0 (Proc.devRef .tc main_arg13)
  nb2 := V0 (Proc.devRef .tc main_arg14)
  c1 := V0 (Proc.devRef .tc main_arg15)
  cb1 := V0 (Proc.devRef .tc main_arg16)
  c2 := V0 (Proc.devRef .tc main_arg17)

/-- A layer is a slice of its array. -/
theorem cut_5x130x64 : ∀ l : Fin 5, S5x130x64.Slices ![l.val, 0, 0] S1x130x64 := by decide +kernel

/-- A layer is a slice of its array. -/
theorem cut_5x64 : ∀ l : Fin 5, S5x64.Slices ![l.val, 0] S1x64 := by decide +kernel

/-- A layer is a slice of its array. -/
theorem cut_5x64x64 : ∀ l : Fin 5, S5x64x64.Slices ![l.val, 0, 0] S1x64x64 := by decide +kernel

/-- A layer is a slice of its array. -/
theorem cut_5x64x1 : ∀ l : Fin 5, S5x64x1.Slices ![l.val, 0, 0] S1x64x1 := by decide +kernel

/-- A layer is a slice of its array. -/
theorem cut_5x1 : ∀ l : Fin 5, S5x1.Slices ![l.val, 0] S1x1 := by decide +kernel

/-- A layer is a slice of its array. -/
theorem cut_5x128x64 : ∀ l : Fin 5, S5x128x64.Slices ![l.val, 0, 0] S1x128x64 := by decide +kernel

/-- Layer `l`'s weights. -/
def rwAt (l : Fin 5) : RW Ideal where
  w1 := shapeCast _ (extractStridedSlice S1x130x64 ![l.val, 0, 0] (V0 (Proc.devRef .tc main_arg5)) (cut_5x130x64 l)) shapeCasts_S1x130x64_S130x64
  b1 := shapeCast _ (extractStridedSlice S1x64 ![l.val, 0] (V0 (Proc.devRef .tc main_arg6)) (cut_5x64 l)) shapeCasts_S1x64_S64
  w2 := shapeCast _ (extractStridedSlice S1x64x64 ![l.val, 0, 0] (V0 (Proc.devRef .tc main_arg7)) (cut_5x64x64 l)) shapeCasts_S1x64x64_S64x64
  b2 := shapeCast _ (extractStridedSlice S1x64 ![l.val, 0] (V0 (Proc.devRef .tc main_arg8)) (cut_5x64 l)) shapeCasts_S1x64_S64
  aw := shapeCast _ (extractStridedSlice S1x64x1 ![l.val, 0, 0] (V0 (Proc.devRef .tc main_arg9)) (cut_5x64x1 l)) shapeCasts_S1x64x1_S64x1
  ab := shapeCast _ (extractStridedSlice S1x1 ![l.val, 0] (V0 (Proc.devRef .tc main_arg10)) (cut_5x1 l)) shapeCasts_S1x1_S1
  n1 := shapeCast _ (extractStridedSlice S1x128x64 ![l.val, 0, 0] (V0 (Proc.devRef .tc main_arg11)) (cut_5x128x64 l)) shapeCasts_S1x128x64_S128x64
  nb1 := shapeCast _ (extractStridedSlice S1x64 ![l.val, 0] (V0 (Proc.devRef .tc main_arg12)) (cut_5x64 l)) shapeCasts_S1x64_S64
  n2 := shapeCast _ (extractStridedSlice S1x64x64 ![l.val, 0, 0] (V0 (Proc.devRef .tc main_arg13)) (cut_5x64x64 l)) shapeCasts_S1x64x64_S64x64
  nb2 := shapeCast _ (extractStridedSlice S1x64 ![l.val, 0] (V0 (Proc.devRef .tc main_arg14)) (cut_5x64 l)) shapeCasts_S1x64_S64
  c1 := shapeCast _ (extractStridedSlice S1x64x64 ![l.val, 0, 0] (V0 (Proc.devRef .tc main_arg15)) (cut_5x64x64 l)) shapeCasts_S1x64x64_S64x64
  cb1 := shapeCast _ (extractStridedSlice S1x64 ![l.val, 0] (V0 (Proc.devRef .tc main_arg16)) (cut_5x64 l)) shapeCasts_S1x64_S64
  c2 := shapeCast _ (extractStridedSlice S1x64x1 ![l.val, 0, 0] (V0 (Proc.devRef .tc main_arg17)) (cut_5x64x1 l)) shapeCasts_S1x64x1_S64x1

/-- A layer's weights are the arguments'. -/
theorem wtsAt (l : Fin 5) : wts (rwAt V0 l) = (args V0).wl l := by
  unfold wts rwAt In.wl args
  simp only [Wts.mk.injEq]
  refine ⟨?_, ?_, ?_, ?_, ?_, ?_, ?_, ?_, ?_, ?_, ?_, ?_, ?_⟩
  · funext a k; pointwise
  · funext k; pointwise
  · funext a k; pointwise
  · funext k; pointwise
  · funext a; pointwise
  · pointwise
  · funext a k; pointwise
  · funext k; pointwise
  · funext a k; pointwise
  · funext k; pointwise
  · funext a k; pointwise
  · funext k; pointwise
  · funext a; pointwise

/-- Layer 0's weights are the arguments'. -/
theorem wts0 : wts (rw0 V0) = (args V0).wl 0 := wtsAt V0 0

/-- Layer 1's weights are the arguments'. -/
theorem wts1 : wts (rw1 V0) = (args V0).wl 1 := wtsAt V0 1

/-- Layer 2's weights are the arguments'. -/
theorem wts2 : wts (rw2 V0) = (args V0).wl 2 := wtsAt V0 2

/-- Layer 3's weights are the arguments'. -/
theorem wts3 : wts (rw3 V0) = (args V0).wl 3 := wtsAt V0 3

/-- Layer 4's weights are the arguments'. -/
theorem wts4 : wts (rw4 V0) = (args V0).wl 4 := wtsAt V0 4

/-- The starting positions. -/
theorem x0_eq (b : Fin 1024) : xOf (rs0 V0).x b = (args V0).x0 b := by
  funext i d
  show res_main_v0 V0 (ix2 (pn b i) d) = V0 (Proc.devRef .tc main_arg1) (ix2 b ⟨i.val * 3 + d.val, _⟩)
  unfold res_main_v0
  generalize V0 (Proc.devRef .tc main_arg1) = x
  unfold pn
  pointwise
  have h : (b.val * 22 + i.val) % 22 = i.val := by omega
  simp only [h]

/-- The starting features. -/
theorem h0_eq (b : Fin 1024) : hOf (rs0 V0).h b = (args V0).h0 b := by
  funext i k
  show res_main_v29 V0 (ix2 (pn b i) k) = _
  unfold res_main_v29
  unfold pn
  pointwise [dot_S22528x22_S22x64_S22528x64_1_0_0_1_n_n]
  rw [Fin.sum_univ_one]
  rfl

/-- One layer takes a sample's state after `n` layers to the one after `n + 1`. -/
theorem step_run (hA : ∀ e, vA V0 (ix1 e) = BitVec.ofNat 32 (eR e).val) (hB : ∀ e, vB V0 (ix1 e) = BitVec.ofNat 32 (eC e).val)
    (b : Fin 1024) (w : RW Ideal) (s : RSt Ideal) (n : ℕ) (hw : wts w = (args V0).wn n)
    (hx : xOf s.x b = (run (args V0).wn ((args V0).x0 b) ((args V0).h0 b) n).1)
    (hh : hOf s.h b = (run (args V0).wn ((args V0).x0 b) ((args V0).h0 b) n).2) :
    xOf (rStep w (vA V0) (vB V0) (rEa V0) s).x b = (run (args V0).wn ((args V0).x0 b) ((args V0).h0 b) (n + 1)).1
    ∧ hOf (rStep w (vA V0) (vB V0) (rEa V0) s).h b = (run (args V0).wn ((args V0).x0 b) ((args V0).h0 b) (n + 1)).2 := by
  have h1 := rStep_x (vA V0) (vB V0) eR eC hA hB complete w (rEa V0) (rs0 V0).x s (rEa_eq V0) b
  have h2 := rStep_h (vA V0) (vB V0) eR eC hA hB complete w (rEa V0) (rs0 V0).x s (rEa_eq V0) b
  rw [hw, hx, hh, x0_eq] at h1 h2
  exact ⟨h1, h2⟩

/-- The result of the reference at a sample, when the edges are the complete graph's. -/
theorem result_apply (hA : ∀ e, vA V0 (ix1 e) = BitVec.ofNat 32 (eR e).val) (hB : ∀ e, vB V0 (ix1 e) = BitVec.ofNat 32 (eC e).val)
    (b : Fin 1024) (i : Fin 22) (d : Fin 3) :
    rOut (rStep (rw4 V0) (vA V0) (vB V0) (rEa V0) (rs4 V0)).x (rs0 V0).x (ix2 b ⟨3 * i.val + d.val, by omega⟩)
      = (args V0).res b i d := by
  rw [rOut_apply, x0_eq]
  have s1 := step_run V0 hA hB b (rw0 V0) (rs0 V0) 0 (wts0 V0) (x0_eq V0 b) (h0_eq V0 b)
  rw [← rs1_eq] at s1
  have s2 := step_run V0 hA hB b (rw1 V0) (rs1 V0) 1 (wts1 V0) s1.1 s1.2
  rw [← rs2_eq] at s2
  have s3 := step_run V0 hA hB b (rw2 V0) (rs2 V0) 2 (wts2 V0) s2.1 s2.2
  rw [← rs3_eq] at s3
  have s4 := step_run V0 hA hB b (rw3 V0) (rs3 V0) 3 (wts3 V0) s3.1 s3.2
  rw [← rs4_eq] at s4
  have s5 := step_run V0 hA hB b (rw4 V0) (rs4 V0) 4 (wts4 V0) s4.1 s4.2
  rw [s5.1]
  rfl

end Cert.ReferenceIdeal.RL

end
-- ==== Proof.Alg.lean ====
/-
  The two programs' results agree: both are the function of `Common.lean` of the same arguments.
-/
module

public import proofs.«01_k».proof.Defs
public import proofs.«01_k».proof.Proof.KValue
public import proofs.«01_k».proof.Proof.RValue

@[expose] public section

noncomputable section

namespace Cert.Agree

open Idealize.ShloMosaic Idealize.ShloMosaic.StableHlo Egnn

/-- Two arrays of samples' coordinates that agree at every particle and coordinate are equal. -/
theorem ext66 (y z : FVec Ideal ⟨2, ![1024, 66]⟩ .f32)
    (h : ∀ (b : Fin 1024) (i : Fin 22) (d : Fin 3), y (ix2 b ⟨3 * i.val + d.val, by omega⟩) = z (ix2 b ⟨3 * i.val + d.val, by omega⟩)) :
    y = z := by
  funext j
  have h1 : (j 1).val < 66 := (j 1).isLt
  have e : j = ix2 (j 0) ⟨3 * ((j 1).val / 3) + (j 1).val % 3, by omega⟩ := by
    funext a
    match a with
    | ⟨0, _⟩ => rfl
    | ⟨1, _⟩ => exact Fin.ext (by show (j 1).val = 3 * ((j 1).val / 3) + (j 1).val % 3; omega)
  rw [e]
  exact h (j 0) ⟨(j 1).val / 3, by omega⟩ ⟨(j 1).val % 3, Nat.mod_lt _ (by omega)⟩

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs start from the same arguments on a device. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)

/-- The arguments read by the two programs are the same. -/
theorem args_eq (h : Same m m' c) : Cert.KernelIdeal.KV.args m c = Cert.ReferenceIdeal.RL.args (launchContents m' c) := by
  obtain ⟨h0, h1, h2, h3, h4, h5, h6, h7, h8, h9, h10, h11, h12, h13, h14, h15, h16, h17, -, -⟩ := h
  unfold Cert.KernelIdeal.KV.args Cert.ReferenceIdeal.RL.args
  rw [In.mk.injEq]
  exact ⟨h0.symm, h1.symm, h2.symm, h3.symm, h4.symm, h5.symm, h6.symm, h7.symm, h8.symm, h9.symm, h10.symm, h11.symm, h12.symm, h13.symm,
    h14.symm, h15.symm, h16.symm, h17.symm⟩

/-- The two results are equal when the edges are the complete graph's. -/
theorem result_agree (hp : Cert.Pre_KernelIdeal_complete_graph (hPre_complete_graph := Cert.Pre_complete_graph.Gen.facts) m) (h : Same m m' c) :
    (Cert.ReferenceIdeal.RF.rOut (Cert.ReferenceIdeal.RF.rStep (Cert.ReferenceIdeal.RF.rw4 (launchContents m' c))
        (Cert.ReferenceIdeal.RF.vA (launchContents m' c)) (Cert.ReferenceIdeal.RF.vB (launchContents m' c))
        (Cert.ReferenceIdeal.RF.rEa (launchContents m' c)) (Cert.ReferenceIdeal.RF.rs4 (launchContents m' c))).x
        (Cert.ReferenceIdeal.RF.rs0 (launchContents m' c)).x : FVec Ideal ⟨2, ![1024, 66]⟩ .f32)
      = Cert.KernelIdeal.KV.trim (Cert.KernelIdeal.KV.G m c) := by
  have hr := fun e => Cert.ReferenceIdeal.RL.pre_rows _ _ _ _ _ _ _ _ _ _ _ _ _ _ _ _ _ _ _ _ (hp c) e
  refine ext66 _ _ fun b i d => ?_
  rw [Cert.KernelIdeal.KV.result_apply m c b i d, args_eq m m' c h]
  refine Cert.ReferenceIdeal.RL.result_apply (launchContents m' c) (fun e => ?_) (fun e => ?_) b i d
  · refine Eq.trans ?_ (hr e).1
    exact congrFun h.2.2.2.2.2.2.2.2.2.2.2.2.2.2.2.2.2.2.1 (ix1 e)
  · refine Eq.trans ?_ (hr e).2
    exact congrFun h.2.2.2.2.2.2.2.2.2.2.2.2.2.2.2.2.2.2.2 (ix1 e)

end Cert.Agree

end
-- ==== Proof.lean ====
/-
  The proof of `Cert.Claim`.

  The three frames are the programs' runs. The named constant's claim is the rule's own statement. The last claim reads both
  programs' results as one function of the arguments (`Proof/Common.lean`): the kernel's in `Proof/KValue.lean`, the
  reference's in `Proof/RValue.lean`, and the two are put together in `Proof/Alg.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_complete_graph
public import proofs.«01_k».proof.Proof.Gen.ReferenceIdeal.Run
public import proofs.«01_k».proof.Proof.Alg
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's run ends with its arguments and the counters as they were. -/
theorem frame_k : Cert.quiescent_Kernel (hKernel := Cert.Kernel.Gen.facts) := fun m ρ _ => Cert.Kernel.Gen.frame m ρ

/-- The same of the kernel at the ideal instance. -/
theorem frame_ki : Cert.quiescent_KernelIdeal (hKernelIdeal := Cert.KernelIdeal.Gen.facts) :=
  fun m ρ _ => Cert.KernelIdeal.Gen.frame m ρ

/-- The same under the precondition. -/
theorem frame_kip : Cert.quiescent_KernelIdeal_pre_complete_graph (hKernelIdeal := Cert.KernelIdeal.Gen.facts)
    (hPre_complete_graph := Cert.Pre_complete_graph.Gen.facts) :=
  fun m ρ _ => Cert.KernelIdeal.Gen.frame m ρ

/-- The reference's run ends with its arguments as they were; it has no counters. -/
theorem frame_r : Cert.quiescent_ReferenceIdeal (hReferenceIdeal := Cert.ReferenceIdeal.Gen.facts) := fun m ρ _ =>
  (θ_run _ _ _).mono (fun _ h => ⟨fun c => (h c).2, sem_eq_zero_of_no_sems (by decide) _⟩) (Cert.ReferenceIdeal.Value.run m ρ)

/-- The same under the precondition. -/
theorem frame_rp : Cert.quiescent_ReferenceIdeal_pre_complete_graph (hReferenceIdeal := Cert.ReferenceIdeal.Gen.facts)
    (hPre_complete_graph := Cert.Pre_complete_graph.Gen.facts) := fun m ρ _ =>
  frame_r m ρ trivial

/-- The named constant is the mean's factor. -/
theorem named : Cert.preserves_Kernel_KernelIdeal :=
  IdealRules.named_const.statement Cert.KernelIdeal.κ "inv22" .f32 0x3D3A2E8C#32 _ rfl

/-- The two programs compute the same function of their arguments when the edges are the complete graph's. -/
theorem agree : Cert.algebraic_KernelIdeal_ReferenceIdeal_pre_complete_graph (hKernelIdeal := Cert.KernelIdeal.Gen.facts)
    (hReferenceIdeal := Cert.ReferenceIdeal.Gen.facts) (hPre_complete_graph := Cert.Pre_complete_graph.Gen.facts) :=
  fun m g m' g' hp hs => ⟨fun c => Cert.KernelIdeal.KV.trim (Cert.KernelIdeal.KV.G m c),
    (θ_run _ _ _).mono (fun _ h c => ⟨h.1 c, h.2 c⟩)
      (θ_run_and (Cert.KernelIdeal.KV.run_result m g) (Cert.KernelIdeal.Gen.unchanged m g)),
    (θ_run _ _ _).mono (fun _ h c => ⟨(h.1 c).trans (Cert.Agree.result_agree m m' c hp (hs c)), (h.2 c).2⟩)
      (θ_run_and (Cert.ReferenceIdeal.RF.run_result m' g') (Cert.ReferenceIdeal.Value.run m' g'))⟩

/-- Everything claimed. -/
theorem claim : Cert.Claim :=
  ⟨Cert.Kernel.Gen.facts, Cert.KernelIdeal.Gen.facts, Cert.ReferenceIdeal.Gen.facts, Cert.Pre_complete_graph.Gen.facts,
    frame_k, frame_ki, frame_kip, frame_r, frame_rp, named, agree⟩

end Cert.Proof

end
